-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x256x11520 : Shape := ⟨3, ![1, 256, 11520]⟩
abbrev S2880x11520 : Shape := ⟨2, ![2880, 11520]⟩
abbrev S1x256x2880 : Shape := ⟨3, ![1, 256, 2880]⟩
abbrev S2880 : Shape := ⟨1, ![2880]⟩
abbrev S_ : Shape := ⟨0, ![]⟩

class Facts : Prop where
  bitsLt_bf16_f32 : FTy.bits .bf16 < FTy.bits .f32
  bcast_S_S1x256x11520 : S_.BroadcastsInDim S1x256x11520 (![] : Fin 0 → Fin S1x256x11520.rank)
  reducesTo_S1x256x11520_S_d0_1_2 : S1x256x11520.ReducesTo [0, 1, 2] S_
  h_S_ : 0 < S_.numel
  bcast_S_S2880x11520 : S_.BroadcastsInDim S2880x11520 (![] : Fin 0 → Fin S2880x11520.rank)
  reducesTo_S2880x11520_S_d0_1 : S2880x11520.ReducesTo [0, 1] S_

variable [Facts]

def fn {F : FTy → Type} [FloatOps F] (main_arg0 : FVec F S1x256x11520 .bf16) (main_arg1 : FVec F S2880x11520 .bf16) (main_arg2 : FVec F S1x256x2880 .bf16) (main_arg3 : FVec F S2880 .f32) : IVec S_ 1 :=
  let main_v0 : FVec F S1x256x11520 .f32 := (extf .f32 · bitsLt_bf16_f32) main_arg0
  let main_v1 : FVec F S1x256x11520 .f32 := Host.absf main_v0
  let main_cst : FVec F S_ .f32 := constant S_ .f32 0x7F7F0000#32
  let main_v2 : FVec F S1x256x11520 .f32 := broadcastInDim S1x256x11520 ![] bcast_S_S1x256x11520 main_cst
  let main_v3 : IVec S1x256x11520 1 := cmpf .ole main_v1 main_v2
  let main_c : IVec S_ 1 := constantI S_ 1 1#1
  let main_v4 : IVec S_ 1 := (fun x v => Host.reduce IntOp.andi x v reducesTo_S1x256x11520_S_d0_1_2 h_S_) main_v3 main_c
  let main_v5 : FVec F S2880x11520 .f32 := (extf .f32 · bitsLt_bf16_f32) main_arg1
  let main_v6 : FVec F S2880x11520 .f32 := Host.absf main_v5
  let main_cst_0 : FVec F S_ .f32 := constant S_ .f32 0x7F7F0000#32
  let main_v7 : FVec F S2880x11520 .f32 := broadcastInDim S2880x11520 ![] bcast_S_S2880x11520 main_cst_0
  let main_v8 : IVec S2880x11520 1 := cmpf .ole main_v6 main_v7
  let main_c_1 : IVec S_ 1 := constantI S_ 1 1#1
  let main_v9 : IVec S_ 1 := (fun x v => Host.reduce IntOp.andi x v reducesTo_S2880x11520_S_d0_1 h_S_) main_v8 main_c_1
  let main_v10 : IVec S_ 1 := andi main_v4 main_v9
  main_v10
-- ==== Kernel.lean ====
abbrev S1x256x11520 : Shape := ⟨3, ![1, 256, 11520]⟩
abbrev S2880x11520 : Shape := ⟨2, ![2880, 11520]⟩
abbrev S1x256x2880 : Shape := ⟨3, ![1, 256, 2880]⟩
abbrev S2880 : Shape := ⟨1, ![2880]⟩
abbrev S256x11520 : Shape := ⟨2, ![256, 11520]⟩
abbrev S256x2880 : Shape := ⟨2, ![256, 2880]⟩
abbrev S1x2880 : Shape := ⟨2, ![1, 2880]⟩
abbrev S256x360 : Shape := ⟨2, ![256, 360]⟩
abbrev S2880x360 : Shape := ⟨2, ![2880, 360]⟩
abbrev S256x3072 : Shape := ⟨2, ![256, 3072]⟩
abbrev S16x128 : Shape := ⟨2, ![16, 128]⟩
abbrev S16x128x1 : Shape := ⟨3, ![16, 128, 1]⟩
abbrev S32x128 : Shape := ⟨2, ![32, 128]⟩
abbrev S16x104 : Shape := ⟨2, ![16, 104]⟩
abbrev S256x256 : Shape := ⟨2, ![256, 256]⟩
abbrev S16x2880 : Shape := ⟨2, ![16, 2880]⟩
abbrev S16 : Shape := ⟨1, ![16]⟩
abbrev S16x1 : Shape := ⟨2, ![16, 1]⟩

abbrev nBuf : Space → Nat
  | .hbm => 13
  | .vmem => 16
  | .smem => 0
  | _ => 0

abbrev bufTy : (tb : Table) → Fin (tcTables nBuf tb) → BufTy
  | .hbm, ⟨0, _⟩ => ⟨S1x256x11520, .bf16⟩
  | .hbm, ⟨1, _⟩ => ⟨S2880x11520, .bf16⟩
  | .hbm, ⟨2, _⟩ => ⟨S1x256x2880, .bf16⟩
  | .hbm, ⟨3, _⟩ => ⟨S2880, .f32⟩
  | .hbm, ⟨4, _⟩ => ⟨S256x11520, .bf16⟩
  | .hbm, ⟨5, _⟩ => ⟨S256x2880, .bf16⟩
  | .hbm, ⟨6, _⟩ => ⟨S1x2880, .f32⟩
  | .hbm, ⟨7, _⟩ => ⟨S256x2880, .bf16⟩
  | .hbm, ⟨8, _⟩ => ⟨S256x2880, .bf16⟩
  | .hbm, ⟨9, _⟩ => ⟨S256x11520, .fp8e4m3⟩
  | .hbm, ⟨10, _⟩ => ⟨S256x360, .f32⟩
  | .hbm, ⟨11, _⟩ => ⟨S2880x11520, .fp8e4m3⟩
  | .hbm, ⟨12, _⟩ => ⟨S2880x360, .f32⟩
  | .local _ .vmem, ⟨0, _⟩ => ⟨S256x11520, .bf16⟩
  | .local _ .vmem, ⟨1, _⟩ => ⟨S256x11520, .bf16⟩
  | .local _ .vmem, ⟨2, _⟩ => ⟨S256x11520, .bf16⟩
  | .local _ .vmem, ⟨3, _⟩ => ⟨S256x2880, .bf16⟩
  | .local _ .vmem, ⟨4, _⟩ => ⟨S1x2880, .f32⟩
  | .local _ .vmem, ⟨5, _⟩ => ⟨S256x2880, .bf16⟩
  | .local _ .vmem, ⟨6, _⟩ => ⟨S256x2880, .bf16⟩
  | .local _ .vmem, ⟨7, _⟩ => ⟨S256x11520, .fp8e4m3⟩
  | .local _ .vmem, ⟨8, _⟩ => ⟨S256x360, .f32⟩
  | .local _ .vmem, ⟨9, _⟩ => ⟨S256x11520, .fp8e4m3⟩
  | .local _ .vmem, ⟨10, _⟩ => ⟨S256x11520, .fp8e4m3⟩
  | .local _ .vmem, ⟨11, _⟩ => ⟨S256x360, .f32⟩
  | .local _ .vmem, ⟨12, _⟩ => ⟨S256x360, .f32⟩
  | .local _ .vmem, ⟨13, _⟩ => ⟨S256x11520, .bf16⟩
  | .local _ .vmem, ⟨14, _⟩ => ⟨S256x11520, .bf16⟩
  | .local _ .vmem, ⟨15, _⟩ => ⟨S256x3072, .f32⟩
  | _, _ => ⟨S1x256x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c8_i32_9 : BitVec 32 := 8#32
  let v16 : BitVec 32 := Scalar.addi c0_i32_8 c8_i32_9
  let c1_i32_10 : BitVec 32 := 1#32
  ⟨c0_i32_8, v16, c1_i32_10⟩
def k0_mult1 (k0_t1 : Fin k0_t1_loop.trips) : BitVec 32 :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  v19
def k0_off1 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v23 : Index := Scalar.indexCast v22
  let c0_15 : Index := 0#32
  ![v23.toNat, 0]
def k0_off2 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v27 : Index := Scalar.indexCast v22
  let c128 : Index := 128#32
  ![v27.toNat, 128]
def k0_off3 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v50 : Index := Scalar.indexCast v22
  let c256 : Index := 256#32
  ![v50.toNat, 256]
def k0_off4 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v54 : Index := Scalar.indexCast v22
  let c384 : Index := 384#32
  ![v54.toNat, 384]
def k0_off5 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v96 : Index := Scalar.indexCast v22
  let c512 : Index := 512#32
  ![v96.toNat, 512]
def k0_off6 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v100 : Index := Scalar.indexCast v22
  let c640 : Index := 640#32
  ![v100.toNat, 640]
def k0_off7 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v123 : Index := Scalar.indexCast v22
  let c768 : Index := 768#32
  ![v123.toNat, 768]
def k0_off8 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v127 : Index := Scalar.indexCast v22
  let c896 : Index := 896#32
  ![v127.toNat, 896]
def k0_off9 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v188 : Index := Scalar.indexCast v22
  let c1024 : Index := 1024#32
  ![v188.toNat, 1024]
def k0_off10 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v192 : Index := Scalar.indexCast v22
  let c1152 : Index := 1152#32
  ![v192.toNat, 1152]
def k0_off11 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v215 : Index := Scalar.indexCast v22
  let c1280 : Index := 1280#32
  ![v215.toNat, 1280]
def k0_off12 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v219 : Index := Scalar.indexCast v22
  let c1408 : Index := 1408#32
  ![v219.toNat, 1408]
def k0_off13 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v261 : Index := Scalar.indexCast v22
  let c1536 : Index := 1536#32
  ![v261.toNat, 1536]
def k0_off14 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v265 : Index := Scalar.indexCast v22
  let c1664 : Index := 1664#32
  ![v265.toNat, 1664]
def k0_off15 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v288 : Index := Scalar.indexCast v22
  let c1792 : Index := 1792#32
  ![v288.toNat, 1792]
def k0_off16 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v292 : Index := Scalar.indexCast v22
  let c1920 : Index := 1920#32
  ![v292.toNat, 1920]
def k0_off17 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v372 : Index := Scalar.indexCast v22
  let c2048 : Index := 2048#32
  ![v372.toNat, 2048]
def k0_off18 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v376 : Index := Scalar.indexCast v22
  let c2176 : Index := 2176#32
  ![v376.toNat, 2176]
def k0_off19 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v399 : Index := Scalar.indexCast v22
  let c2304 : Index := 2304#32
  ![v399.toNat, 2304]
def k0_off20 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v403 : Index := Scalar.indexCast v22
  let c2432 : Index := 2432#32
  ![v403.toNat, 2432]
def k0_off21 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v445 : Index := Scalar.indexCast v22
  let c2560 : Index := 2560#32
  ![v445.toNat, 2560]
def k0_off22 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v449 : Index := Scalar.indexCast v22
  let c2688 : Index := 2688#32
  ![v449.toNat, 2688]
def k0_off23 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v472 : Index := Scalar.indexCast v22
  let c2816 : Index := 2816#32
  ![v472.toNat, 2816]
def k0_off24 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v476 : Index := Scalar.indexCast v22
  let c2944 : Index := 2944#32
  ![v476.toNat, 2944]
def k0_off25 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v537 : Index := Scalar.indexCast v22
  let c3072 : Index := 3072#32
  ![v537.toNat, 3072]
def k0_off26 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v541 : Index := Scalar.indexCast v22
  let c3200 : Index := 3200#32
  ![v541.toNat, 3200]
def k0_off27 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v564 : Index := Scalar.indexCast v22
  let c3328 : Index := 3328#32
  ![v564.toNat, 3328]
def k0_off28 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v568 : Index := Scalar.indexCast v22
  let c3456 : Index := 3456#32
  ![v568.toNat, 3456]
def k0_off29 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v610 : Index := Scalar.indexCast v22
  let c3584 : Index := 3584#32
  ![v610.toNat, 3584]
def k0_off30 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v614 : Index := Scalar.indexCast v22
  let c3712 : Index := 3712#32
  ![v614.toNat, 3712]
def k0_off31 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v637 : Index := Scalar.indexCast v22
  let c3840 : Index := 3840#32
  ![v637.toNat, 3840]
def k0_off32 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v641 : Index := Scalar.indexCast v22
  let c3968 : Index := 3968#32
  ![v641.toNat, 3968]
def k0_off33 (k0_t1 : Fin k0_t1_loop.trips) (c0_i32_14 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v22 : BitVec 32 := Scalar.addi v20 c0_i32_14
  let v833 : Index := Scalar.indexCast v22
  let c0_190 : Index := 0#32
  ![v833.toNat, 0]
def k0_off34 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v1700 : Index := Scalar.indexCast v20
  let c0_425 : Index := 0#32
  ![v1700.toNat, 0]
def k0_off35 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v1777 : Index := Scalar.indexCast v20
  let c128_448 : Index := 128#32
  ![v1777.toNat, 128]
def k0_off36 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v1854 : Index := Scalar.indexCast v20
  let c256_471 : Index := 256#32
  ![v1854.toNat, 256]
def k0_off37 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v1931 : Index := Scalar.indexCast v20
  let c384_494 : Index := 384#32
  ![v1931.toNat, 384]
def k0_off38 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v2008 : Index := Scalar.indexCast v20
  let c512_517 : Index := 512#32
  ![v2008.toNat, 512]
def k0_off39 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v2085 : Index := Scalar.indexCast v20
  let c640_539 : Index := 640#32
  ![v2085.toNat, 640]
def k0_off40 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v2162 : Index := Scalar.indexCast v20
  let c768_561 : Index := 768#32
  ![v2162.toNat, 768]
def k0_off41 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v2239 : Index := Scalar.indexCast v20
  let c896_583 : Index := 896#32
  ![v2239.toNat, 896]
def k0_off42 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v2316 : Index := Scalar.indexCast v20
  let c1024_606 : Index := 1024#32
  ![v2316.toNat, 1024]
def k0_off43 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v2393 : Index := Scalar.indexCast v20
  let c1152_628 : Index := 1152#32
  ![v2393.toNat, 1152]
def k0_off44 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v2470 : Index := Scalar.indexCast v20
  let c1280_650 : Index := 1280#32
  ![v2470.toNat, 1280]
def k0_off45 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v2547 : Index := Scalar.indexCast v20
  let c1408_673 : Index := 1408#32
  ![v2547.toNat, 1408]
def k0_off46 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v2624 : Index := Scalar.indexCast v20
  let c1536_695 : Index := 1536#32
  ![v2624.toNat, 1536]
def k0_off47 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v2701 : Index := Scalar.indexCast v20
  let c1664_717 : Index := 1664#32
  ![v2701.toNat, 1664]
def k0_off48 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v2778 : Index := Scalar.indexCast v20
  let c1792_739 : Index := 1792#32
  ![v2778.toNat, 1792]
def k0_off49 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v2855 : Index := Scalar.indexCast v20
  let c1920_761 : Index := 1920#32
  ![v2855.toNat, 1920]
def k0_off50 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v2932 : Index := Scalar.indexCast v20
  let c2048_784 : Index := 2048#32
  ![v2932.toNat, 2048]
def k0_off51 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v3009 : Index := Scalar.indexCast v20
  let c2176_806 : Index := 2176#32
  ![v3009.toNat, 2176]
def k0_off52 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v3086 : Index := Scalar.indexCast v20
  let c2304_828 : Index := 2304#32
  ![v3086.toNat, 2304]
def k0_off53 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v3163 : Index := Scalar.indexCast v20
  let c2432_850 : Index := 2432#32
  ![v3163.toNat, 2432]
def k0_off54 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v3240 : Index := Scalar.indexCast v20
  let c2560_872 : Index := 2560#32
  ![v3240.toNat, 2560]
def k0_off55 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v3317 : Index := Scalar.indexCast v20
  let c2688_894 : Index := 2688#32
  ![v3317.toNat, 2688]
def k0_off56 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v3394 : Index := Scalar.indexCast v20
  let c2816_916 : Index := 2816#32
  ![v3394.toNat, 2816]
def k0_off57 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v3471 : Index := Scalar.indexCast v20
  let c2944_939 : Index := 2944#32
  ![v3471.toNat, 2944]
def k0_off58 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v3548 : Index := Scalar.indexCast v20
  let c3072_961 : Index := 3072#32
  ![v3548.toNat, 3072]
def k0_off59 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v3625 : Index := Scalar.indexCast v20
  let c3200_983 : Index := 3200#32
  ![v3625.toNat, 3200]
def k0_off60 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v3702 : Index := Scalar.indexCast v20
  let c3328_1005 : Index := 3328#32
  ![v3702.toNat, 3328]
def k0_off61 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v3779 : Index := Scalar.indexCast v20
  let c3456_1027 : Index := 3456#32
  ![v3779.toNat, 3456]
def k0_off62 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v3856 : Index := Scalar.indexCast v20
  let c3584_1049 : Index := 3584#32
  ![v3856.toNat, 3584]
def k0_off63 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v3933 : Index := Scalar.indexCast v20
  let c3712_1071 : Index := 3712#32
  ![v3933.toNat, 3712]
def k0_off64 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4010 : Index := Scalar.indexCast v20
  let c3840_1093 : Index := 3840#32
  ![v4010.toNat, 3840]
def k0_off65 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4087 : Index := Scalar.indexCast v20
  let c3968_1115 : Index := 3968#32
  ![v4087.toNat, 3968]
def k0_off66 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4113 : Index := Scalar.indexCast v4112
  let c4096 : Index := 4096#32
  ![v4113.toNat, 4096]
def k0_off67 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4117 : Index := Scalar.indexCast v4112
  let c4224 : Index := 4224#32
  ![v4117.toNat, 4224]
def k0_off68 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4140 : Index := Scalar.indexCast v4112
  let c4352 : Index := 4352#32
  ![v4140.toNat, 4352]
def k0_off69 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4144 : Index := Scalar.indexCast v4112
  let c4480 : Index := 4480#32
  ![v4144.toNat, 4480]
def k0_off70 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4186 : Index := Scalar.indexCast v4112
  let c4608 : Index := 4608#32
  ![v4186.toNat, 4608]
def k0_off71 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4190 : Index := Scalar.indexCast v4112
  let c4736 : Index := 4736#32
  ![v4190.toNat, 4736]
def k0_off72 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4213 : Index := Scalar.indexCast v4112
  let c4864 : Index := 4864#32
  ![v4213.toNat, 4864]
def k0_off73 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4217 : Index := Scalar.indexCast v4112
  let c4992 : Index := 4992#32
  ![v4217.toNat, 4992]
def k0_off74 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4278 : Index := Scalar.indexCast v4112
  let c5120 : Index := 5120#32
  ![v4278.toNat, 5120]
def k0_off75 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4282 : Index := Scalar.indexCast v4112
  let c5248 : Index := 5248#32
  ![v4282.toNat, 5248]
def k0_off76 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4305 : Index := Scalar.indexCast v4112
  let c5376 : Index := 5376#32
  ![v4305.toNat, 5376]
def k0_off77 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4309 : Index := Scalar.indexCast v4112
  let c5504 : Index := 5504#32
  ![v4309.toNat, 5504]
def k0_off78 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4351 : Index := Scalar.indexCast v4112
  let c5632 : Index := 5632#32
  ![v4351.toNat, 5632]
def k0_off79 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4355 : Index := Scalar.indexCast v4112
  let c5760 : Index := 5760#32
  ![v4355.toNat, 5760]
def k0_off80 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4378 : Index := Scalar.indexCast v4112
  let c5888 : Index := 5888#32
  ![v4378.toNat, 5888]
def k0_off81 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4382 : Index := Scalar.indexCast v4112
  let c6016 : Index := 6016#32
  ![v4382.toNat, 6016]
def k0_off82 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4462 : Index := Scalar.indexCast v4112
  let c6144 : Index := 6144#32
  ![v4462.toNat, 6144]
def k0_off83 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4466 : Index := Scalar.indexCast v4112
  let c6272 : Index := 6272#32
  ![v4466.toNat, 6272]
def k0_off84 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4489 : Index := Scalar.indexCast v4112
  let c6400 : Index := 6400#32
  ![v4489.toNat, 6400]
def k0_off85 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4493 : Index := Scalar.indexCast v4112
  let c6528 : Index := 6528#32
  ![v4493.toNat, 6528]
def k0_off86 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4535 : Index := Scalar.indexCast v4112
  let c6656 : Index := 6656#32
  ![v4535.toNat, 6656]
def k0_off87 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4539 : Index := Scalar.indexCast v4112
  let c6784 : Index := 6784#32
  ![v4539.toNat, 6784]
def k0_off88 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4562 : Index := Scalar.indexCast v4112
  let c6912 : Index := 6912#32
  ![v4562.toNat, 6912]
def k0_off89 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4566 : Index := Scalar.indexCast v4112
  let c7040 : Index := 7040#32
  ![v4566.toNat, 7040]
def k0_off90 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4627 : Index := Scalar.indexCast v4112
  let c7168 : Index := 7168#32
  ![v4627.toNat, 7168]
def k0_off91 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4631 : Index := Scalar.indexCast v4112
  let c7296 : Index := 7296#32
  ![v4631.toNat, 7296]
def k0_off92 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4654 : Index := Scalar.indexCast v4112
  let c7424 : Index := 7424#32
  ![v4654.toNat, 7424]
def k0_off93 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4658 : Index := Scalar.indexCast v4112
  let c7552 : Index := 7552#32
  ![v4658.toNat, 7552]
def k0_off94 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4700 : Index := Scalar.indexCast v4112
  let c7680 : Index := 7680#32
  ![v4700.toNat, 7680]
def k0_off95 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4704 : Index := Scalar.indexCast v4112
  let c7808 : Index := 7808#32
  ![v4704.toNat, 7808]
def k0_off96 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4727 : Index := Scalar.indexCast v4112
  let c7936 : Index := 7936#32
  ![v4727.toNat, 7936]
def k0_off97 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4731 : Index := Scalar.indexCast v4112
  let c8064 : Index := 8064#32
  ![v4731.toNat, 8064]
def k0_off98 (k0_t1 : Fin k0_t1_loop.trips) (c0_i32_1122 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v4112 : BitVec 32 := Scalar.addi v20 c0_i32_1122
  let v4923 : Index := Scalar.indexCast v4112
  let c128_1308 : Index := 128#32
  ![v4923.toNat, 128]
def k0_off99 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v5790 : Index := Scalar.indexCast v20
  let c4096_1544 : Index := 4096#32
  ![v5790.toNat, 4096]
def k0_off100 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v5867 : Index := Scalar.indexCast v20
  let c4224_1567 : Index := 4224#32
  ![v5867.toNat, 4224]
def k0_off101 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v5944 : Index := Scalar.indexCast v20
  let c4352_1590 : Index := 4352#32
  ![v5944.toNat, 4352]
def k0_off102 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v6021 : Index := Scalar.indexCast v20
  let c4480_1613 : Index := 4480#32
  ![v6021.toNat, 4480]
def k0_off103 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v6098 : Index := Scalar.indexCast v20
  let c4608_1636 : Index := 4608#32
  ![v6098.toNat, 4608]
def k0_off104 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v6175 : Index := Scalar.indexCast v20
  let c4736_1659 : Index := 4736#32
  ![v6175.toNat, 4736]
def k0_off105 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v6252 : Index := Scalar.indexCast v20
  let c4864_1682 : Index := 4864#32
  ![v6252.toNat, 4864]
def k0_off106 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v6329 : Index := Scalar.indexCast v20
  let c4992_1705 : Index := 4992#32
  ![v6329.toNat, 4992]
def k0_off107 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v6406 : Index := Scalar.indexCast v20
  let c5120_1728 : Index := 5120#32
  ![v6406.toNat, 5120]
def k0_off108 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v6483 : Index := Scalar.indexCast v20
  let c5248_1751 : Index := 5248#32
  ![v6483.toNat, 5248]
def k0_off109 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v6560 : Index := Scalar.indexCast v20
  let c5376_1774 : Index := 5376#32
  ![v6560.toNat, 5376]
def k0_off110 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v6637 : Index := Scalar.indexCast v20
  let c5504_1797 : Index := 5504#32
  ![v6637.toNat, 5504]
def k0_off111 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v6714 : Index := Scalar.indexCast v20
  let c5632_1820 : Index := 5632#32
  ![v6714.toNat, 5632]
def k0_off112 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v6791 : Index := Scalar.indexCast v20
  let c5760_1843 : Index := 5760#32
  ![v6791.toNat, 5760]
def k0_off113 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v6868 : Index := Scalar.indexCast v20
  let c5888_1866 : Index := 5888#32
  ![v6868.toNat, 5888]
def k0_off114 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v6945 : Index := Scalar.indexCast v20
  let c6016_1889 : Index := 6016#32
  ![v6945.toNat, 6016]
def k0_off115 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v7022 : Index := Scalar.indexCast v20
  let c6144_1912 : Index := 6144#32
  ![v7022.toNat, 6144]
def k0_off116 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v7099 : Index := Scalar.indexCast v20
  let c6272_1935 : Index := 6272#32
  ![v7099.toNat, 6272]
def k0_off117 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v7176 : Index := Scalar.indexCast v20
  let c6400_1958 : Index := 6400#32
  ![v7176.toNat, 6400]
def k0_off118 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v7253 : Index := Scalar.indexCast v20
  let c6528_1981 : Index := 6528#32
  ![v7253.toNat, 6528]
def k0_off119 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v7330 : Index := Scalar.indexCast v20
  let c6656_2004 : Index := 6656#32
  ![v7330.toNat, 6656]
def k0_off120 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v7407 : Index := Scalar.indexCast v20
  let c6784_2027 : Index := 6784#32
  ![v7407.toNat, 6784]
def k0_off121 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v7484 : Index := Scalar.indexCast v20
  let c6912_2050 : Index := 6912#32
  ![v7484.toNat, 6912]
def k0_off122 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v7561 : Index := Scalar.indexCast v20
  let c7040_2073 : Index := 7040#32
  ![v7561.toNat, 7040]
def k0_off123 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v7638 : Index := Scalar.indexCast v20
  let c7168_2096 : Index := 7168#32
  ![v7638.toNat, 7168]
def k0_off124 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v7715 : Index := Scalar.indexCast v20
  let c7296_2119 : Index := 7296#32
  ![v7715.toNat, 7296]
def k0_off125 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v7792 : Index := Scalar.indexCast v20
  let c7424_2142 : Index := 7424#32
  ![v7792.toNat, 7424]
def k0_off126 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v7869 : Index := Scalar.indexCast v20
  let c7552_2165 : Index := 7552#32
  ![v7869.toNat, 7552]
def k0_off127 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v7946 : Index := Scalar.indexCast v20
  let c7680_2188 : Index := 7680#32
  ![v7946.toNat, 7680]
def k0_off128 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8023 : Index := Scalar.indexCast v20
  let c7808_2211 : Index := 7808#32
  ![v8023.toNat, 7808]
def k0_off129 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8100 : Index := Scalar.indexCast v20
  let c7936_2234 : Index := 7936#32
  ![v8100.toNat, 7936]
def k0_off130 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8177 : Index := Scalar.indexCast v20
  let c8064_2257 : Index := 8064#32
  ![v8177.toNat, 8064]
def k0_off131 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8203 : Index := Scalar.indexCast v8202
  let c8192 : Index := 8192#32
  ![v8203.toNat, 8192]
def k0_off132 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8207 : Index := Scalar.indexCast v8202
  let c8320 : Index := 8320#32
  ![v8207.toNat, 8320]
def k0_off133 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8230 : Index := Scalar.indexCast v8202
  let c8448 : Index := 8448#32
  ![v8230.toNat, 8448]
def k0_off134 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8234 : Index := Scalar.indexCast v8202
  let c8576 : Index := 8576#32
  ![v8234.toNat, 8576]
def k0_off135 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8276 : Index := Scalar.indexCast v8202
  let c8704 : Index := 8704#32
  ![v8276.toNat, 8704]
def k0_off136 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8280 : Index := Scalar.indexCast v8202
  let c8832 : Index := 8832#32
  ![v8280.toNat, 8832]
def k0_off137 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8303 : Index := Scalar.indexCast v8202
  let c8960 : Index := 8960#32
  ![v8303.toNat, 8960]
def k0_off138 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8307 : Index := Scalar.indexCast v8202
  let c9088 : Index := 9088#32
  ![v8307.toNat, 9088]
def k0_off139 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8368 : Index := Scalar.indexCast v8202
  let c9216 : Index := 9216#32
  ![v8368.toNat, 9216]
def k0_off140 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8372 : Index := Scalar.indexCast v8202
  let c9344 : Index := 9344#32
  ![v8372.toNat, 9344]
def k0_off141 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8395 : Index := Scalar.indexCast v8202
  let c9472 : Index := 9472#32
  ![v8395.toNat, 9472]
def k0_off142 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8399 : Index := Scalar.indexCast v8202
  let c9600 : Index := 9600#32
  ![v8399.toNat, 9600]
def k0_off143 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8441 : Index := Scalar.indexCast v8202
  let c9728 : Index := 9728#32
  ![v8441.toNat, 9728]
def k0_off144 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8445 : Index := Scalar.indexCast v8202
  let c9856 : Index := 9856#32
  ![v8445.toNat, 9856]
def k0_off145 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8468 : Index := Scalar.indexCast v8202
  let c9984 : Index := 9984#32
  ![v8468.toNat, 9984]
def k0_off146 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8472 : Index := Scalar.indexCast v8202
  let c10112 : Index := 10112#32
  ![v8472.toNat, 10112]
def k0_off147 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8552 : Index := Scalar.indexCast v8202
  let c10240 : Index := 10240#32
  ![v8552.toNat, 10240]
def k0_off148 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8556 : Index := Scalar.indexCast v8202
  let c10368 : Index := 10368#32
  ![v8556.toNat, 10368]
def k0_off149 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8579 : Index := Scalar.indexCast v8202
  let c10496 : Index := 10496#32
  ![v8579.toNat, 10496]
def k0_off150 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8583 : Index := Scalar.indexCast v8202
  let c10624 : Index := 10624#32
  ![v8583.toNat, 10624]
def k0_off151 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8625 : Index := Scalar.indexCast v8202
  let c10752 : Index := 10752#32
  ![v8625.toNat, 10752]
def k0_off152 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8629 : Index := Scalar.indexCast v8202
  let c10880 : Index := 10880#32
  ![v8629.toNat, 10880]
def k0_off153 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8652 : Index := Scalar.indexCast v8202
  let c11008 : Index := 11008#32
  ![v8652.toNat, 11008]
def k0_off154 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8656 : Index := Scalar.indexCast v8202
  let c11136 : Index := 11136#32
  ![v8656.toNat, 11136]
def k0_off155 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8717 : Index := Scalar.indexCast v8202
  let c11264 : Index := 11264#32
  ![v8717.toNat, 11264]
def k0_off156 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8721 : Index := Scalar.indexCast v8202
  let c11392 : Index := 11392#32
  ![v8721.toNat, 11392]
def k0_off157 (k0_t1 : Fin k0_t1_loop.trips) (c0_i32_2264 : BitVec 32) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v8202 : BitVec 32 := Scalar.addi v20 c0_i32_2264
  let v8902 : Index := Scalar.indexCast v8202
  let c256_2426 : Index := 256#32
  ![v8902.toNat, 256]
def k0_off158 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v9658 : Index := Scalar.indexCast v20
  let c8192_2632 : Index := 8192#32
  ![v9658.toNat, 8192]
def k0_off159 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v9735 : Index := Scalar.indexCast v20
  let c8320_2655 : Index := 8320#32
  ![v9735.toNat, 8320]
def k0_off160 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v9812 : Index := Scalar.indexCast v20
  let c8448_2678 : Index := 8448#32
  ![v9812.toNat, 8448]
def k0_off161 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v9889 : Index := Scalar.indexCast v20
  let c8576_2701 : Index := 8576#32
  ![v9889.toNat, 8576]
def k0_off162 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v9966 : Index := Scalar.indexCast v20
  let c8704_2724 : Index := 8704#32
  ![v9966.toNat, 8704]
def k0_off163 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v10043 : Index := Scalar.indexCast v20
  let c8832_2747 : Index := 8832#32
  ![v10043.toNat, 8832]
def k0_off164 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v10120 : Index := Scalar.indexCast v20
  let c8960_2770 : Index := 8960#32
  ![v10120.toNat, 8960]
def k0_off165 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v10197 : Index := Scalar.indexCast v20
  let c9088_2793 : Index := 9088#32
  ![v10197.toNat, 9088]
def k0_off166 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v10274 : Index := Scalar.indexCast v20
  let c9216_2816 : Index := 9216#32
  ![v10274.toNat, 9216]
def k0_off167 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v10351 : Index := Scalar.indexCast v20
  let c9344_2839 : Index := 9344#32
  ![v10351.toNat, 9344]
def k0_off168 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v10428 : Index := Scalar.indexCast v20
  let c9472_2862 : Index := 9472#32
  ![v10428.toNat, 9472]
def k0_off169 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v10505 : Index := Scalar.indexCast v20
  let c9600_2885 : Index := 9600#32
  ![v10505.toNat, 9600]
def k0_off170 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v10582 : Index := Scalar.indexCast v20
  let c9728_2908 : Index := 9728#32
  ![v10582.toNat, 9728]
def k0_off171 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v10659 : Index := Scalar.indexCast v20
  let c9856_2931 : Index := 9856#32
  ![v10659.toNat, 9856]
def k0_off172 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v10736 : Index := Scalar.indexCast v20
  let c9984_2954 : Index := 9984#32
  ![v10736.toNat, 9984]
def k0_off173 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v10813 : Index := Scalar.indexCast v20
  let c10112_2977 : Index := 10112#32
  ![v10813.toNat, 10112]
def k0_off174 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v10890 : Index := Scalar.indexCast v20
  let c10240_3000 : Index := 10240#32
  ![v10890.toNat, 10240]
def k0_off175 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v10967 : Index := Scalar.indexCast v20
  let c10368_3023 : Index := 10368#32
  ![v10967.toNat, 10368]
def k0_off176 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v11044 : Index := Scalar.indexCast v20
  let c10496_3046 : Index := 10496#32
  ![v11044.toNat, 10496]
def k0_off177 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v11121 : Index := Scalar.indexCast v20
  let c10624_3069 : Index := 10624#32
  ![v11121.toNat, 10624]
def k0_off178 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v11198 : Index := Scalar.indexCast v20
  let c10752_3092 : Index := 10752#32
  ![v11198.toNat, 10752]
def k0_off179 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v11275 : Index := Scalar.indexCast v20
  let c10880_3115 : Index := 10880#32
  ![v11275.toNat, 10880]
def k0_off180 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v11352 : Index := Scalar.indexCast v20
  let c11008_3138 : Index := 11008#32
  ![v11352.toNat, 11008]
def k0_off181 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v11429 : Index := Scalar.indexCast v20
  let c11136_3161 : Index := 11136#32
  ![v11429.toNat, 11136]
def k0_off182 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v11506 : Index := Scalar.indexCast v20
  let c11264_3184 : Index := 11264#32
  ![v11506.toNat, 11264]
def k0_off183 (k0_t1 : Fin k0_t1_loop.trips) : Fin 2 → Nat :=
  let c0_i32_13 : BitVec 32 := 0#32
  let c0_i32_8 : BitVec 32 := 0#32
  let c1_i32_10 : BitVec 32 := 1#32
  let arg14 : BitVec 32 := Scf.iv c0_i32_8 c1_i32_10 k0_t1
  let c1_i32_12 : BitVec 32 := 1#32
  let v17 : BitVec 32 := Scalar.muli arg14 c1_i32_12
  let v18 : BitVec 32 := Scalar.addi c0_i32_13 v17
  let c32_i32 : BitVec 32 := 32#32
  let v19 : BitVec 32 := Scalar.muli v18 c32_i32
  let v20 : BitVec 32 := v19
  let v11583 : Index := Scalar.indexCast v20
  let c11392_3207 : Index := 11392#32
  ![v11583.toNat, 11392]
@[reducible] def k0_t2_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult2 (k0_t2 : Fin k0_t2_loop.trips) : BitVec 32 :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  v18
def k0_off184 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v22 : Index := Scalar.indexCast v21
  let c0_11 : Index := 0#32
  ![v22.toNat, 0]
def k0_off185 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v25 : Index := Scalar.indexCast v21
  let c128 : Index := 128#32
  ![v25.toNat, 128]
def k0_off186 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v47 : Index := Scalar.indexCast v21
  let c256 : Index := 256#32
  ![v47.toNat, 256]
def k0_off187 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v50 : Index := Scalar.indexCast v21
  let c384 : Index := 384#32
  ![v50.toNat, 384]
def k0_off188 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v91 : Index := Scalar.indexCast v21
  let c512 : Index := 512#32
  ![v91.toNat, 512]
def k0_off189 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v94 : Index := Scalar.indexCast v21
  let c640 : Index := 640#32
  ![v94.toNat, 640]
def k0_off190 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v116 : Index := Scalar.indexCast v21
  let c768 : Index := 768#32
  ![v116.toNat, 768]
def k0_off191 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v119 : Index := Scalar.indexCast v21
  let c896 : Index := 896#32
  ![v119.toNat, 896]
def k0_off192 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v179 : Index := Scalar.indexCast v21
  let c1024 : Index := 1024#32
  ![v179.toNat, 1024]
def k0_off193 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v182 : Index := Scalar.indexCast v21
  let c1152 : Index := 1152#32
  ![v182.toNat, 1152]
def k0_off194 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v204 : Index := Scalar.indexCast v21
  let c1280 : Index := 1280#32
  ![v204.toNat, 1280]
def k0_off195 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v207 : Index := Scalar.indexCast v21
  let c1408 : Index := 1408#32
  ![v207.toNat, 1408]
def k0_off196 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v248 : Index := Scalar.indexCast v21
  let c1536 : Index := 1536#32
  ![v248.toNat, 1536]
def k0_off197 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v251 : Index := Scalar.indexCast v21
  let c1664 : Index := 1664#32
  ![v251.toNat, 1664]
def k0_off198 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v273 : Index := Scalar.indexCast v21
  let c1792 : Index := 1792#32
  ![v273.toNat, 1792]
def k0_off199 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v276 : Index := Scalar.indexCast v21
  let c1920 : Index := 1920#32
  ![v276.toNat, 1920]
def k0_off200 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v355 : Index := Scalar.indexCast v21
  let c2048 : Index := 2048#32
  ![v355.toNat, 2048]
def k0_off201 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v358 : Index := Scalar.indexCast v21
  let c2176 : Index := 2176#32
  ![v358.toNat, 2176]
def k0_off202 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v380 : Index := Scalar.indexCast v21
  let c2304 : Index := 2304#32
  ![v380.toNat, 2304]
def k0_off203 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v383 : Index := Scalar.indexCast v21
  let c2432 : Index := 2432#32
  ![v383.toNat, 2432]
def k0_off204 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v424 : Index := Scalar.indexCast v21
  let c2560 : Index := 2560#32
  ![v424.toNat, 2560]
def k0_off205 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v427 : Index := Scalar.indexCast v21
  let c2688 : Index := 2688#32
  ![v427.toNat, 2688]
def k0_off206 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v449 : Index := Scalar.indexCast v21
  let c2816 : Index := 2816#32
  ![v449.toNat, 2816]
def k0_off207 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v452 : Index := Scalar.indexCast v21
  let c2944 : Index := 2944#32
  ![v452.toNat, 2944]
def k0_off208 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v512 : Index := Scalar.indexCast v21
  let c3072 : Index := 3072#32
  ![v512.toNat, 3072]
def k0_off209 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v515 : Index := Scalar.indexCast v21
  let c3200 : Index := 3200#32
  ![v515.toNat, 3200]
def k0_off210 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v537 : Index := Scalar.indexCast v21
  let c3328 : Index := 3328#32
  ![v537.toNat, 3328]
def k0_off211 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v540 : Index := Scalar.indexCast v21
  let c3456 : Index := 3456#32
  ![v540.toNat, 3456]
def k0_off212 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v581 : Index := Scalar.indexCast v21
  let c3584 : Index := 3584#32
  ![v581.toNat, 3584]
def k0_off213 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v584 : Index := Scalar.indexCast v21
  let c3712 : Index := 3712#32
  ![v584.toNat, 3712]
def k0_off214 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v606 : Index := Scalar.indexCast v21
  let c3840 : Index := 3840#32
  ![v606.toNat, 3840]
def k0_off215 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v609 : Index := Scalar.indexCast v21
  let c3968 : Index := 3968#32
  ![v609.toNat, 3968]
def k0_off216 (k0_t2 : Fin k0_t2_loop.trips) (c0_i32_10 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v21 : BitVec 32 := Scalar.addi v19 c0_i32_10
  let v800 : Index := Scalar.indexCast v21
  let c0_186 : Index := 0#32
  ![v800.toNat, 0]
def k0_off217 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v1633 : Index := Scalar.indexCast v19
  let c0_421 : Index := 0#32
  ![v1633.toNat, 0]
def k0_off218 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v1708 : Index := Scalar.indexCast v19
  let c128_444 : Index := 128#32
  ![v1708.toNat, 128]
def k0_off219 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v1783 : Index := Scalar.indexCast v19
  let c256_467 : Index := 256#32
  ![v1783.toNat, 256]
def k0_off220 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v1858 : Index := Scalar.indexCast v19
  let c384_490 : Index := 384#32
  ![v1858.toNat, 384]
def k0_off221 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v1933 : Index := Scalar.indexCast v19
  let c512_513 : Index := 512#32
  ![v1933.toNat, 512]
def k0_off222 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v2008 : Index := Scalar.indexCast v19
  let c640_535 : Index := 640#32
  ![v2008.toNat, 640]
def k0_off223 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v2083 : Index := Scalar.indexCast v19
  let c768_557 : Index := 768#32
  ![v2083.toNat, 768]
def k0_off224 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v2158 : Index := Scalar.indexCast v19
  let c896_579 : Index := 896#32
  ![v2158.toNat, 896]
def k0_off225 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v2233 : Index := Scalar.indexCast v19
  let c1024_602 : Index := 1024#32
  ![v2233.toNat, 1024]
def k0_off226 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v2308 : Index := Scalar.indexCast v19
  let c1152_624 : Index := 1152#32
  ![v2308.toNat, 1152]
def k0_off227 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v2383 : Index := Scalar.indexCast v19
  let c1280_646 : Index := 1280#32
  ![v2383.toNat, 1280]
def k0_off228 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v2458 : Index := Scalar.indexCast v19
  let c1408_669 : Index := 1408#32
  ![v2458.toNat, 1408]
def k0_off229 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v2533 : Index := Scalar.indexCast v19
  let c1536_691 : Index := 1536#32
  ![v2533.toNat, 1536]
def k0_off230 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v2608 : Index := Scalar.indexCast v19
  let c1664_713 : Index := 1664#32
  ![v2608.toNat, 1664]
def k0_off231 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v2683 : Index := Scalar.indexCast v19
  let c1792_735 : Index := 1792#32
  ![v2683.toNat, 1792]
def k0_off232 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v2758 : Index := Scalar.indexCast v19
  let c1920_757 : Index := 1920#32
  ![v2758.toNat, 1920]
def k0_off233 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v2833 : Index := Scalar.indexCast v19
  let c2048_780 : Index := 2048#32
  ![v2833.toNat, 2048]
def k0_off234 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v2908 : Index := Scalar.indexCast v19
  let c2176_802 : Index := 2176#32
  ![v2908.toNat, 2176]
def k0_off235 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v2983 : Index := Scalar.indexCast v19
  let c2304_824 : Index := 2304#32
  ![v2983.toNat, 2304]
def k0_off236 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3058 : Index := Scalar.indexCast v19
  let c2432_846 : Index := 2432#32
  ![v3058.toNat, 2432]
def k0_off237 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3133 : Index := Scalar.indexCast v19
  let c2560_868 : Index := 2560#32
  ![v3133.toNat, 2560]
def k0_off238 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3208 : Index := Scalar.indexCast v19
  let c2688_890 : Index := 2688#32
  ![v3208.toNat, 2688]
def k0_off239 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3283 : Index := Scalar.indexCast v19
  let c2816_912 : Index := 2816#32
  ![v3283.toNat, 2816]
def k0_off240 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3358 : Index := Scalar.indexCast v19
  let c2944_935 : Index := 2944#32
  ![v3358.toNat, 2944]
def k0_off241 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3433 : Index := Scalar.indexCast v19
  let c3072_957 : Index := 3072#32
  ![v3433.toNat, 3072]
def k0_off242 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3508 : Index := Scalar.indexCast v19
  let c3200_979 : Index := 3200#32
  ![v3508.toNat, 3200]
def k0_off243 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3583 : Index := Scalar.indexCast v19
  let c3328_1001 : Index := 3328#32
  ![v3583.toNat, 3328]
def k0_off244 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3658 : Index := Scalar.indexCast v19
  let c3456_1023 : Index := 3456#32
  ![v3658.toNat, 3456]
def k0_off245 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3733 : Index := Scalar.indexCast v19
  let c3584_1045 : Index := 3584#32
  ![v3733.toNat, 3584]
def k0_off246 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3808 : Index := Scalar.indexCast v19
  let c3712_1067 : Index := 3712#32
  ![v3808.toNat, 3712]
def k0_off247 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3883 : Index := Scalar.indexCast v19
  let c3840_1089 : Index := 3840#32
  ![v3883.toNat, 3840]
def k0_off248 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3958 : Index := Scalar.indexCast v19
  let c3968_1111 : Index := 3968#32
  ![v3958.toNat, 3968]
def k0_off249 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v3984 : Index := Scalar.indexCast v3983
  let c4096 : Index := 4096#32
  ![v3984.toNat, 4096]
def k0_off250 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v3987 : Index := Scalar.indexCast v3983
  let c4224 : Index := 4224#32
  ![v3987.toNat, 4224]
def k0_off251 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4009 : Index := Scalar.indexCast v3983
  let c4352 : Index := 4352#32
  ![v4009.toNat, 4352]
def k0_off252 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4012 : Index := Scalar.indexCast v3983
  let c4480 : Index := 4480#32
  ![v4012.toNat, 4480]
def k0_off253 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4053 : Index := Scalar.indexCast v3983
  let c4608 : Index := 4608#32
  ![v4053.toNat, 4608]
def k0_off254 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4056 : Index := Scalar.indexCast v3983
  let c4736 : Index := 4736#32
  ![v4056.toNat, 4736]
def k0_off255 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4078 : Index := Scalar.indexCast v3983
  let c4864 : Index := 4864#32
  ![v4078.toNat, 4864]
def k0_off256 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4081 : Index := Scalar.indexCast v3983
  let c4992 : Index := 4992#32
  ![v4081.toNat, 4992]
def k0_off257 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4141 : Index := Scalar.indexCast v3983
  let c5120 : Index := 5120#32
  ![v4141.toNat, 5120]
def k0_off258 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4144 : Index := Scalar.indexCast v3983
  let c5248 : Index := 5248#32
  ![v4144.toNat, 5248]
def k0_off259 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4166 : Index := Scalar.indexCast v3983
  let c5376 : Index := 5376#32
  ![v4166.toNat, 5376]
def k0_off260 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4169 : Index := Scalar.indexCast v3983
  let c5504 : Index := 5504#32
  ![v4169.toNat, 5504]
def k0_off261 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4210 : Index := Scalar.indexCast v3983
  let c5632 : Index := 5632#32
  ![v4210.toNat, 5632]
def k0_off262 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4213 : Index := Scalar.indexCast v3983
  let c5760 : Index := 5760#32
  ![v4213.toNat, 5760]
def k0_off263 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4235 : Index := Scalar.indexCast v3983
  let c5888 : Index := 5888#32
  ![v4235.toNat, 5888]
def k0_off264 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4238 : Index := Scalar.indexCast v3983
  let c6016 : Index := 6016#32
  ![v4238.toNat, 6016]
def k0_off265 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4317 : Index := Scalar.indexCast v3983
  let c6144 : Index := 6144#32
  ![v4317.toNat, 6144]
def k0_off266 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4320 : Index := Scalar.indexCast v3983
  let c6272 : Index := 6272#32
  ![v4320.toNat, 6272]
def k0_off267 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4342 : Index := Scalar.indexCast v3983
  let c6400 : Index := 6400#32
  ![v4342.toNat, 6400]
def k0_off268 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4345 : Index := Scalar.indexCast v3983
  let c6528 : Index := 6528#32
  ![v4345.toNat, 6528]
def k0_off269 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4386 : Index := Scalar.indexCast v3983
  let c6656 : Index := 6656#32
  ![v4386.toNat, 6656]
def k0_off270 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4389 : Index := Scalar.indexCast v3983
  let c6784 : Index := 6784#32
  ![v4389.toNat, 6784]
def k0_off271 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4411 : Index := Scalar.indexCast v3983
  let c6912 : Index := 6912#32
  ![v4411.toNat, 6912]
def k0_off272 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4414 : Index := Scalar.indexCast v3983
  let c7040 : Index := 7040#32
  ![v4414.toNat, 7040]
def k0_off273 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4474 : Index := Scalar.indexCast v3983
  let c7168 : Index := 7168#32
  ![v4474.toNat, 7168]
def k0_off274 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4477 : Index := Scalar.indexCast v3983
  let c7296 : Index := 7296#32
  ![v4477.toNat, 7296]
def k0_off275 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4499 : Index := Scalar.indexCast v3983
  let c7424 : Index := 7424#32
  ![v4499.toNat, 7424]
def k0_off276 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4502 : Index := Scalar.indexCast v3983
  let c7552 : Index := 7552#32
  ![v4502.toNat, 7552]
def k0_off277 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4543 : Index := Scalar.indexCast v3983
  let c7680 : Index := 7680#32
  ![v4543.toNat, 7680]
def k0_off278 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4546 : Index := Scalar.indexCast v3983
  let c7808 : Index := 7808#32
  ![v4546.toNat, 7808]
def k0_off279 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4568 : Index := Scalar.indexCast v3983
  let c7936 : Index := 7936#32
  ![v4568.toNat, 7936]
def k0_off280 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4571 : Index := Scalar.indexCast v3983
  let c8064 : Index := 8064#32
  ![v4571.toNat, 8064]
def k0_off281 (k0_t2 : Fin k0_t2_loop.trips) (c0_i32_1118 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v3983 : BitVec 32 := Scalar.addi v19 c0_i32_1118
  let v4762 : Index := Scalar.indexCast v3983
  let c128_1304 : Index := 128#32
  ![v4762.toNat, 128]
def k0_off282 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v5595 : Index := Scalar.indexCast v19
  let c4096_1540 : Index := 4096#32
  ![v5595.toNat, 4096]
def k0_off283 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v5670 : Index := Scalar.indexCast v19
  let c4224_1563 : Index := 4224#32
  ![v5670.toNat, 4224]
def k0_off284 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v5745 : Index := Scalar.indexCast v19
  let c4352_1586 : Index := 4352#32
  ![v5745.toNat, 4352]
def k0_off285 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v5820 : Index := Scalar.indexCast v19
  let c4480_1609 : Index := 4480#32
  ![v5820.toNat, 4480]
def k0_off286 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v5895 : Index := Scalar.indexCast v19
  let c4608_1632 : Index := 4608#32
  ![v5895.toNat, 4608]
def k0_off287 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v5970 : Index := Scalar.indexCast v19
  let c4736_1655 : Index := 4736#32
  ![v5970.toNat, 4736]
def k0_off288 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v6045 : Index := Scalar.indexCast v19
  let c4864_1678 : Index := 4864#32
  ![v6045.toNat, 4864]
def k0_off289 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v6120 : Index := Scalar.indexCast v19
  let c4992_1701 : Index := 4992#32
  ![v6120.toNat, 4992]
def k0_off290 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v6195 : Index := Scalar.indexCast v19
  let c5120_1724 : Index := 5120#32
  ![v6195.toNat, 5120]
def k0_off291 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v6270 : Index := Scalar.indexCast v19
  let c5248_1747 : Index := 5248#32
  ![v6270.toNat, 5248]
def k0_off292 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v6345 : Index := Scalar.indexCast v19
  let c5376_1770 : Index := 5376#32
  ![v6345.toNat, 5376]
def k0_off293 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v6420 : Index := Scalar.indexCast v19
  let c5504_1793 : Index := 5504#32
  ![v6420.toNat, 5504]
def k0_off294 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v6495 : Index := Scalar.indexCast v19
  let c5632_1816 : Index := 5632#32
  ![v6495.toNat, 5632]
def k0_off295 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v6570 : Index := Scalar.indexCast v19
  let c5760_1839 : Index := 5760#32
  ![v6570.toNat, 5760]
def k0_off296 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v6645 : Index := Scalar.indexCast v19
  let c5888_1862 : Index := 5888#32
  ![v6645.toNat, 5888]
def k0_off297 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v6720 : Index := Scalar.indexCast v19
  let c6016_1885 : Index := 6016#32
  ![v6720.toNat, 6016]
def k0_off298 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v6795 : Index := Scalar.indexCast v19
  let c6144_1908 : Index := 6144#32
  ![v6795.toNat, 6144]
def k0_off299 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v6870 : Index := Scalar.indexCast v19
  let c6272_1931 : Index := 6272#32
  ![v6870.toNat, 6272]
def k0_off300 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v6945 : Index := Scalar.indexCast v19
  let c6400_1954 : Index := 6400#32
  ![v6945.toNat, 6400]
def k0_off301 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7020 : Index := Scalar.indexCast v19
  let c6528_1977 : Index := 6528#32
  ![v7020.toNat, 6528]
def k0_off302 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7095 : Index := Scalar.indexCast v19
  let c6656_2000 : Index := 6656#32
  ![v7095.toNat, 6656]
def k0_off303 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7170 : Index := Scalar.indexCast v19
  let c6784_2023 : Index := 6784#32
  ![v7170.toNat, 6784]
def k0_off304 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7245 : Index := Scalar.indexCast v19
  let c6912_2046 : Index := 6912#32
  ![v7245.toNat, 6912]
def k0_off305 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7320 : Index := Scalar.indexCast v19
  let c7040_2069 : Index := 7040#32
  ![v7320.toNat, 7040]
def k0_off306 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7395 : Index := Scalar.indexCast v19
  let c7168_2092 : Index := 7168#32
  ![v7395.toNat, 7168]
def k0_off307 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7470 : Index := Scalar.indexCast v19
  let c7296_2115 : Index := 7296#32
  ![v7470.toNat, 7296]
def k0_off308 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7545 : Index := Scalar.indexCast v19
  let c7424_2138 : Index := 7424#32
  ![v7545.toNat, 7424]
def k0_off309 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7620 : Index := Scalar.indexCast v19
  let c7552_2161 : Index := 7552#32
  ![v7620.toNat, 7552]
def k0_off310 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7695 : Index := Scalar.indexCast v19
  let c7680_2184 : Index := 7680#32
  ![v7695.toNat, 7680]
def k0_off311 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7770 : Index := Scalar.indexCast v19
  let c7808_2207 : Index := 7808#32
  ![v7770.toNat, 7808]
def k0_off312 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7845 : Index := Scalar.indexCast v19
  let c7936_2230 : Index := 7936#32
  ![v7845.toNat, 7936]
def k0_off313 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7920 : Index := Scalar.indexCast v19
  let c8064_2253 : Index := 8064#32
  ![v7920.toNat, 8064]
def k0_off314 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v7946 : Index := Scalar.indexCast v7945
  let c8192 : Index := 8192#32
  ![v7946.toNat, 8192]
def k0_off315 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v7949 : Index := Scalar.indexCast v7945
  let c8320 : Index := 8320#32
  ![v7949.toNat, 8320]
def k0_off316 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v7971 : Index := Scalar.indexCast v7945
  let c8448 : Index := 8448#32
  ![v7971.toNat, 8448]
def k0_off317 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v7974 : Index := Scalar.indexCast v7945
  let c8576 : Index := 8576#32
  ![v7974.toNat, 8576]
def k0_off318 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8015 : Index := Scalar.indexCast v7945
  let c8704 : Index := 8704#32
  ![v8015.toNat, 8704]
def k0_off319 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8018 : Index := Scalar.indexCast v7945
  let c8832 : Index := 8832#32
  ![v8018.toNat, 8832]
def k0_off320 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8040 : Index := Scalar.indexCast v7945
  let c8960 : Index := 8960#32
  ![v8040.toNat, 8960]
def k0_off321 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8043 : Index := Scalar.indexCast v7945
  let c9088 : Index := 9088#32
  ![v8043.toNat, 9088]
def k0_off322 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8103 : Index := Scalar.indexCast v7945
  let c9216 : Index := 9216#32
  ![v8103.toNat, 9216]
def k0_off323 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8106 : Index := Scalar.indexCast v7945
  let c9344 : Index := 9344#32
  ![v8106.toNat, 9344]
def k0_off324 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8128 : Index := Scalar.indexCast v7945
  let c9472 : Index := 9472#32
  ![v8128.toNat, 9472]
def k0_off325 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8131 : Index := Scalar.indexCast v7945
  let c9600 : Index := 9600#32
  ![v8131.toNat, 9600]
def k0_off326 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8172 : Index := Scalar.indexCast v7945
  let c9728 : Index := 9728#32
  ![v8172.toNat, 9728]
def k0_off327 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8175 : Index := Scalar.indexCast v7945
  let c9856 : Index := 9856#32
  ![v8175.toNat, 9856]
def k0_off328 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8197 : Index := Scalar.indexCast v7945
  let c9984 : Index := 9984#32
  ![v8197.toNat, 9984]
def k0_off329 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8200 : Index := Scalar.indexCast v7945
  let c10112 : Index := 10112#32
  ![v8200.toNat, 10112]
def k0_off330 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8279 : Index := Scalar.indexCast v7945
  let c10240 : Index := 10240#32
  ![v8279.toNat, 10240]
def k0_off331 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8282 : Index := Scalar.indexCast v7945
  let c10368 : Index := 10368#32
  ![v8282.toNat, 10368]
def k0_off332 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8304 : Index := Scalar.indexCast v7945
  let c10496 : Index := 10496#32
  ![v8304.toNat, 10496]
def k0_off333 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8307 : Index := Scalar.indexCast v7945
  let c10624 : Index := 10624#32
  ![v8307.toNat, 10624]
def k0_off334 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8348 : Index := Scalar.indexCast v7945
  let c10752 : Index := 10752#32
  ![v8348.toNat, 10752]
def k0_off335 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8351 : Index := Scalar.indexCast v7945
  let c10880 : Index := 10880#32
  ![v8351.toNat, 10880]
def k0_off336 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8373 : Index := Scalar.indexCast v7945
  let c11008 : Index := 11008#32
  ![v8373.toNat, 11008]
def k0_off337 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8376 : Index := Scalar.indexCast v7945
  let c11136 : Index := 11136#32
  ![v8376.toNat, 11136]
def k0_off338 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8436 : Index := Scalar.indexCast v7945
  let c11264 : Index := 11264#32
  ![v8436.toNat, 11264]
def k0_off339 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8439 : Index := Scalar.indexCast v7945
  let c11392 : Index := 11392#32
  ![v8439.toNat, 11392]
def k0_off340 (k0_t2 : Fin k0_t2_loop.trips) (c0_i32_2260 : BitVec 32) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v7945 : BitVec 32 := Scalar.addi v19 c0_i32_2260
  let v8619 : Index := Scalar.indexCast v7945
  let c256_2422 : Index := 256#32
  ![v8619.toNat, 256]
def k0_off341 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v9347 : Index := Scalar.indexCast v19
  let c8192_2628 : Index := 8192#32
  ![v9347.toNat, 8192]
def k0_off342 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v9422 : Index := Scalar.indexCast v19
  let c8320_2651 : Index := 8320#32
  ![v9422.toNat, 8320]
def k0_off343 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v9497 : Index := Scalar.indexCast v19
  let c8448_2674 : Index := 8448#32
  ![v9497.toNat, 8448]
def k0_off344 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v9572 : Index := Scalar.indexCast v19
  let c8576_2697 : Index := 8576#32
  ![v9572.toNat, 8576]
def k0_off345 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v9647 : Index := Scalar.indexCast v19
  let c8704_2720 : Index := 8704#32
  ![v9647.toNat, 8704]
def k0_off346 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v9722 : Index := Scalar.indexCast v19
  let c8832_2743 : Index := 8832#32
  ![v9722.toNat, 8832]
def k0_off347 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v9797 : Index := Scalar.indexCast v19
  let c8960_2766 : Index := 8960#32
  ![v9797.toNat, 8960]
def k0_off348 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v9872 : Index := Scalar.indexCast v19
  let c9088_2789 : Index := 9088#32
  ![v9872.toNat, 9088]
def k0_off349 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v9947 : Index := Scalar.indexCast v19
  let c9216_2812 : Index := 9216#32
  ![v9947.toNat, 9216]
def k0_off350 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v10022 : Index := Scalar.indexCast v19
  let c9344_2835 : Index := 9344#32
  ![v10022.toNat, 9344]
def k0_off351 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v10097 : Index := Scalar.indexCast v19
  let c9472_2858 : Index := 9472#32
  ![v10097.toNat, 9472]
def k0_off352 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v10172 : Index := Scalar.indexCast v19
  let c9600_2881 : Index := 9600#32
  ![v10172.toNat, 9600]
def k0_off353 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v10247 : Index := Scalar.indexCast v19
  let c9728_2904 : Index := 9728#32
  ![v10247.toNat, 9728]
def k0_off354 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v10322 : Index := Scalar.indexCast v19
  let c9856_2927 : Index := 9856#32
  ![v10322.toNat, 9856]
def k0_off355 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v10397 : Index := Scalar.indexCast v19
  let c9984_2950 : Index := 9984#32
  ![v10397.toNat, 9984]
def k0_off356 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v10472 : Index := Scalar.indexCast v19
  let c10112_2973 : Index := 10112#32
  ![v10472.toNat, 10112]
def k0_off357 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v10547 : Index := Scalar.indexCast v19
  let c10240_2996 : Index := 10240#32
  ![v10547.toNat, 10240]
def k0_off358 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v10622 : Index := Scalar.indexCast v19
  let c10368_3019 : Index := 10368#32
  ![v10622.toNat, 10368]
def k0_off359 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v10697 : Index := Scalar.indexCast v19
  let c10496_3042 : Index := 10496#32
  ![v10697.toNat, 10496]
def k0_off360 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v10772 : Index := Scalar.indexCast v19
  let c10624_3065 : Index := 10624#32
  ![v10772.toNat, 10624]
def k0_off361 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v10847 : Index := Scalar.indexCast v19
  let c10752_3088 : Index := 10752#32
  ![v10847.toNat, 10752]
def k0_off362 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v10922 : Index := Scalar.indexCast v19
  let c10880_3111 : Index := 10880#32
  ![v10922.toNat, 10880]
def k0_off363 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v10997 : Index := Scalar.indexCast v19
  let c11008_3134 : Index := 11008#32
  ![v10997.toNat, 11008]
def k0_off364 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v11072 : Index := Scalar.indexCast v19
  let c11136_3157 : Index := 11136#32
  ![v11072.toNat, 11136]
def k0_off365 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v11147 : Index := Scalar.indexCast v19
  let c11264_3180 : Index := 11264#32
  ![v11147.toNat, 11264]
def k0_off366 (k0_t2 : Fin k0_t2_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k0_t2
  let c1_i32_8 : BitVec 32 := 1#32
  let v16 : BitVec 32 := Scalar.muli arg14 c1_i32_8
  let v17 : BitVec 32 := Scalar.addi c0_i32_9 v16
  let c32_i32 : BitVec 32 := 32#32
  let v18 : BitVec 32 := Scalar.muli v17 c32_i32
  let v19 : BitVec 32 := v18
  let v11222 : Index := Scalar.indexCast v19
  let c11392_3203 : Index := 11392#32
  ![v11222.toNat, 11392]
def k0_mult3 (i : grid0.Coords) : BitVec 32 :=
  let arg0 : BitVec 32 := BitVec.ofNat 32 (i 0).val
  let c256_i32 : BitVec 32 := 256#32
  let v7 : BitVec 32 := Scalar.muli arg0 c256_i32
  v7
def k0_off367 (i : grid0.Coords) : Fin 2 → Nat :=
  let c0_6 : Index := 0#32
  let arg0 : BitVec 32 := BitVec.ofNat 32 (i 0).val
  let c256_i32 : BitVec 32 := 256#32
  let v7 : BitVec 32 := Scalar.muli arg0 c256_i32
  let v8 : BitVec 32 := v7
  let v9 : Index := Scalar.indexCast v8
  ![0, v9.toNat]
def k0_cond2 (i : grid0.Coords) : BitVec 1 :=
  let arg0 : BitVec 32 := BitVec.ofNat 32 (i 0).val
  let c11_i32 : BitVec 32 := 11#32
  let v13 : BitVec 1 := Scalar.cmpi .eq arg0 c11_i32
  let v14 : BitVec 32 := Scalar.extui v13
  let c0_i32_7 : BitVec 32 := 0#32
  let v15 : BitVec 1 := Scalar.cmpi .ne v14 c0_i32_7
  v15

@[reducible] def k0_t3_loop : Scf.Loop 32 :=
  let c0_i32_8 : BitVec 32 := 0#32
  let c16_i32 : BitVec 32 := 16#32
  let v16 : BitVec 32 := Scalar.addi c0_i32_8 c16_i32
  let c1_i32_9 : BitVec 32 := 1#32
  ⟨c0_i32_8, v16, c1_i32_9⟩
def k0_mult4 (k0_t3 : Fin k0_t3_loop.trips) : BitVec 32 :=
  let c0_i32_12 : BitVec 32 := 0#32
  let c0_i32_8 : BitVec 32 := 0#32
  let c1_i32_9 : BitVec 32 := 1#32
  let arg14 : BitVec 32 := Scf.iv c0_i32_8 c1_i32_9 k0_t3
  let c1_i32_11 : BitVec 32 := 1#32
  let v17 : BitVec 32 := Scalar.muli arg14 c1_i32_11
  let v18 : BitVec 32 := Scalar.addi c0_i32_12 v17
  let c16_i32_13 : BitVec 32 := 16#32
  let v19 : BitVec 32 := Scalar.muli v18 c16_i32_13
  v19
def k0_off368 (k0_t3 : Fin k0_t3_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t3
  let c1_i32_11 : BitVec 32 := 1#32
  let v17 : BitVec 32 := Scalar.muli arg14 c1_i32_11
  let v18 : BitVec 32 := Scalar.addi c0_i32_12 v17
  let c16_i32_13 : BitVec 32 := 16#32
  let v19 : BitVec 32 := Scalar.muli v18 c16_i32_13
  let v20 : BitVec 32 := v19
  let v21 : Index := Scalar.indexCast v20
  let c0_14 : Index := 0#32
  ![v21.toNat, 0]
def k0_off369 (k0_t3 : Fin k0_t3_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t3
  let c1_i32_11 : BitVec 32 := 1#32
  let v17 : BitVec 32 := Scalar.muli arg14 c1_i32_11
  let v18 : BitVec 32 := Scalar.addi c0_i32_12 v17
  let c16_i32_13 : BitVec 32 := 16#32
  let v19 : BitVec 32 := Scalar.muli v18 c16_i32_13
  let v20 : BitVec 32 := v19
  let v35 : Index := Scalar.indexCast v20
  let c0_18 : Index := 0#32
  ![v35.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x11520 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x11520 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2880 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2880 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2880 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2880 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x11520 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x360 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x11520 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x360 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1x256x11520 : Shape := ⟨3, ![1, 256, 11520]⟩
abbrev S2880x11520 : Shape := ⟨2, ![2880, 11520]⟩
abbrev S1x256x2880 : Shape := ⟨3, ![1, 256, 2880]⟩
abbrev S2880 : Shape := ⟨1, ![2880]⟩
abbrev S256x11520 : Shape := ⟨2, ![256, 11520]⟩
abbrev S256x2880 : Shape := ⟨2, ![256, 2880]⟩
abbrev S1x2880 : Shape := ⟨2, ![1, 2880]⟩
abbrev S256x360 : Shape := ⟨2, ![256, 360]⟩
abbrev S2880x360 : Shape := ⟨2, ![2880, 360]⟩
abbrev S256x360x32 : Shape := ⟨3, ![256, 360, 32]⟩
abbrev S256x360x1 : Shape := ⟨3, ![256, 360, 1]⟩
abbrev S256x360x254 : Shape := ⟨3, ![256, 360, 254]⟩
abbrev S2880x360x32 : Shape := ⟨3, ![2880, 360, 32]⟩
abbrev S2880x360x1 : Shape := ⟨3, ![2880, 360, 1]⟩
abbrev S2880x360x254 : Shape := ⟨3, ![2880, 360, 254]⟩
abbrev S256 : Shape := ⟨1, ![256]⟩
abbrev S256x1 : Shape := ⟨2, ![256, 1]⟩

abbrev nBuf : Space → Nat
  | .hbm => 13
  | .vmem => 10
  | .smem => 0
  | _ => 0

abbrev bufTy : (tb : Table) → Fin (tcTables nBuf tb) → BufTy
  | .hbm, ⟨0, _⟩ => ⟨S1x256x11520, .bf16⟩
  | .hbm, ⟨1, _⟩ => ⟨S2880x11520, .bf16⟩
  | .hbm, ⟨2, _⟩ => ⟨S1x256x2880, .bf16⟩
  | .hbm, ⟨3, _⟩ => ⟨S2880, .f32⟩
  | .hbm, ⟨4, _⟩ => ⟨S256x11520, .bf16⟩
  | .hbm, ⟨5, _⟩ => ⟨S256x2880, .bf16⟩
  | .hbm, ⟨6, _⟩ => ⟨S1x2880, .f32⟩
  | .hbm, ⟨7, _⟩ => ⟨S256x2880, .bf16⟩
  | .hbm, ⟨8, _⟩ => ⟨S256x2880, .bf16⟩
  | .hbm, ⟨9, _⟩ => ⟨S256x11520, .fp8e4m3⟩
  | .hbm, ⟨10, _⟩ => ⟨S256x360, .f32⟩
  | .hbm, ⟨11, _⟩ => ⟨S2880x11520, .fp8e4m3⟩
  | .hbm, ⟨12, _⟩ => ⟨S2880x360, .f32⟩
  | .local _ .vmem, ⟨0, _⟩ => ⟨S256x11520, .bf16⟩
  | .local _ .vmem, ⟨1, _⟩ => ⟨S2880x11520, .bf16⟩
  | .local _ .vmem, ⟨2, _⟩ => ⟨S256x2880, .bf16⟩
  | .local _ .vmem, ⟨3, _⟩ => ⟨S1x2880, .f32⟩
  | .local _ .vmem, ⟨4, _⟩ => ⟨S256x2880, .bf16⟩
  | .local _ .vmem, ⟨5, _⟩ => ⟨S256x2880, .bf16⟩
  | .local _ .vmem, ⟨6, _⟩ => ⟨S256x11520, .fp8e4m3⟩
  | .local _ .vmem, ⟨7, _⟩ => ⟨S256x360, .f32⟩
  | .local _ .vmem, ⟨8, _⟩ => ⟨S2880x11520, .fp8e4m3⟩
  | .local _ .vmem, ⟨9, _⟩ => ⟨S2880x360, .f32⟩
  | _, _ => ⟨S1x256x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S256x11520 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2880x11520 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2880 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2880 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2880 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x2880 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x11520 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x360 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2880x11520 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2880x360 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Tile.lean ====
/-
  The quantiser of the kernel, written once as a program over any three memrefs: `quantRows` is what one trip
  of its row loop does with 32 rows (block maxima, inverse scales, scales, codes, widened codes), in
  continuation form, over pure functions of one 16×128 register tile. `Body.lean` shows the printed kernel is
  this program.
-/
module

public import Idealize.ShloMosaic.Lib.Pipeline
public import Idealize.ShloMosaic.Lib.Pipeline.Value
public import Idealize.ShloMosaic.Lib.Scf
public import Idealize.ShloMosaic.Lib.Sig
public import Idealize.ShloMosaic.Lib.StableHlo
public import Idealize.ShloMosaic.PureOps

@[expose] public section

set_option maxRecDepth 16384

noncomputable section

namespace Mx

open Idealize.ShloMosaic Idealize.SL.Sem

abbrev SX : Shape := ⟨2, ![256, 11520]⟩
abbrev SS : Shape := ⟨2, ![256, 360]⟩
abbrev T16 : Shape := ⟨2, ![16, 128]⟩
abbrev T16x1 : Shape := ⟨3, ![16, 128, 1]⟩
abbrev T32 : Shape := ⟨2, ![32, 128]⟩
abbrev T104 : Shape := ⟨2, ![16, 104]⟩

variable {F : FTy → Type} [FloatOps F]

/-! ## The pure functions of a register tile -/

theorem t16_same : T16.ShapeCasts T16 := by decide
theorem t16_to3 : T16.ShapeCasts T16x1 := by decide
theorem t16_of3 : T16x1.ShapeCasts T16 := by decide
theorem bits_16_32 : FTy.bits .bf16 < FTy.bits .f32 := by decide
theorem bits_8_16 : FTy.bits .fp8e4m3 < FTy.bits .bf16 := by decide
theorem concats : Shape.Concatenates [T16, T16] T32 0 := by decide
theorem slice0 : T32.Slices ![0, 0] T16 := by decide
theorem slice16 : T32.Slices ![16, 0] T16 := by decide
theorem slice104 : T16.Slices ![0, 0] T104 := by decide
theorem pos16 : 0 < T16.numel := by decide
theorem pos32 : 0 < T32.numel := by decide
theorem pos104 : 0 < T104.numel := by decide

/-- Each element's lane number. -/
def lane : IVec T16 32 := iota .tc T16 32 [1] (by decide)

/-- A loaded tile as the first loop reads it: a cast to its own shape; -/
def castT (x : Vec F T16 .bf16) : FVec F T16 .bf16 := shapeCast T16 x t16_same

/-- as the second does: as it is. -/
def rawT (x : Vec F T16 .bf16) : FVec F T16 .bf16 := x

theorem castT_eq (x : Vec F T16 .bf16) : castT x = x := shapeCast_self x t16_same

/-- A lane index made nonnegative the way jax indexes, as the gather takes it. -/
def wrap (idx : IVec T16 32) : IVec T16 32 :=
  shapeCast T16 (shapeCast T16x1
    (select (cmpi .slt idx (broadcast T16 0#32)) (addi idx (broadcast T16 128#32)) idx) t16_to3) t16_of3

/-- The lanes of a bf16 tile permuted, through f32; -/
def permB (x : FVec F T16 .bf16) (idx : IVec T16 32) : FVec F T16 .bf16 :=
  truncf .bf16 (dynamicGather 1 (extf .f32 x bits_16_32) (wrap idx)) bits_16_32

/-- the lanes of a tile of words. -/
def permI (w : IVec T16 32) (idx : IVec T16 32) : IVec T16 32 := dynamicGather 1 w (wrap idx)

/-- The partner lane at distance `s`. -/
def xorLane (s : BitVec 32) : IVec T16 32 := xori lane (broadcast T16 s)

/-- Each lane's maximum with its partner at distance `s`; -/
def foldT (a : FVec F T16 .bf16) (s : BitVec 32) : FVec F T16 .bf16 := maximumf a (permB a (xorLane s))

/-- two tiles folded into one: the lanes whose bit `s` is clear keep `a`'s, the others `b`'s. -/
def mergeT (a b : FVec F T16 .bf16) (s : BitVec 32) : FVec F T16 .bf16 :=
  maximumf (select (cmpi .eq (andi lane (broadcast T16 s)) (broadcast T16 0#32)) a b)
    (permB (select (cmpi .eq (andi lane (broadcast T16 s)) (broadcast T16 0#32)) b a) (xorLane s))

/-- A tile's maxima over `2 ^ d` tiles from tile `lo` on (`n` of them there): the tree of folds. -/
def bmV (ld : Nat → FVec F T16 .bf16) : Nat → Nat → Nat → FVec F T16 .bf16
  | 0, lo, _ => absf (ld lo)
  | d + 1, lo, n =>
    if n ≤ 2 ^ d then foldT (bmV ld d lo n) (BitVec.ofNat 32 (2 ^ d))
    else mergeT (bmV ld d lo (2 ^ d)) (bmV ld d (lo + 2 ^ d) (n - 2 ^ d)) (BitVec.ofNat 32 (2 ^ d))

/-- One step of the search for a float's biased exponent: `n + s` if `v` is at least that power, else `n`. -/
def expStep (v : FVec F T16 .f32) (n : IVec T16 32) (s : BitVec 32) : IVec T16 32 :=
  select (cmpf .oge v (bitcastToFloat .f32 (shli (addi n (broadcast T16 s)) (broadcast T16 23#32))))
    (addi n (broadcast T16 s)) n

/-- The biased exponent, bit by bit from the top. -/
def biasedExp (v : FVec F T16 .f32) : IVec T16 32 :=
  expStep v (expStep v (expStep v (expStep v (expStep v (expStep v (expStep v (expStep v
    (broadcast T16 0#32) 128#32) 64#32) 32#32) 16#32) 8#32) 4#32) 2#32) 1#32

/-- The word of an inverse scale from a biased exponent; -/
def invWord (n : IVec T16 32) : IVec T16 32 :=
  shli (subi (broadcast T16 127#32)
    (select (ori (cmpi .eq n (broadcast T16 0#32)) (cmpi .eq n (broadcast T16 255#32))) (broadcast T16 0#32)
      (subi n (broadcast T16 126#32)))) (broadcast T16 23#32)

/-- and from the block maxima. -/
def invT (y : FVec F T16 .bf16) : IVec T16 32 :=
  invWord (biasedExp (mulf (extf .f32 y bits_16_32) (broadcast T16 (Scalar.ofBits .f32 0x3B124925#32))))

/-- The inverse scale as a float, -/
def invB (w : IVec T16 32) : FVec F T16 .bf16 := truncf .bf16 (bitcastToFloat .f32 w) bits_16_32

/-- the scale. -/
def scaleB (w : IVec T16 32) : FVec F T16 .bf16 :=
  truncf .bf16 (bitcastToFloat .f32 (subi (broadcast T16 2130706432#32) w)) bits_16_32

/-- The words in the order the scales are stored. -/
def ordT (w : IVec T16 32) : IVec T16 32 :=
  permI w (addi (muli (broadcast T16 32#32) (andi lane (broadcast T16 3#32))) (shrsi lane (broadcast T16 2#32)))

/-- The scales as stored. -/
def scaleT (w : IVec T16 32) : FVec F T16 .f32 := extf .f32 (scaleB (ordT w)) bits_16_32

/-- Tile `j`'s words: lane `l` of tile `j` belongs to the block whose word is at lane `32 ⌊l / 32⌋ + j`. -/
def tileW (w : IVec T16 32) (j : Nat) : IVec T16 32 :=
  permI w (ori (andi lane (broadcast T16 96#32)) (broadcast T16 (BitVec.ofNat 32 j)))

/-- A tile scaled and clipped. -/
def clipT (x : FVec F T16 .bf16) (iv : IVec T16 32) : FVec F T16 .bf16 :=
  minimumf (broadcast T16 (Scalar.truncf .bf16 bits_16_32 (Scalar.ofBits .f32 0x43E00000#32)))
    (maximumf (broadcast T16 (Scalar.truncf .bf16 bits_16_32 (Scalar.ofBits .f32 0xC3E00000#32)))
      (mulf x (invB iv)))

/-- The codes of 32 rows of a tile. -/
def codesT (x₀ : FVec F T16 .bf16) (iv₀ : IVec T16 32) (x₁ : FVec F T16 .bf16) (iv₁ : IVec T16 32) :
    FVec F T32 .fp8e4m3 :=
  truncf .fp8e4m3 (concatenate T32 0 [⟨T16, clipT x₀ iv₀⟩, ⟨T16, clipT x₁ iv₁⟩] concats) bits_8_16

/-- The codes widened: the upper 16 rows, -/
def wide₀ (c : FVec F T32 .fp8e4m3) (iv : IVec T16 32) : FVec F T16 .bf16 :=
  shapeCast T16 (mulf (extractStridedSlice T16 ![0, 0] (extf .bf16 c bits_8_16) slice0) (scaleB iv)) t16_same

/-- the lower. -/
def wide₁ (c : FVec F T32 .fp8e4m3) (iv : IVec T16 32) : FVec F T16 .bf16 :=
  shapeCast T16 (mulf (extractStridedSlice T16 ![16, 0] (extf .bf16 c bits_8_16) slice16) (scaleB iv)) t16_same

/-! ## Offsets and evidence -/

/-- The first row of trip `k`, as a word; -/
def rowW (k : Nat) : BitVec 32 :=
  Scalar.muli (Scalar.addi 0#32 (Scalar.muli (Scf.iv 0#32 1#32 k) 1#32)) 32#32

/-- as an offset; -/
def row32 (k : Nat) : Nat := (Scalar.indexCast (rowW k)).toNat

/-- half `h`'s first row. -/
def row16 (k h : Nat) : Nat := (Scalar.indexCast (Scalar.addi (rowW k) (BitVec.ofNat 32 (16 * h)))).toNat

theorem row32_eq {k : Nat} (hk : k < 8) : row32 k = 32 * k :=
  (by decide +kernel : ∀ k : Fin 8, row32 k.val = 32 * k.val) ⟨k, hk⟩

theorem row16_eq {k h : Nat} (hk : k < 8) (hh : h < 2) : row16 k h = 32 * k + 16 * h :=
  (by decide +kernel : ∀ (k : Fin 8) (h : Fin 2), row16 k.val h.val = 32 * k.val + 16 * h.val) ⟨k, hk⟩ ⟨h, hh⟩

theorem inb16 {k h j : Nat} (hk : k < 8) (hh : h < 2) (hj : j < 90) :
    ∀ a, (![row16 k h, 128 * j] : Fin 2 → Nat) a + T16.size a ≤ SX.size a
  | 0 => by have := row16_eq hk hh; show row16 k h + 16 ≤ 256; omega
  | 1 => by show 128 * j + 128 ≤ 11520; omega

theorem inb32 {k j : Nat} (hk : k < 8) (hj : j < 90) :
    ∀ a, (![row32 k, 128 * j] : Fin 2 → Nat) a + T32.size a ≤ SX.size a
  | 0 => by have := row32_eq hk; show row32 k + 32 ≤ 256; omega
  | 1 => by show 128 * j + 128 ≤ 11520; omega

theorem inbS {k h t : Nat} (hk : k < 8) (hh : h < 2) (ht : 4 * t + 128 ≤ 360) :
    ∀ a, (![row16 k h, 4 * t] : Fin 2 → Nat) a + T16.size a ≤ SS.size a
  | 0 => by have := row16_eq hk hh; show row16 k h + 16 ≤ 256; omega
  | 1 => ht

theorem inbS' {k h t : Nat} (hk : k < 8) (hh : h < 2) (ht : 4 * t + 104 ≤ 360) :
    ∀ a, (![row16 k h, 4 * t] : Fin 2 → Nat) a + T104.size a ≤ SS.size a
  | 0 => by have := row16_eq hk hh; show row16 k h + 16 ≤ 256; omega
  | 1 => ht

/-- The rectangle of half `h` of tile `j`; -/
abbrev rect16 {k h j : Nat} (hk : k < 8) (hh : h < 2) (hj : j < 90) : Rect SX :=
  Rect.unit (s := SX) ![row16 k h, 128 * j] T16.size (inb16 hk hh hj)

/-- of both halves; -/
abbrev rect32 {k j : Nat} (hk : k < 8) (hj : j < 90) : Rect SX :=
  Rect.unit (s := SX) ![row32 k, 128 * j] T32.size (inb32 hk hj)

/-- of 128 scales from tile `t` on, -/
abbrev rectS {k h t : Nat} (hk : k < 8) (hh : h < 2) (ht : 4 * t + 128 ≤ 360) : Rect SS :=
  Rect.unit (s := SS) ![row16 k h, 4 * t] T16.size (inbS hk hh ht)

/-- and of 104. -/
abbrev rectS' {k h t : Nat} (hk : k < 8) (hh : h < 2) (ht : 4 * t + 104 ≤ 360) : Rect SS :=
  Rect.unit (s := SS) ![row16 k h, 4 * t] T104.size (inbS' hk hh ht)

theorem packed16 {k h j : Nat} (hk : k < 8) (hh : h < 2) (hj : j < 90) :
    (rect16 hk hh hj).PackedRows (EltTy.packing .bf16) := by
  refine .inr ⟨by decide, rfl, .inl ⟨?_, ?_⟩⟩
  · show 2 ∣ row16 k h
    rw [row16_eq hk hh]; omega
  · show 2 ∣ 16
    decide

theorem packed32 {k j : Nat} (hk : k < 8) (hj : j < 90) :
    (rect32 hk hj).PackedRows (EltTy.packing .fp8e4m3) := by
  refine .inr ⟨by decide, rfl, .inl ⟨?_, ?_⟩⟩
  · show 4 ∣ row32 k
    rw [row32_eq hk]; omega
  · show 4 ∣ 32
    decide

/-! ## The program -/

variable {nD : Nat} {τ : Topo} {sig : RefSig} {Λ : Labels}

/-- The programs written here: a TensorCore's, of no value. -/
abbrev P (nD : Nat) (τ : Topo) (sig : RefSig) (F : FTy → Type) (Λ : Labels) : Type 1 :=
  Prog (TpuEff nD τ sig (Elt F) Λ .tc) PUnit

variable (g : Vec F T16 .bf16 → FVec F T16 .bf16)
  (src : Memref sig .tc .vmem SX .bf16) (codes : Memref sig .tc .vmem SX .fp8e4m3)
  (scales : Memref sig .tc .vmem SS .f32) (q : Memref sig .tc .vmem SX .bf16)
  (hcodes : codes.IsWhole) (hq : q.IsWhole)

/-- Load half `h` of tile `j`. -/
def ldP {k h j : Nat} (hk : k < 8) (hh : h < 2) (hj : j < 90) (K : FVec F T16 .bf16 → P nD τ sig F Λ) : P nD τ sig F Λ :=
  .op (.load src (rect16 hk hh hj).toLoadRect (View.loadsAt_vmem pos16)) fun x => K (g x)

/-- The tree of folds, loading its tiles from left to right. -/
def bmP {k h : Nat} (hk : k < 8) (hh : h < 2) :
    (d lo n : Nat) → 0 < n → lo + n ≤ 90 → (FVec F T16 .bf16 → P nD τ sig F Λ) → P nD τ sig F Λ
  | 0, lo, n, h0, h1, K => ldP g src hk hh (j := lo) (by omega) fun x => K (absf x)
  | d + 1, lo, n, h0, h1, K =>
    if hn : n ≤ 2 ^ d then bmP hk hh d lo n h0 h1 fun a => K (foldT a (BitVec.ofNat 32 (2 ^ d)))
    else bmP hk hh d lo (2 ^ d) (Nat.two_pow_pos d) (by omega) fun a =>
      bmP hk hh d (lo + 2 ^ d) (n - 2 ^ d) (by omega) (by omega) fun b => K (mergeT a b (BitVec.ofNat 32 (2 ^ d)))

/-- Store 128 columns of scales (the body reads the place first), -/
def stS {k h t : Nat} (hk : k < 8) (hh : h < 2) (ht : 4 * t + 128 ≤ 360) (v : FVec F T16 .f32) (K : P nD τ sig F Λ) :
    P nD τ sig F Λ :=
  .op (.load scales (rectS hk hh ht).toLoadRect (View.loadsAt_vmem pos16)) fun _ =>
    .op (.store scales (rectS hk hh ht) v Finset.univ (View.stores_vmem_bits_univ pos16 rfl) (.inl rfl)) fun _ => K

/-- or the first 104 of them. -/
def stS' {k h t : Nat} (hk : k < 8) (hh : h < 2) (ht : 4 * t + 104 ≤ 360) (v : FVec F T16 .f32) (K : P nD τ sig F Λ) :
    P nD τ sig F Λ :=
  .op (.load scales (rectS' hk hh ht).toLoadRect (View.loadsAt_vmem pos104)) fun _ =>
    .op (.store scales (rectS' hk hh ht) (extractStridedSlice T104 ![0, 0] v slice104) Finset.univ
      (View.stores_vmem_bits_univ pos104 rfl) (.inl rfl)) fun _ => K

/-- Store half `h` of tile `j` of the widened codes. -/
def stQ {k h j : Nat} (hk : k < 8) (hh : h < 2) (hj : j < 90) (v : FVec F T16 .bf16) (K : P nD τ sig F Λ) : P nD τ sig F Λ :=
  .op (.load q (rect16 hk hh hj).toLoadRect (View.loadsAt_vmem pos16)) fun _ =>
    .op (.store q (rect16 hk hh hj) v Finset.univ
      (View.stores_vmem pos16 (hq.storeExact_slice rfl _ (packed16 hk hh hj)) (fun _ => rfl)) (.inl rfl)) fun _ => K

/-- Store tile `j` of the codes. -/
def stC {k j : Nat} (hk : k < 8) (hj : j < 90) (v : FVec F T32 .fp8e4m3) (K : P nD τ sig F Λ) : P nD τ sig F Λ :=
  .op (.load codes (rect32 hk hj).toLoadRect (View.loadsAt_vmem pos32)) fun _ =>
    .op (.store codes (rect32 hk hj) v Finset.univ
      (View.stores_vmem pos32 (hcodes.storeExact_slice rfl _ (packed32 hk hj)) (fun _ => rfl)) (.inl rfl)) fun _ => K

/-- Quantise tile `t + j`, from the words of its group. -/
def tileP {k t j : Nat} (hk : k < 8) (hj : t + j < 90) (w₀ w₁ : IVec T16 32) (K : P nD τ sig F Λ) : P nD τ sig F Λ :=
  ldP g src hk (h := 0) (by decide) hj fun x₀ => ldP g src hk (h := 1) (by decide) hj fun x₁ =>
    stC codes hcodes hk hj (codesT x₀ (tileW w₀ j) x₁ (tileW w₁ j)) <|
      stQ q hq hk (h := 0) (by decide) hj (wide₀ (codesT x₀ (tileW w₀ j) x₁ (tileW w₁ j)) (tileW w₀ j)) <|
        stQ q hq hk (h := 1) (by decide) hj (wide₁ (codesT x₀ (tileW w₀ j) x₁ (tileW w₁ j)) (tileW w₁ j)) K

/-- Quantise the `n` tiles from `t + j` on. -/
def tilesP (k t : Nat) (hk : k < 8) (w₀ w₁ : IVec T16 32) :
    (n j : Nat) → t + j + n ≤ 90 → P nD τ sig F Λ → P nD τ sig F Λ
  | 0, _, _, K => K
  | n + 1, j, h, K =>
    tileP g src codes q hcodes hq hk (t := t) (j := j) (by omega) w₀ w₁ (tilesP k t hk w₀ w₁ n (j + 1) (by omega) K)

/-- A group of 32 tiles: the scales of both halves, then the tiles; -/
def groupP {k t : Nat} (hk : k < 8) (ht : t + 32 ≤ 64) (K : P nD τ sig F Λ) : P nD τ sig F Λ :=
  bmP g src hk (h := 0) (by decide) 5 t 32 (by decide) (by omega) fun y₀ =>
    stS scales hk (h := 0) (t := t) (by decide) (by omega) (scaleT (invT y₀)) <|
      bmP g src hk (h := 1) (by decide) 5 t 32 (by decide) (by omega) fun y₁ =>
        stS scales hk (h := 1) (t := t) (by decide) (by omega) (scaleT (invT y₁)) <|
          tilesP g src codes q hcodes hq k t hk (invT y₀) (invT y₁) 32 0 (by omega) K

/-- the last group, of 26 tiles. -/
def lastP {k : Nat} (hk : k < 8) (K : P nD τ sig F Λ) : P nD τ sig F Λ :=
  bmP g src hk (h := 0) (by decide) 5 64 26 (by decide) (by omega) fun y₀ =>
    stS' scales hk (h := 0) (t := 64) (by decide) (by omega) (scaleT (invT y₀)) <|
      bmP g src hk (h := 1) (by decide) 5 64 26 (by decide) (by omega) fun y₁ =>
        stS' scales hk (h := 1) (t := 64) (by decide) (by omega) (scaleT (invT y₁)) <|
          tilesP g src codes q hcodes hq k 64 hk (invT y₀) (invT y₁) 26 0 (by omega) K

/-- 32 rows. -/
def quantRows {k : Nat} (hk : k < 8) : P nD τ sig F Λ :=
  groupP g src codes scales q hcodes hq (t := 0) hk (by decide) <|
    groupP g src codes scales q hcodes hq (t := 32) hk (by decide) <|
      lastP g src codes scales q hcodes hq hk (.ret ⟨⟩)

end Mx
-- ==== Proof.Wp.lean ====
/-
  What the quantiser of `Tile.lean` leaves: from any memrefs, its eight trips fill the codes, the scales and the
  widened codes with closed forms of the rows they read (`codesOf`, `scalesOf`, `wideOf`).
-/
module

public import proofs.«01_k».proof.Proof.Tile
public import Idealize.ShloMosaic.Lib.Memref
public import Idealize.ShloMosaic.Lib.Writes
public import Idealize.ShloMosaic.Rules.Step

@[expose] public section

set_option maxRecDepth 16384

noncomputable section

namespace Mx

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The closed forms -/

/-- The cell at row `a`, column `b` (wrapped into the array). -/
def cx (a b : Nat) : SX.Idx := fun
  | 0 => ⟨a % 256, Nat.mod_lt _ (by decide)⟩
  | 1 => ⟨b % 11520, Nat.mod_lt _ (by decide)⟩

/-- The cell of a register tile; -/
def c16 (a b : Nat) : T16.Idx := fun
  | 0 => ⟨a % 16, Nat.mod_lt _ (by decide)⟩
  | 1 => ⟨b % 128, Nat.mod_lt _ (by decide)⟩

/-- of a tile of codes. -/
def c32 (a b : Nat) : T32.Idx := fun
  | 0 => ⟨a % 32, Nat.mod_lt _ (by decide)⟩
  | 1 => ⟨b % 128, Nat.mod_lt _ (by decide)⟩

/-- Tile `j` of the 16 rows from `r0` on. -/
def tileOf (X : SX.Idx → Elt F .bf16) (r0 j : Nat) : FVec F T16 .bf16 := fun i => X (cx (r0 + (i 0).val) (128 * j + (i 1).val))

/-- How many tiles the group of 32 from tile `t` on has. -/
def grpN (t : Nat) : Nat := min 32 (90 - t)

/-- The words of the group of tiles from `t` on, 16 rows from `r0` on. -/
def wordsOf (X : SX.Idx → Elt F .bf16) (r0 t : Nat) : IVec T16 32 := invT (bmV (tileOf X r0) 5 t (grpN t))

/-- The codes of tile `j`, 32 rows from `r0` on. -/
def codeTile (X : SX.Idx → Elt F .bf16) (r0 j : Nat) : FVec F T32 .fp8e4m3 :=
  codesT (tileOf X r0 j) (tileW (wordsOf X r0 (32 * (j / 32))) (j % 32))
    (tileOf X (r0 + 16) j) (tileW (wordsOf X (r0 + 16) (32 * (j / 32))) (j % 32))

/-- Its widened codes, by half. -/
def wideTile (X : SX.Idx → Elt F .bf16) (r0 h j : Nat) : FVec F T16 .bf16 :=
  if h = 0 then wide₀ (codeTile X r0 j) (tileW (wordsOf X r0 (32 * (j / 32))) (j % 32))
  else wide₁ (codeTile X r0 j) (tileW (wordsOf X (r0 + 16) (32 * (j / 32))) (j % 32))

/-- The codes of the whole array; -/
def codesOf (X : SX.Idx → Elt F .bf16) : SX.Idx → Elt F .fp8e4m3 := fun y =>
  codeTile X (32 * ((y 0).val / 32)) ((y 1).val / 128) (c32 ((y 0).val % 32) ((y 1).val % 128))

/-- the widened codes; -/
def wideOf (X : SX.Idx → Elt F .bf16) : SX.Idx → Elt F .bf16 := fun y =>
  wideTile X (32 * ((y 0).val / 32)) ((y 0).val % 32 / 16) ((y 1).val / 128) (c16 ((y 0).val % 16) ((y 1).val % 128))

/-- the scales. -/
def scalesOf (X : SX.Idx → Elt F .bf16) : SS.Idx → Elt F .f32 := fun y =>
  scaleT (wordsOf X (16 * ((y 0).val / 16)) (32 * ((y 1).val / 128))) (c16 ((y 0).val % 16) ((y 1).val % 128))

/-- `C` agrees with `C'` on the rows of the first `k` trips and the first `b` columns of trip `k`'s. -/
def Upto {n : Nat} {α : Type} (k b : Nat) (C C' : (⟨2, ![256, n]⟩ : Shape).Idx → α) : Prop :=
  ∀ y, ((y 0).val < 32 * k ∨ ((y 0).val < 32 * k + 32 ∧ (y 1).val < b)) → C y = C' y

theorem Upto.next {n k b : Nat} {α : Type} {C C' : (⟨2, ![256, n]⟩ : Shape).Idx → α} (h : Upto k b C C') (hb : n ≤ b) :
    Upto (k + 1) 0 C C' := fun y hy => h y (by
  have h1 : (y 1).val < n := (y 1).isLt
  omega)

theorem Upto.all {n b : Nat} {α : Type} {C C' : (⟨2, ![256, n]⟩ : Shape).Idx → α} (h : Upto 8 b C C') : C = C' :=
  funext fun y => h y (.inl (by have : (y 0).val < 256 := (y 0).isLt; omega))

theorem Upto.zero {n : Nat} {α : Type} (C C' : (⟨2, ![256, n]⟩ : Shape).Idx → α) : Upto 0 0 C C' :=
  fun y hy => absurd hy (by omega)

/-- Writing a rectangle of the right values extends the agreement (`H` rows from `r0` on, `B` columns from `b` on). -/
theorem overlay_eq {n : Nat} {α : Type} {C C' : (⟨2, ![256, n]⟩ : Shape).Idx → α} (r : Rect ⟨2, ![256, n]⟩)
    (hst : ∀ a, r.stride a = 1) (w : r.shape.Idx → α) (hw : ∀ x, w x = C' (r.emb x)) (y : (⟨2, ![256, n]⟩ : Shape).Idx)
    (h : C y = C' y ∨ ((r.off 0 ≤ (y 0).val ∧ (y 0).val < r.off 0 + r.size 0) ∧ r.off 1 ≤ (y 1).val ∧ (y 1).val < r.off 1 + r.size 1)) :
    r.overlay C w y = C' y := by
  by_cases hy : y ∈ r.set
  · obtain ⟨x, rfl⟩ : ∃ x, r.emb x = y := by
      rw [← Rect.map_emb_univ] at hy
      obtain ⟨x, -, hx⟩ := Finset.mem_map.mp hy
      exact ⟨x, hx⟩
    rw [Rect.overlay_emb]; exact hw x
  · rw [Rect.overlay_of_not_mem _ _ _ hy]
    rcases h with h | h
    · exact h
    · refine absurd (r.mem_set.mpr fun a => ?_) hy
      match a with
      | 0 => exact ⟨(y 0).val - r.off 0, by omega, by rw [hst]; omega⟩
      | 1 => exact ⟨(y 1).val - r.off 1, by omega, by rw [hst]; omega⟩

/-! ## Loads and stores over owned memrefs -/

section Wp

variable {nD : Nat} {τ : Topo} {sig : RefSig} {Ix : Type} [DecidableEq Ix]
variable {Name : Type} [DecidableEq Name] {U : Type} [URA U] {Lvl : Type} {Λ : Labels} [Preorder Lvl]
variable {defs : Defs nD τ sig (Elt F) Λ} (𝒱 : Variants) (c : Dev nD) (bd : Option 𝒱.V) (E : Set Name)

local notation "𝕄" => MT nD τ sig Ix (Elt F) Name U Lvl
local notation "WP" => wp frame (wpE (Ix := Ix) (Name := Name) (U := U) (Lvl := Lvl) defs 𝒱 (c : Thread nD τ) bd) E

variable {α : Type}

/-- A load reads the owned contents through its rectangle. -/
theorem wp_ld {s : Shape} {e : EltTy} {m : Memref sig .tc .vmem s e} {r : Rect s} {hl : m.view.LoadsAt r.toLoadRect}
    {k : (r.shape.Idx → Elt F e) → Prog (TpuEff nD τ sig (Elt F) Λ .tc) α} {q : PosShare TreeShare} (X : s.Idx → Elt F e) {Q : α → sProp 𝕄} :
    iprop(ownsTc c m q X ∗ (ownsTc c m q X -∗ WP (k fun x => X (r.emb x)) Q)) ⊢ WP (.op (.load m r.toLoadRect hl) k) Q := by
  unfold ownsTc owns
  iintro ⟨H, HK⟩
  icases H with ⟨%f, %hf, H⟩
  iapply (wp_load_rect (m := m) (r := r) (hl := hl) (k := k) (Q := Q) 𝒱 (c : Thread nD τ) bd E (S := m.view.set) (View.set_slice_subset m.view r)) $$ H
  iintro H
  have hv : (m.access r).read (Elt F) f = fun x => X (r.emb x) := by
    subst hf; rfl
  rw [hv]
  iapply HK
  iexists f
  isplitr
  · ipureintro; exact hf
  · iexact H

/-- A store overlays its rectangle. -/
theorem wp_st {s : Shape} {e : EltTy} {m : Memref sig .tc .vmem s e} {r : Rect s} {w : r.shape.Idx → Elt F e}
    {hx : (m.access r).Stores Finset.univ} {hm : Finset.univ = Finset.univ ∨ ∀ a, r.stride a = 1}
    {k : PUnit → Prog (TpuEff nD τ sig (Elt F) Λ .tc) α} (X : s.Idx → Elt F e) {Q : α → sProp 𝕄} :
    iprop(ownsTc c m fullShare X ∗ (ownsTc c m fullShare (r.overlay X w) -∗ WP (k ⟨⟩) Q))
      ⊢ WP (.op (.store m r w Finset.univ hx hm) k) Q := by
  unfold ownsTc owns
  iintro ⟨H, HK⟩
  icases H with ⟨%f, %hf, H⟩
  iapply (wp_store (m := m) (r := r) (w := w) (hx := hx) (hm := hm) (k := k) (Q := Q) 𝒱 (c : Thread nD τ) bd E (S := m.view.set) (View.set_slice_subset m.view r)) $$ H
  iintro H
  iapply HK
  iexists _
  isplitr
  rotate_left
  · iexact H
  · ipureintro
    funext y
    by_cases hy : y ∈ r.set
    · obtain ⟨x, rfl⟩ : ∃ x, r.emb x = y := by
        rw [← Rect.map_emb_univ] at hy
        obtain ⟨x, -, hx⟩ := Finset.mem_map.mp hy
        exact ⟨x, hx⟩
      rw [Rect.overlay_emb]
      exact congrFun (View.read_write_univ (v := m.access r) f w) x
    · rw [Rect.overlay_of_not_mem _ _ _ hy, ← hf]
      exact View.read_slice_write_of_not_mem (v := m.view) r f w Finset.univ (by rwa [Rect.map_emb_univ])

end Wp

end Mx
-- ==== Proof.Rows.lean ====
/-
  The quantiser's trips, run: each stores its rows of the closed forms of `Wp.lean` (`wp_quantRows`).
-/
module

public import proofs.«01_k».proof.Proof.Wp

@[expose] public section

set_option maxRecDepth 16384

noncomputable section

namespace Mx

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Where the rectangles lie -/

theorem rect16_emb {k h j : Nat} (hk : k < 8) (hh : h < 2) (hj : j < 90) (x : (rect16 hk hh hj).shape.Idx) :
    (rect16 hk hh hj).emb x = cx (32 * k + 16 * h + (x 0).val) (128 * j + (x 1).val) := by
  have h0 : (x 0).val < 16 := (x 0).isLt
  have h1 : (x 1).val < 128 := (x 1).isLt
  refine Rect.emb_eq_of_coords _ _ _ fun a => ?_
  match a with
  | 0 =>
    show (32 * k + 16 * h + (x 0).val) % 256 = row16 k h + 1 * (x 0).val
    rw [row16_eq hk hh]; omega
  | 1 =>
    show (128 * j + (x 1).val) % 11520 = 128 * j + 1 * (x 1).val
    omega

theorem rect32_emb {k j : Nat} (hk : k < 8) (hj : j < 90) (x : (rect32 hk hj).shape.Idx) :
    (rect32 hk hj).emb x = cx (32 * k + (x 0).val) (128 * j + (x 1).val) := by
  have h0 : (x 0).val < 32 := (x 0).isLt
  have h1 : (x 1).val < 128 := (x 1).isLt
  refine Rect.emb_eq_of_coords _ _ _ fun a => ?_
  match a with
  | 0 =>
    show (32 * k + (x 0).val) % 256 = row32 k + 1 * (x 0).val
    rw [row32_eq hk]; omega
  | 1 =>
    show (128 * j + (x 1).val) % 11520 = 128 * j + 1 * (x 1).val
    omega

theorem c16_eq (x : T16.Idx) (a b : Nat) (ha : a = (x 0).val) (hb : b = (x 1).val) : c16 a b = x := by
  have h0 : (x 0).val < 16 := (x 0).isLt
  have h1 : (x 1).val < 128 := (x 1).isLt
  funext a
  match a with
  | 0 => exact Fin.ext (show _ % 16 = _ by omega)
  | 1 => exact Fin.ext (show _ % 128 = _ by omega)

theorem c32_eq (x : T32.Idx) (a b : Nat) (ha : a = (x 0).val) (hb : b = (x 1).val) : c32 a b = x := by
  have h0 : (x 0).val < 32 := (x 0).isLt
  have h1 : (x 1).val < 128 := (x 1).isLt
  funext a
  match a with
  | 0 => exact Fin.ext (show _ % 32 = _ by omega)
  | 1 => exact Fin.ext (show _ % 128 = _ by omega)

variable (X : SX.Idx → Elt F .bf16)

/-- A tile read through its rectangle. -/
theorem read16 {k h j : Nat} (hk : k < 8) (hh : h < 2) (hj : j < 90) :
    (fun x => X ((rect16 hk hh hj).emb x)) = tileOf X (32 * k + 16 * h) j :=
  funext fun x => congrArg X (rect16_emb hk hh hj x)

/-- Tile `j`'s codes are the closed form's there; -/
theorem codeTile_eq {k j : Nat} (hk : k < 8) (hj : j < 90) (x : (rect32 hk hj).shape.Idx) :
    codeTile X (32 * k) j x = codesOf X ((rect32 hk hj).emb x) := by
  have h0 : (x 0).val < 32 := (x 0).isLt
  have h1 : (x 1).val < 128 := (x 1).isLt
  rw [rect32_emb hk hj]
  show _ = codeTile X (32 * ((32 * k + (x 0).val) % 256 / 32)) ((128 * j + (x 1).val) % 11520 / 128)
    (c32 ((32 * k + (x 0).val) % 256 % 32) ((128 * j + (x 1).val) % 11520 % 128))
  rw [c32_eq x _ _ (by omega) (by omega), show 32 * ((32 * k + (x 0).val) % 256 / 32) = 32 * k by omega,
    show (128 * j + (x 1).val) % 11520 / 128 = j by omega]

/-- its widened codes. -/
theorem wideTile_eq {k h j : Nat} (hk : k < 8) (hh : h < 2) (hj : j < 90) (x : (rect16 hk hh hj).shape.Idx) :
    wideTile X (32 * k) h j x = wideOf X ((rect16 hk hh hj).emb x) := by
  have h0 : (x 0).val < 16 := (x 0).isLt
  have h1 : (x 1).val < 128 := (x 1).isLt
  rw [rect16_emb hk hh hj]
  show _ = wideTile X (32 * ((32 * k + 16 * h + (x 0).val) % 256 / 32)) ((32 * k + 16 * h + (x 0).val) % 256 % 32 / 16)
    ((128 * j + (x 1).val) % 11520 / 128)
    (c16 ((32 * k + 16 * h + (x 0).val) % 256 % 16) ((128 * j + (x 1).val) % 11520 % 128))
  rw [c16_eq x _ _ (by omega) (by omega), show 32 * ((32 * k + 16 * h + (x 0).val) % 256 / 32) = 32 * k by omega,
    show (32 * k + 16 * h + (x 0).val) % 256 % 32 / 16 = h by omega,
    show (128 * j + (x 1).val) % 11520 / 128 = j by omega]

/-- The scales of a group of 32 tiles are the closed form's; -/
theorem scaleT_eq {k h t : Nat} (hk : k < 8) (hh : h < 2) (ht : 4 * t + 128 ≤ 360) (h32 : t % 32 = 0)
    (x : (rectS hk hh ht).shape.Idx) :
    scaleT (wordsOf X (32 * k + 16 * h) t) x = scalesOf X ((rectS hk hh ht).emb x) := by
  have h0 : (x 0).val < 16 := (x 0).isLt
  have h1 : (x 1).val < 128 := (x 1).isLt
  have e0 : ((rectS hk hh ht).emb x 0).val = 32 * k + 16 * h + (x 0).val := by
    show row16 k h + 1 * (x 0).val = _
    rw [row16_eq hk hh]; omega
  have e1 : ((rectS hk hh ht).emb x 1).val = 4 * t + (x 1).val := by
    show 4 * t + 1 * (x 1).val = _
    omega
  unfold scalesOf
  rw [e0, e1, c16_eq x _ _ (by omega) (by omega), show 16 * ((32 * k + 16 * h + (x 0).val) / 16) = 32 * k + 16 * h by omega,
    show 32 * ((4 * t + (x 1).val) / 128) = t by omega]

/-- of the last group. -/
theorem scaleT_eq' {k h t : Nat} (hk : k < 8) (hh : h < 2) (ht : 4 * t + 104 ≤ 360) (h32 : t % 32 = 0)
    (x : (rectS' hk hh ht).shape.Idx) :
    extractStridedSlice T104 ![0, 0] (scaleT (wordsOf X (32 * k + 16 * h) t)) slice104 x
      = scalesOf X ((rectS' hk hh ht).emb x) := by
  have h0 : (x 0).val < 16 := (x 0).isLt
  have h1 : (x 1).val < 104 := (x 1).isLt
  have e0 : ((rectS' hk hh ht).emb x 0).val = 32 * k + 16 * h + (x 0).val := by
    show row16 k h + 1 * (x 0).val = _
    rw [row16_eq hk hh]; omega
  have e1 : ((rectS' hk hh ht).emb x 1).val = 4 * t + (x 1).val := by
    show 4 * t + 1 * (x 1).val = _
    omega
  have e : ∀ v : FVec F T16 .f32, extractStridedSlice T104 ![0, 0] v slice104 x = v (c16 (x 0).val (x 1).val) := fun v => by
    unfold extractStridedSlice
    refine congrArg v (funext fun a => ?_)
    match a with
    | 0 => exact Fin.ext (show 0 + (x 0).val = (x 0).val % 16 by omega)
    | 1 => exact Fin.ext (show 0 + (x 1).val = (x 1).val % 128 by omega)
  rw [e]
  unfold scalesOf
  rw [e0, e1, show 16 * ((32 * k + 16 * h + (x 0).val) / 16) = 32 * k + 16 * h by omega,
    show 32 * ((4 * t + (x 1).val) / 128) = t by omega,
    c16_eq (c16 (x 0).val (x 1).val) ((32 * k + 16 * h + (x 0).val) % 16) ((4 * t + (x 1).val) % 128)
      (show _ = (x 0).val % 16 by omega) (show _ = (x 1).val % 128 by omega)]

/-! ## The programs -/

section Wp

variable {nD : Nat} {τ : Topo} {sig : RefSig} {Ix : Type} [DecidableEq Ix]
variable {Name : Type} [DecidableEq Name] {U : Type} [URA U] {Lvl : Type} {Λ : Labels} [Preorder Lvl]
variable {defs : Defs nD τ sig (Elt F) Λ} (𝒱 : Variants) (c : Dev nD) (bd : Option 𝒱.V) (E : Set Name)

local notation "𝕄" => MT nD τ sig Ix (Elt F) Name U Lvl
local notation "WP" => wp frame (wpE (Ix := Ix) (Name := Name) (U := U) (Lvl := Lvl) defs 𝒱 (c : Thread nD τ) bd) E

variable (g : Vec F T16 .bf16 → FVec F T16 .bf16) (hg : ∀ x, g x = x)
  (src : Memref sig .tc .vmem SX .bf16) (codes : Memref sig .tc .vmem SX .fp8e4m3)
  (scales : Memref sig .tc .vmem SS .f32) (q : Memref sig .tc .vmem SX .bf16)
  (hcodes : codes.IsWhole) (hq : q.IsWhole)

include hg in
theorem wp_ldP {k h j : Nat} (hk : k < 8) (hh : h < 2) (hj : j < 90) (K : FVec F T16 .bf16 → P nD τ sig F Λ) {Q : PUnit → sProp 𝕄} :
    iprop(ownsTc c src fullShare X ∗ (ownsTc c src fullShare X -∗ WP (K (tileOf X (32 * k + 16 * h) j)) Q))
      ⊢ WP (ldP g src hk hh hj K) Q := by
  have := wp_ld (defs := defs) (Q := Q) 𝒱 c bd E (m := src) (r := rect16 hk hh hj) (hl := View.loadsAt_vmem pos16)
    (k := fun x => K (g x)) (q := fullShare) X
  rw [read16 X hk hh hj, hg] at this
  exact this

include hg in
/-- The tree of folds reads its tiles and folds them. -/
theorem wp_bmP {k h : Nat} (hk : k < 8) (hh : h < 2) : ∀ (d lo n : Nat) (h0 : 0 < n) (h1 : lo + n ≤ 90)
    (K : FVec F T16 .bf16 → P nD τ sig F Λ) (Q : PUnit → sProp 𝕄),
    iprop(ownsTc c src fullShare X ∗ (ownsTc c src fullShare X -∗ WP (K (bmV (tileOf X (32 * k + 16 * h)) d lo n)) Q))
      ⊢ WP (bmP g src hk hh d lo n h0 h1 K) Q
  | 0, lo, n, h0, h1, K, Q => by
    unfold bmP bmV
    exact wp_ldP (defs := defs) (Q := Q) X 𝒱 c bd E g hg src hk hh (by omega) fun x => K (absf x)
  | d + 1, lo, n, h0, h1, K, Q => by
    unfold bmP bmV
    split
    · exact wp_bmP hk hh d lo n h0 h1 (fun a => K (foldT a (BitVec.ofNat 32 (2 ^ d)))) Q
    · iintro ⟨H, HK⟩
      iapply (wp_bmP hk hh d lo (2 ^ d) _ _ _ Q)
      isplitl [H]
      · iexact H
      iintro H
      iapply (wp_bmP hk hh d (lo + 2 ^ d) (n - 2 ^ d) _ _ _ Q)
      isplitl [H]
      · iexact H
      iexact HK

/-- What is owned in the midst of the loop: the source, and the three destinations right up to trip `k`, tile `j`
    (the scales: up to tile `t`). -/
def St (k j t : Nat) : sProp 𝕄 :=
  iprop(∃ C S W, ⌜Upto k (128 * j) C (codesOf X) ∧ Upto k (4 * t) S (scalesOf X) ∧ Upto k (128 * j) W (wideOf X)⌝ ∗
    ownsTc c src fullShare X ∗ ownsTc c codes fullShare C ∗ ownsTc c scales fullShare S ∗ ownsTc c q fullShare W)

local notation "ST" => St (Ix := Ix) (Name := Name) (U := U) (Lvl := Lvl) (τ := τ) X c src codes scales q

include hg in
/-- One tile: its codes and both halves of its widened codes. -/
theorem wp_tileP {k t j t' : Nat} (hk : k < 8) (hj : t + j < 90) (h32 : t % 32 = 0) (hj32 : j < 32)
    (K : P nD τ sig F Λ) (Q : PUnit → sProp 𝕄) :
    iprop(ST k (t + j) t' ∗ (ST k (t + j + 1) t' -∗ WP K Q))
      ⊢ WP (tileP g src codes q hcodes hq hk hj (wordsOf X (32 * k) t) (wordsOf X (32 * k + 16) t) K) Q := by
  unfold tileP
  iintro ⟨HS, HK⟩
  unfold St
  icases HS with ⟨%C, %S, %W, %hI, Hsrc, HC, HS, HW⟩
  obtain ⟨hC, hS, hW⟩ := hI
  iapply (wp_ldP X 𝒱 c bd E g hg src hk _ hj _)
  isplitl [Hsrc]
  · iexact Hsrc
  iintro Hsrc
  iapply (wp_ldP X 𝒱 c bd E g hg src hk _ hj _)
  isplitl [Hsrc]
  · iexact Hsrc
  iintro Hsrc
  have eT : 32 * ((t + j) / 32) = t := by omega
  have eJ : (t + j) % 32 = j := by omega
  have hc : codesT (tileOf X (32 * k + 16 * 0) (t + j)) (tileW (wordsOf X (32 * k) t) j)
      (tileOf X (32 * k + 16 * 1) (t + j)) (tileW (wordsOf X (32 * k + 16) t) j) = codeTile X (32 * k) (t + j) := by
    unfold codeTile; rw [eT, eJ]; rfl
  have hw0 : wide₀ (codeTile X (32 * k) (t + j)) (tileW (wordsOf X (32 * k) t) j) = wideTile X (32 * k) 0 (t + j) := by
    unfold wideTile; rw [if_pos rfl, eT, eJ]
  have hw1 : wide₁ (codeTile X (32 * k) (t + j)) (tileW (wordsOf X (32 * k + 16) t) j) = wideTile X (32 * k) 1 (t + j) := by
    unfold wideTile; rw [if_neg Nat.one_ne_zero, eT, eJ]
  rw [hc, hw0, hw1]
  unfold stC
  iapply (wp_ld 𝒱 c bd E C)
  isplitl [HC]
  · iexact HC
  iintro HC
  iapply (wp_st 𝒱 c bd E C)
  isplitl [HC]
  · iexact HC
  iintro HC
  unfold stQ
  iapply (wp_ld 𝒱 c bd E W)
  isplitl [HW]
  · iexact HW
  iintro HW
  iapply (wp_st 𝒱 c bd E W)
  isplitl [HW]
  · iexact HW
  iintro HW
  iapply (wp_ld 𝒱 c bd E _)
  isplitl [HW]
  · iexact HW
  iintro HW
  iapply (wp_st 𝒱 c bd E _)
  isplitl [HW]
  · iexact HW
  iintro HW
  iapply HK
  iexists _, S, _
  isplitr
  rotate_left
  · isplitl [Hsrc]
    · iexact Hsrc
    isplitl [HC]
    · iexact HC
    isplitl [HS]
    · iexact HS
    iexact HW
  · ipureintro
    have hr32 := row32_eq hk
    have hr0 := row16_eq hk (h := 0) (by decide)
    have hr1 := row16_eq hk (h := 1) (by decide)
    refine ⟨fun y hy => ?_, hS, fun y hy => ?_⟩
    · refine overlay_eq _ (fun _ => rfl) _ (codeTile_eq X hk hj) y ?_
      by_cases hb : (y 0).val < 32 * k ∨ (y 0).val < 32 * k + 32 ∧ (y 1).val < 128 * (t + j)
      · exact .inl (hC y hb)
      · refine .inr ⟨⟨?_, ?_⟩, ?_, ?_⟩
        · show row32 k ≤ _; omega
        · show _ < row32 k + 32; omega
        · show 128 * (t + j) ≤ _; omega
        · show _ < 128 * (t + j) + 128; omega
    · refine overlay_eq _ (fun _ => rfl) _ (wideTile_eq X hk (h := 1) (by decide) hj) y ?_
      by_cases h16 : 32 * k + 16 ≤ (y 0).val ∧ (y 0).val < 32 * k + 32 ∧ 128 * (t + j) ≤ (y 1).val ∧ (y 1).val < 128 * (t + j) + 128
      · refine .inr ⟨⟨?_, ?_⟩, ?_, ?_⟩
        · show row16 k 1 ≤ _; omega
        · show _ < row16 k 1 + 16; omega
        · show 128 * (t + j) ≤ _; omega
        · show _ < 128 * (t + j) + 128; omega
      · refine .inl (overlay_eq _ (fun _ => rfl) _ (wideTile_eq X hk (h := 0) (by decide) hj) y ?_)
        by_cases hb : (y 0).val < 32 * k ∨ (y 0).val < 32 * k + 32 ∧ (y 1).val < 128 * (t + j)
        · exact .inl (hW y hb)
        · refine .inr ⟨⟨?_, ?_⟩, ?_, ?_⟩
          · show row16 k 0 ≤ _; omega
          · show _ < row16 k 0 + 16; omega
          · show 128 * (t + j) ≤ _; omega
          · show _ < 128 * (t + j) + 128; omega

include hg in
/-- The tiles of a group, from left to right. -/
theorem wp_tilesP {k t t' : Nat} (hk : k < 8) (h32 : t % 32 = 0) (K : P nD τ sig F Λ) (Q : PUnit → sProp 𝕄) :
    ∀ (n j : Nat) (h : t + j + n ≤ 90) (hn : j + n ≤ 32),
    iprop(ST k (t + j) t' ∗ (ST k (t + j + n) t' -∗ WP K Q))
      ⊢ WP (tilesP g src codes q hcodes hq k t hk (wordsOf X (32 * k) t) (wordsOf X (32 * k + 16) t) n j h K) Q
  | 0, j, h, hn => by
    unfold tilesP
    iintro ⟨HS, HK⟩
    iapply HK
    iexact HS
  | n + 1, j, h, hn => by
    unfold tilesP
    iintro ⟨HS, HK⟩
    iapply (wp_tileP X 𝒱 c bd E g hg src codes scales q hcodes hq hk (t' := t') _ h32 (by omega) _ Q)
    isplitl [HS]
    · iexact HS
    iintro HS
    have e : t + j + 1 = t + (j + 1) := by omega
    have e' : t + j + (n + 1) = t + (j + 1) + n := by omega
    rw [e, e']
    iapply (wp_tilesP hk h32 K Q n (j + 1) _ (by omega))
    isplitl [HS]
    · iexact HS
    iexact HK

include hg in
/-- A group: its scales and its tiles. -/
theorem wp_groupP {k t : Nat} (hk : k < 8) (ht : t + 32 ≤ 64) (h32 : t % 32 = 0) (K : P nD τ sig F Λ) (Q : PUnit → sProp 𝕄) :
    iprop(ST k t t ∗ (ST k (t + 32) (t + 32) -∗ WP K Q))
      ⊢ WP (groupP g src codes scales q hcodes hq hk ht K) Q := by
  unfold groupP
  iintro ⟨HS, HK⟩
  unfold St
  icases HS with ⟨%C, %S, %W, %hI, Hsrc, HC, HS, HW⟩
  obtain ⟨hC, hS, hW⟩ := hI
  iapply (wp_bmP X 𝒱 c bd E g hg src hk _ 5 t 32 _ _ _ Q)
  isplitl [Hsrc]
  · iexact Hsrc
  iintro Hsrc
  unfold stS
  iapply (wp_ld 𝒱 c bd E S)
  isplitl [HS]
  · iexact HS
  iintro HS
  iapply (wp_st 𝒱 c bd E S)
  isplitl [HS]
  · iexact HS
  iintro HS
  iapply (wp_bmP X 𝒱 c bd E g hg src hk _ 5 t 32 _ _ _ Q)
  isplitl [Hsrc]
  · iexact Hsrc
  iintro Hsrc
  iapply (wp_ld 𝒱 c bd E _)
  isplitl [HS]
  · iexact HS
  iintro HS
  iapply (wp_st 𝒱 c bd E _)
  isplitl [HS]
  · iexact HS
  iintro HS
  have hn : grpN t = 32 := by unfold grpN; omega
  have hw0 : invT (bmV (tileOf X (32 * k + 16 * 0)) 5 t 32) = wordsOf X (32 * k) t := by unfold wordsOf; rw [hn]; rfl
  have hw1 : invT (bmV (tileOf X (32 * k + 16 * 1)) 5 t 32) = wordsOf X (32 * k + 16) t := by unfold wordsOf; rw [hn]
  rw [hw0, hw1]
  iapply (wp_tilesP X 𝒱 c bd E g hg src codes scales q hcodes hq hk (t' := t + 32) h32 K Q 32 0 _ (by omega))
  isplitr [HK]
  · unfold St
    iexists C, _, W
    isplitr
    rotate_left
    · isplitl [Hsrc]
      · iexact Hsrc
      isplitl [HC]
      · iexact HC
      isplitl [HS]
      · iexact HS
      iexact HW
    · ipureintro
      have hr0 := row16_eq hk (h := 0) (by decide)
      have hr1 := row16_eq hk (h := 1) (by decide)
      refine ⟨hC, fun y hy => ?_, hW⟩
      refine overlay_eq _ (fun _ => rfl) _ (scaleT_eq X hk (h := 1) (by decide) (by omega) h32) y ?_
      by_cases h16 : 32 * k + 16 ≤ (y 0).val ∧ (y 0).val < 32 * k + 32 ∧ 4 * t ≤ (y 1).val ∧ (y 1).val < 4 * t + 128
      · refine .inr ⟨⟨?_, ?_⟩, ?_, ?_⟩
        · show row16 k 1 ≤ _; omega
        · show _ < row16 k 1 + 16; omega
        · show 4 * t ≤ _; omega
        · show _ < 4 * t + 128; omega
      · refine .inl (overlay_eq _ (fun _ => rfl) _ (scaleT_eq X hk (h := 0) (by decide) (by omega) h32) y ?_)
        by_cases hb : (y 0).val < 32 * k ∨ (y 0).val < 32 * k + 32 ∧ (y 1).val < 4 * t
        · exact .inl (hS y hb)
        · refine .inr ⟨⟨?_, ?_⟩, ?_, ?_⟩
          · show row16 k 0 ≤ _; omega
          · show _ < row16 k 0 + 16; omega
          · show 4 * t ≤ _; omega
          · show _ < 4 * t + 128; omega
  · iexact HK

include hg in
/-- The last group. -/
theorem wp_lastP {k : Nat} (hk : k < 8) (K : P nD τ sig F Λ) (Q : PUnit → sProp 𝕄) :
    iprop(ST k 64 64 ∗ (ST k 90 90 -∗ WP K Q))
      ⊢ WP (lastP g src codes scales q hcodes hq hk K) Q := by
  unfold lastP
  iintro ⟨HS, HK⟩
  unfold St
  icases HS with ⟨%C, %S, %W, %hI, Hsrc, HC, HS, HW⟩
  obtain ⟨hC, hS, hW⟩ := hI
  iapply (wp_bmP X 𝒱 c bd E g hg src hk _ 5 64 26 _ _ _ Q)
  isplitl [Hsrc]
  · iexact Hsrc
  iintro Hsrc
  unfold stS'
  iapply (wp_ld 𝒱 c bd E S)
  isplitl [HS]
  · iexact HS
  iintro HS
  iapply (wp_st 𝒱 c bd E S)
  isplitl [HS]
  · iexact HS
  iintro HS
  iapply (wp_bmP X 𝒱 c bd E g hg src hk _ 5 64 26 _ _ _ Q)
  isplitl [Hsrc]
  · iexact Hsrc
  iintro Hsrc
  iapply (wp_ld 𝒱 c bd E _)
  isplitl [HS]
  · iexact HS
  iintro HS
  iapply (wp_st 𝒱 c bd E _)
  isplitl [HS]
  · iexact HS
  iintro HS
  have hn : grpN 64 = 26 := by decide
  have hw0 : invT (bmV (tileOf X (32 * k + 16 * 0)) 5 64 26) = wordsOf X (32 * k) 64 := by unfold wordsOf; rw [hn]; rfl
  have hw1 : invT (bmV (tileOf X (32 * k + 16 * 1)) 5 64 26) = wordsOf X (32 * k + 16) 64 := by unfold wordsOf; rw [hn]
  rw [hw0, hw1]
  iapply (wp_tilesP X 𝒱 c bd E g hg src codes scales q hcodes hq hk (t' := 90) (by decide) K Q 26 0 _ (by omega))
  isplitr [HK]
  · unfold St
    iexists C, _, W
    isplitr
    rotate_left
    · isplitl [Hsrc]
      · iexact Hsrc
      isplitl [HC]
      · iexact HC
      isplitl [HS]
      · iexact HS
      iexact HW
    · ipureintro
      have hr0 := row16_eq hk (h := 0) (by decide)
      have hr1 := row16_eq hk (h := 1) (by decide)
      refine ⟨hC, fun y hy => ?_, hW⟩
      refine overlay_eq _ (fun _ => rfl) _ (scaleT_eq' X hk (h := 1) (by decide) (by omega) (by decide)) y ?_
      by_cases h16 : 32 * k + 16 ≤ (y 0).val ∧ (y 0).val < 32 * k + 32 ∧ 4 * 64 ≤ (y 1).val ∧ (y 1).val < 4 * 64 + 104
      · refine .inr ⟨⟨?_, ?_⟩, ?_, ?_⟩
        · show row16 k 1 ≤ _; omega
        · show _ < row16 k 1 + 16; omega
        · show 4 * 64 ≤ _; omega
        · show _ < 4 * 64 + 104; omega
      · refine .inl (overlay_eq _ (fun _ => rfl) _ (scaleT_eq' X hk (h := 0) (by decide) (by omega) (by decide)) y ?_)
        by_cases hb : (y 0).val < 32 * k ∨ (y 0).val < 32 * k + 32 ∧ (y 1).val < 4 * 64
        · exact .inl (hS y hb)
        · refine .inr ⟨⟨?_, ?_⟩, ?_, ?_⟩
          · show row16 k 0 ≤ _; omega
          · show _ < row16 k 0 + 16; omega
          · show 4 * 64 ≤ _; omega
          · show _ < 4 * 64 + 104; omega
  · iexact HK

include hg in
/-- One trip: 32 more rows are right. -/
theorem wp_quantRows {k : Nat} (hk : k < 8) :
    (ST k 0 0) ⊢ WP (quantRows g src codes scales q hcodes hq hk) (fun _ => ST (k + 1) 0 0) := by
  unfold quantRows
  iintro HS
  iapply (wp_groupP X 𝒱 c bd E g hg src codes scales q hcodes hq hk _ (by decide) _ _)
  isplitl [HS]
  · iexact HS
  iintro HS
  iapply (wp_groupP X 𝒱 c bd E g hg src codes scales q hcodes hq hk _ (by decide) _ _)
  isplitl [HS]
  · iexact HS
  iintro HS
  iapply (wp_lastP X 𝒱 c bd E g hg src codes scales q hcodes hq hk _ _)
  isplitl [HS]
  · iexact HS
  iintro HS
  rw [wp_ret]
  imodintro
  unfold St
  icases HS with ⟨%C, %S, %W, %hI, H⟩
  obtain ⟨hC, hS, hW⟩ := hI
  iexists C, S, W
  isplitr
  · ipureintro
    exact ⟨hC.next (by decide), hS.next (by decide), hW.next (by decide)⟩
  · iexact H

end Wp

end Mx
-- ==== Proof.Body.lean ====
/-
  The printed kernel body is the program of `Tile.lean` in its two row loops, then the product and the last step as printed:
  the same text with each loop's region named (`body_eq`, checked by unfolding alone).
-/
module

public import proofs.«01_k».proof.Proof.Tile
public import proofs.«01_k».proof.Proof.Gen.KernelIdeal
public import Idealize.ShloMosaic.Lib.Pipeline.Regions

@[expose] public section

set_option maxRecDepth 65536

noncomputable section

namespace Cert.KernelIdeal.Body

open Idealize.ShloMosaic Idealize.SL.Sem
open Cert.KernelIdeal

variable {F : FTy → Type} [FloatOps F]
variable [Facts]
open Facts₀ Facts

theorem trips_t1 : k0_t1_loop.trips = 8 := by decide +kernel
theorem trips_t2 : k0_t2_loop.trips = 8 := by decide +kernel

theorem trips_lt_t1 (k : Fin k0_t1_loop.trips) : k.val < 8 := trips_t1 ▸ k.isLt
theorem trips_lt_t2 (k : Fin k0_t2_loop.trips) : k.val < 8 := trips_t2 ▸ k.isLt

/-- 16 rows of the last step: from `h`'s, the product's and the gain, the gradient's before its rounding to bf16. -/
def dhTile (v22 : Vec F S16x2880 .bf16) (v36 : Vec F S16x2880 .f32) (v37 : Vec F S1x2880 .f32) : FVec F S16x2880 .bf16 :=
  have v23 : FVec F S16x2880 .bf16 := shapeCast S16x2880 v22 shapeCasts_S16x2880_S16x2880
  have v24 : FVec F S16x2880 .f32 := extf .f32 v23 bitsLt_bf16_f32
  have v25 : FVec F S16x2880 .f32 := mulf v24 v24
  have v26 : FVec F S16 .f32 := multiReduction .add [1] S16 v25 0x00000000#32 reduces_S16x2880_S16 (.inl rfl) rfl
  have v27 : FVec F S16x1 .f32 := shapeCast S16x1 v26 shapeCasts_S16_S16x1
  have v28 : FVec F S16x1 .f32 := broadcast S16x1 (Scalar.ofBits .f32 0x45340000#32)
  have v29 : FVec F S16x1 .f32 := divf v27 v28
  have v30 : FVec F S16x1 .f32 := broadcast S16x1 (Scalar.ofBits .f32 0x358637BD#32)
  have v31 : FVec F S16x1 .f32 := addf v29 v30
  have v32 : FVec F S16x1 .f32 := rsqrt v31
  have v33 : FVec F S16x2880 .f32 := broadcastTo S16x2880 v32 broadcasts_S16x1_S16x2880
  have v34 : FVec F S16x2880 .f32 := mulf v24 v33
  have v38 : FVec F S1x2880 .f32 := shapeCast S1x2880 v37 shapeCasts_S1x2880_S1x2880
  have v39 : FVec F S16x2880 .f32 := broadcastTo S16x2880 v38 broadcasts_S1x2880_S16x2880
  have v40 : FVec F S16x2880 .f32 := mulf v36 v39
  have v41 : FVec F S16x2880 .f32 := mulf v40 v34
  have v42 : FVec F S16 .f32 := multiReduction .add [1] S16 v41 0x00000000#32 reduces_S16x2880_S16 (.inl rfl) rfl
  have v43 : FVec F S16x1 .f32 := shapeCast S16x1 v42 shapeCasts_S16_S16x1
  have v44 : FVec F S16x1 .f32 := broadcast S16x1 (Scalar.ofBits .f32 0x45340000#32)
  have v45 : FVec F S16x1 .f32 := divf v43 v44
  have v46 : FVec F S16x2880 .f32 := broadcastTo S16x2880 v45 broadcasts_S16x1_S16x2880
  have v47 : FVec F S16x2880 .f32 := mulf v34 v46
  have v48 : FVec F S16x2880 .f32 := subf v40 v47
  have v49 : FVec F S16x2880 .f32 := broadcastTo S16x2880 v32 broadcasts_S16x1_S16x2880
  have v50 : FVec F S16x2880 .f32 := mulf v49 v48
  truncf .bf16 v50 bitsLt_bf16_f32

/-- 16 rows of the product rounded to bf16. -/
def dxTile (v36 : Vec F S16x2880 .f32) : FVec F S16x2880 .bf16 := truncf .bf16 v36 bitsLt_bf16_f32

/-- The product of a grid point. -/
def prod (v4 v5 : Vec F S256x11520 .bf16) : FVec F S256x256 .f32 :=
  shapeCast S256x256 (matmul dot_S256x11520_S256x11520_S256x256_1_1_0_0_n_n none v4 v5 (constant S256x256 .f32 0x00000000#32))
    shapeCasts_S256x256_S256x256

section Prog

variable (i : grid0.Coords) (arg1 : Memref sig .tc .vmem S256x11520 .bf16) (harg1 : arg1.IsWhole) (arg2 : Memref sig .tc .vmem S256x11520 .bf16) (harg2 : arg2.IsWhole) (arg3 : Memref sig .tc .vmem S256x2880 .bf16) (harg3 : arg3.IsWhole) (arg4 : Memref sig .tc .vmem S1x2880 .f32) (harg4 : arg4.IsWhole) (arg5 : Memref sig .tc .vmem S256x2880 .bf16) (harg5 : arg5.IsWhole) (arg6 : Memref sig .tc .vmem S256x2880 .bf16) (harg6 : arg6.IsWhole) (arg7 : Memref sig .tc .vmem S256x11520 .fp8e4m3) (harg7 : arg7.IsWhole) (arg8 : Memref sig .tc .vmem S256x360 .f32) (harg8 : arg8.IsWhole) (arg9 : Memref sig .tc .vmem S256x11520 .fp8e4m3) (harg9 : arg9.IsWhole) (arg10 : Memref sig .tc .vmem S256x360 .f32) (harg10 : arg10.IsWhole) (arg11 : Memref sig .tc .vmem S256x11520 .bf16) (harg11 : arg11.IsWhole) (arg12 : Memref sig .tc .vmem S256x11520 .bf16) (harg12 : arg12.IsWhole) (arg13 : Memref sig .tc .vmem S256x3072 .f32) (harg13 : arg13.IsWhole)

/-- One trip of the last step. -/
def rowsOut (k0_h2 : k0_cond2 i = 1#1) (k0_t3 : Fin k0_t3_loop.trips) : Prog (TpuEff nD τ sig (Elt F) Λ₀ .tc) PUnit :=
  .op (.load arg3 (Rect.unit (s := S256x2880) (k0_off368 k0_t3) S16x2880.size (k0_off368_inb i k0_t3 k0_h2)).toLoadRect (View.loadsAt_vmem h_S16x2880)) fun v22 =>
  .op (.load arg13 (Rect.unit (s := S256x3072) (k0_off369 k0_t3) S16x2880.size (k0_off369_inb i k0_t3 k0_h2)).toLoadRect (View.loadsAt_vmem h_S16x2880)) fun v36 =>
  .op (.load arg4 (Rect.unit (s := S1x2880) ![0, 0] S1x2880.size inb_S1x2880_S1x2880_0_0).toLoadRect (View.loadsAt_vmem h_S1x2880)) fun v37 =>
  .op (.load arg5 (Rect.unit (s := S256x2880) (k0_off368 k0_t3) S16x2880.size (k0_off368_inb i k0_t3 k0_h2)).toLoadRect (View.loadsAt_vmem h_S16x2880)) fun _ =>
  .op (.store arg5 (Rect.unit (s := S256x2880) (k0_off368 k0_t3) S16x2880.size (k0_off368_inb i k0_t3 k0_h2)) (dhTile v22 v36 v37) Finset.univ (View.stores_vmem h_S16x2880 (harg5.storeExact_slice rfl _ (k0_off368_packedbf16 i k0_t3 k0_h2)) (fun _ => rfl)) (.inl rfl)) fun _ =>
  .op (.load arg6 (Rect.unit (s := S256x2880) (k0_off368 k0_t3) S16x2880.size (k0_off368_inb i k0_t3 k0_h2)).toLoadRect (View.loadsAt_vmem h_S16x2880)) fun _ =>
  .op (.store arg6 (Rect.unit (s := S256x2880) (k0_off368 k0_t3) S16x2880.size (k0_off368_inb i k0_t3 k0_h2)) (dxTile v36) Finset.univ (View.stores_vmem h_S16x2880 (harg6.storeExact_slice rfl _ (k0_off368_packedbf16 i k0_t3 k0_h2)) (fun _ => rfl)) (.inl rfl)) fun _ =>
  .ret ⟨⟩

/-- The last step, at the last point. -/
def finish : Prog (TpuEff nD τ sig (Elt F) Λ₀ .tc) PUnit :=
  if k0_h2 : k0_cond2 i = 1#1 then
    Scf.Loop.for k0_t3_loop (k0_t3_ok i k0_h2) ⟨⟩ (fun k0_t3 _ => rowsOut i arg3 arg4 arg5 harg5 arg6 harg6 arg13 k0_h2 k0_t3) >>= fun _ => .ret ⟨⟩
  else .ret ⟨⟩

/-- The weight's rows quantised, and the product. -/
def middle : Prog (TpuEff nD τ sig (Elt F) Λ₀ .tc) PUnit :=
  Scf.Loop.for k0_t2_loop k0_t2_ok ⟨⟩ (fun k0_t2 _ =>
    Mx.quantRows Mx.rawT arg2 arg9 arg10 arg12 harg9 harg12 (trips_lt_t2 k0_t2)) >>= fun _ =>
  .op (.load arg11 (Rect.unit (s := S256x11520) ![0, 0] S256x11520.size inb_S256x11520_S256x11520_0_0).toLoadRect (View.loadsAt_vmem h_S256x11520)) fun v4 =>
  .op (.load arg12 (Rect.unit (s := S256x11520) ![0, 0] S256x11520.size inb_S256x11520_S256x11520_0_0).toLoadRect (View.loadsAt_vmem h_S256x11520)) fun v5 =>
  .op (.load arg13 (Rect.unit (s := S256x3072) (k0_off367 i) S256x256.size (k0_off367_inb i)).toLoadRect (View.loadsAt_vmem h_S256x256)) fun _ =>
  .op (.store arg13 (Rect.unit (s := S256x3072) (k0_off367 i) S256x256.size (k0_off367_inb i)) (prod v4 v5) Finset.univ (View.stores_vmem_bits_univ h_S256x256 rfl) (.inl rfl)) fun _ =>
  finish i arg3 arg4 arg5 harg5 arg6 harg6 arg13

/-- The body of a grid point. -/
def body : Prog (TpuEff nD τ sig (Elt F) Λ₀ .tc) PUnit :=
  if k0_h1 : k0_cond1 i = 1#1 then
    Scf.Loop.for k0_t1_loop (k0_t1_ok i k0_h1) ⟨⟩ (fun k0_t1 _ =>
      Mx.quantRows Mx.castT arg1 arg7 arg8 arg11 harg7 harg11 (trips_lt_t1 k0_t1)) >>= fun _ => middle i arg2 arg3 arg4 arg5 harg5 arg6 harg6 arg9 harg9 arg10 arg11 arg12 harg12 arg13
  else middle i arg2 arg3 arg4 arg5 harg5 arg6 harg6 arg9 harg9 arg10 arg11 arg12 harg12 arg13

/-- It is the printed kernel. -/
theorem body_eq :
    cc0_mxfp8_dgrad (F := F) i arg1 harg1 arg2 harg2 arg3 harg3 arg4 harg4 arg5 harg5 arg6 harg6 arg7 harg7 arg8 harg8 arg9 harg9 arg10 harg10 arg11 harg11 arg12 harg12 arg13 harg13 = body i arg1 arg2 arg3 arg4 arg5 harg5 arg6 harg6 arg7 harg7 arg8 arg9 harg9 arg10 arg11 harg11 arg12 harg12 arg13 := by
  chain_rfl

end Prog

end Cert.KernelIdeal.Body
-- ==== Proof.Run.lean ====
/-
  The body of a grid point, run from any contents of its buffers: what it leaves in each (`wp_body`).
-/
module

public import proofs.«01_k».proof.Proof.Rows
public import proofs.«01_k».proof.Proof.Body

@[expose] public section

set_option maxRecDepth 16384

noncomputable section

namespace Cert.KernelIdeal.Body

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal
open Mx (Upto overlay_eq)

variable {F : FTy → Type} [FloatOps F]
variable [Facts]
open Facts₀ Facts

/-! ## Offsets -/

theorem off367 (i : grid0.Coords) : k0_off367 i 0 = 0 ∧ k0_off367 i 1 = 256 * (i 0).val :=
  ⟨rfl, (by decide +kernel : ∀ n : Fin 12, (Scalar.indexCast (Scalar.muli (BitVec.ofNat 32 n.val) 256#32)).toNat = 256 * n.val) (i 0)⟩

theorem off368 : ∀ k : Fin k0_t3_loop.trips, k0_off368 k 0 = 16 * k.val ∧ k0_off368 k 1 = 0 := by decide +kernel

theorem off369 : ∀ k : Fin k0_t3_loop.trips, k0_off369 k 0 = 16 * k.val ∧ k0_off369 k 1 = 0 := by decide +kernel

theorem trips_t3 : k0_t3_loop.trips = 16 := by decide +kernel

theorem cond1_iff (i : grid0.Coords) : k0_cond1 i = 1#1 ↔ (i 0).val = 0 :=
  (by decide +kernel : ∀ n : Fin 12, Iff (Scalar.cmpi .ne (Scalar.extui (Scalar.cmpi .eq (BitVec.ofNat 32 n.val) 0#32) : BitVec 32) 0#32 = 1#1) (n.val = 0)) (i 0)

theorem cond2_iff (i : grid0.Coords) : k0_cond2 i = 1#1 ↔ (i 0).val = 11 :=
  (by decide +kernel : ∀ n : Fin 12, Iff (Scalar.cmpi .ne (Scalar.extui (Scalar.cmpi .eq (BitVec.ofNat 32 n.val) 11#32) : BitVec 32) 0#32 = 1#1) (n.val = 11)) (i 0)

/-! ## The closed forms of the last step -/

def ch (a b : Nat) : S256x2880.Idx := fun
  | 0 => ⟨a % 256, Nat.mod_lt _ (by decide)⟩
  | 1 => ⟨b % 2880, Nat.mod_lt _ (by decide)⟩

def cd (a b : Nat) : S256x3072.Idx := fun
  | 0 => ⟨a % 256, Nat.mod_lt _ (by decide)⟩
  | 1 => ⟨b % 3072, Nat.mod_lt _ (by decide)⟩

def cr (a b : Nat) : S16x2880.Idx := fun
  | 0 => ⟨a % 16, Nat.mod_lt _ (by decide)⟩
  | 1 => ⟨b % 2880, Nat.mod_lt _ (by decide)⟩

/-- 16 rows of `h`; -/
def hRows (H : S256x2880.Idx → Elt F .bf16) (r0 : Nat) : S16x2880.Idx → Elt F .bf16 := fun x => H (ch (r0 + (x 0).val) (x 1).val)

/-- of the product. -/
def dRows (D : S256x3072.Idx → Elt F .f32) (r0 : Nat) : S16x2880.Idx → Elt F .f32 := fun x => D (cd (r0 + (x 0).val) (x 1).val)

/-- The gradient of `h`, from `h`, the gain and the product; -/
def dhOf (H : S256x2880.Idx → Elt F .bf16) (G : S1x2880.Idx → Elt F .f32) (D : S256x3072.Idx → Elt F .f32) :
    S256x2880.Idx → Elt F .bf16 := fun y =>
  dhTile (hRows H (16 * ((y 0).val / 16))) (dRows D (16 * ((y 0).val / 16))) G (cr ((y 0).val % 16) (y 1).val)

/-- of the normalised rows. -/
def dxOf (D : S256x3072.Idx → Elt F .f32) : S256x2880.Idx → Elt F .bf16 := fun y =>
  dxTile (dRows D (16 * ((y 0).val / 16))) (cr ((y 0).val % 16) (y 1).val)

/-- The first rows agree. -/
def Rows {α : Type} (k : Nat) (C C' : S256x2880.Idx → α) : Prop := ∀ y : S256x2880.Idx, (y 0).val < 16 * k → C y = C' y

theorem emb368 {α : Type} (i : grid0.Coords) (k : Fin k0_t3_loop.trips) (h2 : k0_cond2 i = 1#1)
    (x : (Rect.unit (s := S256x2880) (k0_off368 k) S16x2880.size (k0_off368_inb i k h2)).shape.Idx) :
    (Rect.unit (s := S256x2880) (k0_off368 k) S16x2880.size (k0_off368_inb i k h2)).emb x = ch (16 * k.val + (x 0).val) (x 1).val := by
  have h0 : (x 0).val < 16 := (x 0).isLt
  have h1 : (x 1).val < 2880 := (x 1).isLt
  have hk : k.val < 16 := trips_t3 ▸ k.isLt
  have ho := off368 k
  refine Rect.emb_eq_of_coords _ _ _ fun a => ?_
  match a with
  | 0 =>
    show (16 * k.val + (x 0).val) % 256 = k0_off368 k 0 + 1 * (x 0).val
    omega
  | 1 =>
    show (x 1).val % 2880 = k0_off368 k 1 + 1 * (x 1).val
    omega

theorem emb369 (i : grid0.Coords) (k : Fin k0_t3_loop.trips) (h2 : k0_cond2 i = 1#1)
    (x : (Rect.unit (s := S256x3072) (k0_off369 k) S16x2880.size (k0_off369_inb i k h2)).shape.Idx) :
    (Rect.unit (s := S256x3072) (k0_off369 k) S16x2880.size (k0_off369_inb i k h2)).emb x = cd (16 * k.val + (x 0).val) (x 1).val := by
  have h0 : (x 0).val < 16 := (x 0).isLt
  have h1 : (x 1).val < 2880 := (x 1).isLt
  have hk : k.val < 16 := trips_t3 ▸ k.isLt
  have ho := off369 k
  refine Rect.emb_eq_of_coords _ _ _ fun a => ?_
  match a with
  | 0 =>
    show (16 * k.val + (x 0).val) % 256 = k0_off369 k 0 + 1 * (x 0).val
    omega
  | 1 =>
    show (x 1).val % 3072 = k0_off369 k 1 + 1 * (x 1).val
    omega

theorem cr_eq (x : S16x2880.Idx) (a b : Nat) (ha : a = (x 0).val) (hb : b = (x 1).val) : cr a b = x := by
  have h0 : (x 0).val < 16 := (x 0).isLt
  have h1 : (x 1).val < 2880 := (x 1).isLt
  funext a
  match a with
  | 0 => exact Fin.ext (show _ % 16 = _ by omega)
  | 1 => exact Fin.ext (show _ % 2880 = _ by omega)

/-- A rectangle that is its whole shape reads everything. -/
theorem emb_full {s : Shape} (off : Fin s.rank → Nat) (h0 : ∀ a, off a = 0) (inb : ∀ a, off a + s.size a ≤ s.size a)
    (x : (Rect.unit (s := s) off s.size inb).shape.Idx) : (Rect.unit (s := s) off s.size inb).emb x = x :=
  Rect.emb_eq_of_coords _ _ _ fun a => by
    show (x a).val = off a + 1 * (x a).val
    rw [h0]; omega

theorem zero2 : ∀ a : Fin 2, (![0, 0] : Fin 2 → Nat) a = 0 := by decide

/-- A 16-row tile's rows, as the closed form's. -/
theorem rows_store {α : Type} (C C' : S256x2880.Idx → α) (T : Nat → S16x2880.Idx → α)
    (hC' : ∀ y : S256x2880.Idx, C' y = T (16 * ((y 0).val / 16)) (cr ((y 0).val % 16) (y 1).val))
    (i : grid0.Coords) (k : Fin k0_t3_loop.trips) (h2 : k0_cond2 i = 1#1) (h : Rows k.val C C') :
    Rows (k.val + 1) ((Rect.unit (s := S256x2880) (k0_off368 k) S16x2880.size (k0_off368_inb i k h2)).overlay C (T (16 * k.val))) C' := by
  intro y hy
  have ho := off368 k
  have hk : k.val < 16 := trips_t3 ▸ k.isLt
  have hy1 : (y 1).val < 2880 := (y 1).isLt
  refine overlay_eq (n := 2880) _ (fun _ => rfl) _ (fun x => ?_) y ?_
  · have h0 : (x 0).val < 16 := (x 0).isLt
    have h1 : (x 1).val < 2880 := (x 1).isLt
    rw [emb368 (α := α) i k h2, hC']
    show _ = T (16 * ((16 * k.val + (x 0).val) % 256 / 16)) (cr ((16 * k.val + (x 0).val) % 256 % 16) ((x 1).val % 2880))
    rw [cr_eq x _ _ (by omega) (by omega), show 16 * ((16 * k.val + (x 0).val) % 256 / 16) = 16 * k.val by omega]
  · by_cases hb : (y 0).val < 16 * k.val
    · exact .inl (h y hb)
    · refine .inr ⟨⟨?_, ?_⟩, ?_, ?_⟩
      · show k0_off368 k 0 ≤ _; omega
      · show _ < k0_off368 k 0 + 16; omega
      · show k0_off368 k 1 ≤ _; omega
      · show _ < k0_off368 k 1 + 2880; omega

/-! ## The programs -/

section Wp

variable {Ix : Type} [DecidableEq Ix]
variable {Name : Type} [DecidableEq Name] {U : Type} [URA U] {Lvl : Type} [Preorder Lvl]
variable {defs : Defs nD τ sig (Elt F) Λ₀} (𝒱 : Variants) (c : Dev nD) (bd : Option 𝒱.V) (E : Set Name)

local notation "𝕄" => MT nD τ sig Ix (Elt F) Name U Lvl
local notation "WP" => wp frame (wpE (Ix := Ix) (Name := Name) (U := U) (Lvl := Lvl) defs 𝒱 (c : Thread nD τ) bd) E

variable (i : grid0.Coords) (arg1 : Memref sig .tc .vmem S256x11520 .bf16) (arg2 : Memref sig .tc .vmem S256x11520 .bf16) (arg3 : Memref sig .tc .vmem S256x2880 .bf16) (arg4 : Memref sig .tc .vmem S1x2880 .f32) (arg5 : Memref sig .tc .vmem S256x2880 .bf16) (harg5 : arg5.IsWhole) (arg6 : Memref sig .tc .vmem S256x2880 .bf16) (harg6 : arg6.IsWhole) (arg7 : Memref sig .tc .vmem S256x11520 .fp8e4m3) (harg7 : arg7.IsWhole) (arg8 : Memref sig .tc .vmem S256x360 .f32) (arg9 : Memref sig .tc .vmem S256x11520 .fp8e4m3) (harg9 : arg9.IsWhole) (arg10 : Memref sig .tc .vmem S256x360 .f32) (arg11 : Memref sig .tc .vmem S256x11520 .bf16) (harg11 : arg11.IsWhole) (arg12 : Memref sig .tc .vmem S256x11520 .bf16) (harg12 : arg12.IsWhole) (arg13 : Memref sig .tc .vmem S256x3072 .f32)

/-- The quantiser's loop: from any contents of its destinations to the closed forms of its source, for either loop's
    bounds (eight trips). -/
theorem wp_quant (l : Scf.Loop 32) (hok : l.OK) (h8 : l.trips = 8) (g : Vec F Mx.T16 .bf16 → FVec F Mx.T16 .bf16) (hg : ∀ x, g x = x)
    (src : Memref sig .tc .vmem Mx.SX .bf16) (codes : Memref sig .tc .vmem Mx.SX .fp8e4m3)
    (scales : Memref sig .tc .vmem Mx.SS .f32) (q : Memref sig .tc .vmem Mx.SX .bf16)
    (hcodes : codes.IsWhole) (hq : q.IsWhole) (hlt : ∀ k : Fin l.trips, k.val < 8)
    (X : Mx.SX.Idx → Elt F .bf16) (C : Mx.SX.Idx → Elt F .fp8e4m3) (S : Mx.SS.Idx → Elt F .f32) (W : Mx.SX.Idx → Elt F .bf16)
    (K : PUnit → Prog (TpuEff nD τ sig (Elt F) Λ₀ .tc) PUnit) (Q : PUnit → sProp 𝕄) :
    iprop(ownsTc c src fullShare X ∗ ownsTc c codes fullShare C ∗ ownsTc c scales fullShare S ∗ ownsTc c q fullShare W ∗
      (iprop(ownsTc c src fullShare X ∗ ownsTc c codes fullShare (Mx.codesOf X) ∗ ownsTc c scales fullShare (Mx.scalesOf X) ∗
        ownsTc c q fullShare (Mx.wideOf X)) -∗ WP (K ⟨⟩) Q))
      ⊢ WP (Scf.Loop.for l hok ⟨⟩ (fun k _ => Mx.quantRows g src codes scales q hcodes hq (hlt k)) >>= K) Q := by
  iintro ⟨H1, H2, H3, H4, HK⟩
  iapply (Scf.wp_for_bind (σ := PUnit) frame _ E l.lb l.ub l.st hok ⟨⟩ _
    (fun k _ => Mx.St (Ix := Ix) (Name := Name) (U := U) (Lvl := Lvl) (τ := τ) X c src codes scales q k 0 0)
    (fun k _ => Mx.wp_quantRows X 𝒱 c bd E g hg src codes scales q hcodes hq (hlt k))) $$ [H1 H2 H3 H4]
  · unfold Mx.St
    iexists C, S, W
    isplitr
    · ipureintro
      exact ⟨Upto.zero _ _, Upto.zero _ _, Upto.zero _ _⟩
    isplitl [H1]
    · iexact H1
    isplitl [H2]
    · iexact H2
    isplitl [H3]
    · iexact H3
    iexact H4
  · iintro %acc HS
    unfold Mx.St
    icases HS with ⟨%C', %S', %W', %hI, H1, H2, H3, H4⟩
    have h8' : Scf.trips l.lb l.ub l.st = 8 := h8
    rw [h8'] at hI
    obtain ⟨hC, hS, hW⟩ := hI
    have eC := hC.all
    have eS := hS.all
    have eW := hW.all
    subst eC eS eW
    iapply HK
    isplitl [H1]
    · iexact H1
    isplitl [H2]
    · iexact H2
    isplitl [H3]
    · iexact H3
    iexact H4

/-- What the last step holds in its midst. -/
def St3 (H : S256x2880.Idx → Elt F .bf16) (G : S1x2880.Idx → Elt F .f32) (D : S256x3072.Idx → Elt F .f32) (k : Nat) : sProp 𝕄 :=
  iprop(∃ A B, ⌜Rows k A (dhOf H G D) ∧ Rows k B (dxOf D)⌝ ∗ ownsTc c arg3 fullShare H ∗ ownsTc c arg4 fullShare G ∗
    ownsTc c arg13 fullShare D ∗ ownsTc c arg5 fullShare A ∗ ownsTc c arg6 fullShare B)

local notation "ST3" => St3 (Ix := Ix) (Name := Name) (U := U) (Lvl := Lvl) c arg3 arg4 arg5 arg6 arg13

/-- One trip of the last step. -/
theorem wp_rowsOut (H : S256x2880.Idx → Elt F .bf16) (G : S1x2880.Idx → Elt F .f32) (D : S256x3072.Idx → Elt F .f32)
    (h2 : k0_cond2 i = 1#1) (k : Fin k0_t3_loop.trips) :
    (ST3 H G D k.val) ⊢ WP (rowsOut i arg3 arg4 arg5 harg5 arg6 harg6 arg13 h2 k) (fun _ => ST3 H G D (k.val + 1)) := by
  unfold rowsOut St3
  iintro ⟨%A, %B, %hI, H3, H4, H13, H5, H6⟩
  obtain ⟨hA, hB⟩ := hI
  iapply (Mx.wp_ld 𝒱 c bd E H)
  isplitl [H3]
  · iexact H3
  iintro H3
  iapply (Mx.wp_ld 𝒱 c bd E D)
  isplitl [H13]
  · iexact H13
  iintro H13
  iapply (Mx.wp_ld 𝒱 c bd E G)
  isplitl [H4]
  · iexact H4
  iintro H4
  iapply (Mx.wp_ld 𝒱 c bd E A)
  isplitl [H5]
  · iexact H5
  iintro H5
  iapply (Mx.wp_st 𝒱 c bd E A)
  isplitl [H5]
  · iexact H5
  iintro H5
  iapply (Mx.wp_ld 𝒱 c bd E B)
  isplitl [H6]
  · iexact H6
  iintro H6
  iapply (Mx.wp_st 𝒱 c bd E B)
  isplitl [H6]
  · iexact H6
  iintro H6
  have eH : (fun x => H ((Rect.unit (s := S256x2880) (k0_off368 k) S16x2880.size (k0_off368_inb i k h2)).emb x)) = hRows H (16 * k.val) :=
    funext fun x => congrArg H (emb368 (α := PUnit) i k h2 x)
  have eD : (fun x => D ((Rect.unit (s := S256x3072) (k0_off369 k) S16x2880.size (k0_off369_inb i k h2)).emb x)) = dRows D (16 * k.val) :=
    funext fun x => congrArg D (emb369 i k h2 x)
  have eG : (fun x => G ((Rect.unit (s := S1x2880) ![0, 0] S1x2880.size inb_S1x2880_S1x2880_0_0).emb x)) = G :=
    funext fun x => congrArg G (emb_full _ zero2 _ x)
  rw [eH, eD, eG, wp_ret]
  imodintro
  iexists _, _
  isplitr
  rotate_left
  · isplitl [H3]
    · iexact H3
    isplitl [H4]
    · iexact H4
    isplitl [H13]
    · iexact H13
    isplitl [H5]
    · iexact H5
    iexact H6
  · ipureintro
    exact ⟨rows_store A _ (fun r0 => dhTile (hRows H r0) (dRows D r0) G) (fun _ => rfl) i k h2 hA,
      rows_store B _ (fun r0 => dxTile (dRows D r0)) (fun _ => rfl) i k h2 hB⟩

/-- What the last step leaves: at the last point the two gradients, elsewhere nothing new. -/
theorem wp_finish (H : S256x2880.Idx → Elt F .bf16) (G : S1x2880.Idx → Elt F .f32) (D : S256x3072.Idx → Elt F .f32)
    (A B : S256x2880.Idx → Elt F .bf16) (Q : PUnit → sProp 𝕄) :
    iprop(ownsTc c arg3 fullShare H ∗ ownsTc c arg4 fullShare G ∗ ownsTc c arg13 fullShare D ∗ ownsTc c arg5 fullShare A ∗
      ownsTc c arg6 fullShare B ∗
      (iprop(ownsTc c arg3 fullShare H ∗ ownsTc c arg4 fullShare G ∗ ownsTc c arg13 fullShare D ∗
        ownsTc c arg5 fullShare (if k0_cond2 i = 1#1 then dhOf H G D else A) ∗
        ownsTc c arg6 fullShare (if k0_cond2 i = 1#1 then dxOf D else B)) -∗ Q ⟨⟩))
      ⊢ WP (finish i arg3 arg4 arg5 harg5 arg6 harg6 arg13) Q := by
  unfold finish
  iintro ⟨H3, H4, H13, H5, H6, HK⟩
  by_cases h2 : k0_cond2 i = 1#1
  · rw [dif_pos h2, if_pos h2, if_pos h2]
    iapply (Scf.wp_for_bind (σ := PUnit) frame _ E k0_t3_loop.lb k0_t3_loop.ub k0_t3_loop.st (k0_t3_ok i h2) ⟨⟩ _
      (fun k _ => ST3 H G D k) (fun k _ => wp_rowsOut 𝒱 c bd E i arg3 arg4 arg5 harg5 arg6 harg6 arg13 H G D h2 k)) $$ [H3 H4 H13 H5 H6]
    · unfold St3
      iexists A, B
      isplitr
      · ipureintro
        exact ⟨fun y hy => absurd hy (by omega), fun y hy => absurd hy (by omega)⟩
      isplitl [H3]
      · iexact H3
      isplitl [H4]
      · iexact H4
      isplitl [H13]
      · iexact H13
      isplitl [H5]
      · iexact H5
      iexact H6
    · iintro %acc HS
      unfold St3
      icases HS with ⟨%A', %B', %hI, H3, H4, H13, H5, H6⟩
      have h16 : Scf.trips k0_t3_loop.lb k0_t3_loop.ub k0_t3_loop.st = 16 := trips_t3
      rw [h16] at hI
      have eA : A' = dhOf H G D := funext fun y => hI.1 y (show (y 0).val < 256 from (y 0).isLt)
      have eB : B' = dxOf D := funext fun y => hI.2 y (show (y 0).val < 256 from (y 0).isLt)
      subst eA eB
      rw [wp_ret]
      imodintro
      iapply HK
      isplitl [H3]
      · iexact H3
      isplitl [H4]
      · iexact H4
      isplitl [H13]
      · iexact H13
      isplitl [H5]
      · iexact H5
      iexact H6
  · rw [dif_neg h2, if_neg h2, if_neg h2, wp_ret]
    imodintro
    iapply HK
    isplitl [H3]
    · iexact H3
    isplitl [H4]
    · iexact H4
    isplitl [H13]
    · iexact H13
    isplitl [H5]
    · iexact H5
    iexact H6

/-- The product's scratch after a point: the point's 256 columns overwritten. -/
def dxAcc (D : S256x3072.Idx → Elt F .f32) (Wd Ww : S256x11520.Idx → Elt F .bf16) : S256x3072.Idx → Elt F .f32 :=
  (Rect.unit (s := S256x3072) (k0_off367 i) S256x256.size (k0_off367_inb i)).overlay D (prod Wd Ww)

/-- The middle: the weight's rows quantised, the product, the last step. -/
theorem wp_middle (X2 : S256x11520.Idx → Elt F .bf16) (H : S256x2880.Idx → Elt F .bf16) (G : S1x2880.Idx → Elt F .f32)
    (A B : S256x2880.Idx → Elt F .bf16) (C : S256x11520.Idx → Elt F .fp8e4m3) (S : S256x360.Idx → Elt F .f32)
    (Wd Ww : S256x11520.Idx → Elt F .bf16) (D : S256x3072.Idx → Elt F .f32) (Q : PUnit → sProp 𝕄) :
    iprop(ownsTc c arg2 fullShare X2 ∗ ownsTc c arg3 fullShare H ∗ ownsTc c arg4 fullShare G ∗ ownsTc c arg5 fullShare A ∗
      ownsTc c arg6 fullShare B ∗ ownsTc c arg9 fullShare C ∗ ownsTc c arg10 fullShare S ∗ ownsTc c arg11 fullShare Wd ∗
      ownsTc c arg12 fullShare Ww ∗ ownsTc c arg13 fullShare D ∗
      (iprop(ownsTc c arg2 fullShare X2 ∗ ownsTc c arg3 fullShare H ∗ ownsTc c arg4 fullShare G ∗
        ownsTc c arg5 fullShare (if k0_cond2 i = 1#1 then dhOf H G (dxAcc i D Wd (Mx.wideOf X2)) else A) ∗
        ownsTc c arg6 fullShare (if k0_cond2 i = 1#1 then dxOf (dxAcc i D Wd (Mx.wideOf X2)) else B) ∗
        ownsTc c arg9 fullShare (Mx.codesOf X2) ∗ ownsTc c arg10 fullShare (Mx.scalesOf X2) ∗ ownsTc c arg11 fullShare Wd ∗
        ownsTc c arg12 fullShare (Mx.wideOf X2) ∗ ownsTc c arg13 fullShare (dxAcc i D Wd (Mx.wideOf X2))) -∗ Q ⟨⟩))
      ⊢ WP (middle i arg2 arg3 arg4 arg5 harg5 arg6 harg6 arg9 harg9 arg10 arg11 arg12 harg12 arg13) Q := by
  unfold middle
  iintro ⟨H2, H3, H4, H5, H6, H9, H10, H11, H12, H13, HK⟩
  iapply (wp_quant 𝒱 c bd E k0_t2_loop k0_t2_ok trips_t2 Mx.rawT (fun _ => rfl) arg2 arg9 arg10 arg12 harg9 harg12 trips_lt_t2
    X2 C S Ww _ Q)
  isplitl [H2]
  · iexact H2
  isplitl [H9]
  · iexact H9
  isplitl [H10]
  · iexact H10
  isplitl [H12]
  · iexact H12
  iintro ⟨H2, H9, H10, H12⟩
  iapply (Mx.wp_ld 𝒱 c bd E Wd)
  isplitl [H11]
  · iexact H11
  iintro H11
  iapply (Mx.wp_ld 𝒱 c bd E (Mx.wideOf X2))
  isplitl [H12]
  · iexact H12
  iintro H12
  iapply (Mx.wp_ld 𝒱 c bd E D)
  isplitl [H13]
  · iexact H13
  iintro H13
  iapply (Mx.wp_st 𝒱 c bd E D)
  isplitl [H13]
  · iexact H13
  iintro H13
  have e1 : (fun x => Wd ((Rect.unit (s := S256x11520) ![0, 0] S256x11520.size inb_S256x11520_S256x11520_0_0).emb x)) = Wd :=
    funext fun x => congrArg Wd (emb_full _ zero2 _ x)
  have e2 : (fun x => Mx.wideOf X2 ((Rect.unit (s := S256x11520) ![0, 0] S256x11520.size inb_S256x11520_S256x11520_0_0).emb x)) = Mx.wideOf X2 :=
    funext fun x => congrArg (Mx.wideOf X2) (emb_full _ zero2 _ x)
  rw [e1, e2]
  iapply (wp_finish 𝒱 c bd E i arg3 arg4 arg5 harg5 arg6 harg6 arg13 H G (dxAcc i D Wd (Mx.wideOf X2)) A B Q)
  isplitl [H3]
  · iexact H3
  isplitl [H4]
  · iexact H4
  isplitl [H13]
  · iexact H13
  isplitl [H5]
  · iexact H5
  isplitl [H6]
  · iexact H6
  iintro ⟨H3, H4, H13, H5, H6⟩
  iapply HK
  isplitl [H2]
  · iexact H2
  isplitl [H3]
  · iexact H3
  isplitl [H4]
  · iexact H4
  isplitl [H5]
  · iexact H5
  isplitl [H6]
  · iexact H6
  isplitl [H9]
  · iexact H9
  isplitl [H10]
  · iexact H10
  isplitl [H11]
  · iexact H11
  isplitl [H12]
  · iexact H12
  iexact H13

/-- The whole body. `Wd'` is the first operand's widened codes: fresh at the first point, as found elsewhere. -/
theorem wp_body (X1 X2 : S256x11520.Idx → Elt F .bf16) (H : S256x2880.Idx → Elt F .bf16) (G : S1x2880.Idx → Elt F .f32)
    (A B : S256x2880.Idx → Elt F .bf16) (C1 C : S256x11520.Idx → Elt F .fp8e4m3) (S1 S : S256x360.Idx → Elt F .f32)
    (Wd Ww : S256x11520.Idx → Elt F .bf16) (D : S256x3072.Idx → Elt F .f32)
    (Wd' : S256x11520.Idx → Elt F .bf16) (hWd' : Wd' = if k0_cond1 i = 1#1 then Mx.wideOf X1 else Wd) (Q : PUnit → sProp 𝕄) :
    iprop(ownsTc c arg1 fullShare X1 ∗ ownsTc c arg2 fullShare X2 ∗ ownsTc c arg3 fullShare H ∗ ownsTc c arg4 fullShare G ∗
      ownsTc c arg5 fullShare A ∗ ownsTc c arg6 fullShare B ∗ ownsTc c arg7 fullShare C1 ∗ ownsTc c arg8 fullShare S1 ∗
      ownsTc c arg9 fullShare C ∗ ownsTc c arg10 fullShare S ∗ ownsTc c arg11 fullShare Wd ∗
      ownsTc c arg12 fullShare Ww ∗ ownsTc c arg13 fullShare D ∗
      (iprop(ownsTc c arg1 fullShare X1 ∗ ownsTc c arg2 fullShare X2 ∗ ownsTc c arg3 fullShare H ∗ ownsTc c arg4 fullShare G ∗
        ownsTc c arg5 fullShare (if k0_cond2 i = 1#1 then dhOf H G (dxAcc i D Wd' (Mx.wideOf X2)) else A) ∗
        ownsTc c arg6 fullShare (if k0_cond2 i = 1#1 then dxOf (dxAcc i D Wd' (Mx.wideOf X2)) else B) ∗
        ownsTc c arg7 fullShare (if k0_cond1 i = 1#1 then Mx.codesOf X1 else C1) ∗
        ownsTc c arg8 fullShare (if k0_cond1 i = 1#1 then Mx.scalesOf X1 else S1) ∗
        ownsTc c arg9 fullShare (Mx.codesOf X2) ∗ ownsTc c arg10 fullShare (Mx.scalesOf X2) ∗ ownsTc c arg11 fullShare Wd' ∗
        ownsTc c arg12 fullShare (Mx.wideOf X2) ∗ ownsTc c arg13 fullShare (dxAcc i D Wd' (Mx.wideOf X2))) -∗ Q ⟨⟩))
      ⊢ WP (body i arg1 arg2 arg3 arg4 arg5 harg5 arg6 harg6 arg7 harg7 arg8 arg9 harg9 arg10 arg11 harg11 arg12 harg12 arg13) Q := by
  unfold body
  iintro ⟨H1, H2, H3, H4, H5, H6, H7, H8, H9, H10, H11, H12, H13, HK⟩
  by_cases h1 : k0_cond1 i = 1#1
  · rw [if_pos h1] at hWd'
    rw [dif_pos h1, if_pos h1, if_pos h1]
    iapply (wp_quant 𝒱 c bd E k0_t1_loop (k0_t1_ok i h1) trips_t1 Mx.castT Mx.castT_eq arg1 arg7 arg8 arg11 harg7 harg11 trips_lt_t1
      X1 C1 S1 Wd _ Q)
    isplitl [H1]
    · iexact H1
    isplitl [H7]
    · iexact H7
    isplitl [H8]
    · iexact H8
    isplitl [H11]
    · iexact H11
    iintro ⟨H1, H7, H8, H11⟩
    subst hWd'
    iapply (wp_middle 𝒱 c bd E i arg2 arg3 arg4 arg5 harg5 arg6 harg6 arg9 harg9 arg10 arg11 arg12 harg12 arg13
      X2 H G A B C S (Mx.wideOf X1) Ww D Q)
    isplitl [H2]
    · iexact H2
    isplitl [H3]
    · iexact H3
    isplitl [H4]
    · iexact H4
    isplitl [H5]
    · iexact H5
    isplitl [H6]
    · iexact H6
    isplitl [H9]
    · iexact H9
    isplitl [H10]
    · iexact H10
    isplitl [H11]
    · iexact H11
    isplitl [H12]
    · iexact H12
    isplitl [H13]
    · iexact H13
    iintro ⟨H2, H3, H4, H5, H6, H9⟩
    iapply HK
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact H9
  · rw [if_neg h1] at hWd'
    rw [dif_neg h1, if_neg h1, if_neg h1]
    subst hWd'
    iapply (wp_middle 𝒱 c bd E i arg2 arg3 arg4 arg5 harg5 arg6 harg6 arg9 harg9 arg10 arg11 arg12 harg12 arg13
      X2 H G A B C S Wd' Ww D Q)
    isplitl [H2]
    · iexact H2
    isplitl [H3]
    · iexact H3
    isplitl [H4]
    · iexact H4
    isplitl [H5]
    · iexact H5
    isplitl [H6]
    · iexact H6
    isplitl [H9]
    · iexact H9
    isplitl [H10]
    · iexact H10
    isplitl [H11]
    · iexact H11
    isplitl [H12]
    · iexact H12
    isplitl [H13]
    · iexact H13
    iintro ⟨H2, H3, H4, H5, H6, H9⟩
    iapply HK
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact H9

end Wp

end Cert.KernelIdeal.Body
-- ==== Proof.Frames.lean ====
/-
  The kernel's frame: every execution ends, with its arguments as they were and every counter at zero. What the
  body leaves in its result windows is forgotten here.
-/
module

public import proofs.«01_k».proof.Proof.Run
public import proofs.«01_k».proof.Proof.Gen.KernelIdeal.Frame

@[expose] public section

set_option maxRecDepth 16384

noncomputable section

namespace Cert.KernelIdeal.Body

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Anything, for the part of the weight's buffer that no fetch fills. -/
def junk1 (t : Fin cfg0.N) : (cfg0.win 1).block.Idx → Elt F (cfg0.win 1).elt := fun _ => Classical.arbitrary _

/-- The weight's buffer at a point: its block where the fetch fills the buffer. -/
def blk1 (c : Dev nD) (t : Fin cfg0.N) : (cfg0.win 1).block.Idx → Elt F (cfg0.win 1).elt :=
  (cfg0.win 1).fill (cfg0.grid.coords t) (junk1 t) (iblk m c 1 t)

/-- The proof's data, the result windows unnamed. -/
def dats0 (p : Fin 1) (c : Dev nD) : Dat τ (Elt F) Unit ℕ (UR sig nD τ) ℕ (cfgs p) c where
  A w := V m c (Pipeline.arrRef spec0 w)
  after w t := match w with
    | 0 => iblk m c 0 t
    | 1 => blk1 m c t
    | 2 => iblk m c 2 t
    | 3 => iblk m c 3 t
    | 4 => fun _ => Classical.arbitrary _
    | 5 => fun _ => Classical.arbitrary _
    | 6 => fun _ => Classical.arbitrary _
    | 7 => fun _ => Classical.arbitrary _
    | 8 => fun _ => Classical.arbitrary _
    | 9 => fun _ => Classical.arbitrary _
    | ⟨_ + 10, h⟩ => absurd h (Nat.not_lt.2 (Nat.le_add_left _ _))
  Φ _ := Pipeline.ΦA spec0 c
  q _ := fullShare
  owed _ := 0

/-- The result windows. -/
def fgt : Fin 10 → Bool := fun | 0 => false | 1 => false | 2 => false | 3 => false | 4 => true | 5 => true | 6 => true | 7 => true | 8 => true | 9 => true | ⟨_ + 10, h⟩ => absurd h (Nat.not_lt.2 (Nat.le_add_left _ _))

theorem scr_owns (c : Dev nD) (b : Ref sig .tc) :
    iprop(∃ f : Buf (Elt F) ((c : Thread nD τ).loc b), ((c : Thread nD τ).loc b) ↦{fullShare} f)
      ⊢ (iprop(∃ X, ownsTc c (Memref.whole b) fullShare X) : sProp 𝕄) := by
  iintro ⟨%f, H⟩
  iexists f
  unfold ownsTc; rw [owns_whole]
  iexact H

theorem owns_scr (c : Dev nD) (b : Ref sig .tc) (X) :
    (ownsTc c (Memref.whole b) fullShare X : sProp 𝕄)
      ⊢ iprop(∃ f : Buf (Elt F) ((c : Thread nD τ).loc b), ((c : Thread nD τ).loc b) ↦{fullShare} f) := by
  unfold ownsTc; rw [owns_whole]
  iintro H
  iexists X
  iexact H

/-- The class's invariant is the three scratch buffers at some contents and the generator register. -/
theorem phi_open (c : Dev nD) : (Pipeline.ΦA spec0 c : sProp 𝕄) ⊢ iprop((∃ X, ownsTc c (Memref.whole cc0_scratch0) fullShare X) ∗
    (∃ X, ownsTc c (Memref.whole cc0_scratch1) fullShare X) ∗ (∃ X, ownsTc c (Memref.whole cc0_scratch2) fullShare X) ∗
    ∃ r, prngReg c r) := by
  unfold Pipeline.ΦA
  rw [scopedRest0_eq]
  iintro ⟨⟨H0, H1, H2⟩, HR⟩
  isplitl [H0]
  · iapply (scr_owns c cc0_scratch0); iexact H0
  isplitl [H1]
  · iapply (scr_owns c cc0_scratch1); iexact H1
  isplitl [H2]
  · iapply (scr_owns c cc0_scratch2); iexact H2
  iexact HR

theorem phi_close (c : Dev nD) (X0 X1 X2) : iprop(ownsTc c (Memref.whole cc0_scratch0) fullShare X0 ∗
    ownsTc c (Memref.whole cc0_scratch1) fullShare X1 ∗ ownsTc c (Memref.whole cc0_scratch2) fullShare X2 ∗
    ∃ r, prngReg c r) ⊢ (Pipeline.ΦA spec0 c : sProp 𝕄) := by
  unfold Pipeline.ΦA
  rw [scopedRest0_eq]
  iintro ⟨H0, H1, H2, HR⟩
  isplitr [HR]
  · isplitl [H0]
    · iapply (owns_scr c cc0_scratch0 X0); iexact H0
    isplitl [H1]
    · iapply (owns_scr c cc0_scratch1 X1); iexact H1
    iapply (owns_scr c cc0_scratch2 X2); iexact H2
  iexact HR

theorem before0 (c : Dev nD) (t : Fin cfg0.N) (d) : (dats0 m 0 c).before 0 t d = iblk m c 0 t :=
  before0_0_of m _ rfl (fun _ => rfl) t d
theorem before2 (c : Dev nD) (t : Fin cfg0.N) (d) : (dats0 m 0 c).before 2 t d = iblk m c 2 t :=
  before0_2_of m _ rfl (fun _ => rfl) t d
theorem before3 (c : Dev nD) (t : Fin cfg0.N) (d) : (dats0 m 0 c).before 3 t d = iblk m c 3 t :=
  before0_3_of m _ rfl (fun _ => rfl) t d
theorem before1 (c : Dev nD) (t : Fin cfg0.N) (d) :
    (dats0 m 0 c).before 1 t d = (cfg0.win 1).fill (cfg0.grid.coords t) d (iblk m c 1 t) := by
  unfold Dat.before
  rw [if_pos (fetch0_1 t)]
  rfl

/-- The kernel's function at a point of the grid, written plainly. -/
theorem bodyAt0_eq (t : Fin cfg0.N) : bodyAt0 (F := F) t = body (grid0.coords t) (win0_0.stage (cfg0.slots t 0))
    (win0_1.stage (cfg0.slots t 1)) (win0_2.stage (cfg0.slots t 2)) (win0_3.stage (cfg0.slots t 3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7))
    (win0_8.stage (cfg0.slots t 8)) (hstage0_8 ((cfg0.slots t 8).cast nbuf0_8)) (win0_9.stage (cfg0.slots t 9))
    (Memref.whole cc0_scratch0) (Memref.isWhole_whole _) (Memref.whole cc0_scratch1) (Memref.isWhole_whole _)
    (Memref.whole cc0_scratch2) :=
  body_eq _ _ _ _ _ _ _ _ _ _ _ _ _ _ _ _ _ _ _ _ _ _ _ _ _ _ _

theorem body_forget (c : Dev nD) : Pipeline.BodyObligationLoose (dats0 m 0 c) (defs₀ (F := F)) Variants.none () Set.univ fgt := by
  intro t
  rw [bigSep_W0, bigSep_W0]
  dsimp only [fgt, idle0]
  simp only [before0, before1, before2, before3]
  show _ ⊢ wp _ _ _ (bodyAt0 t) _
  rw [bodyAt0_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HP := (show (dats0 m 0 c).Φ t.castSucc ⊢ _ from phi_open c) $$ HΦ
  icases HP with ⟨⟨%s0, S0⟩, ⟨%s1, S1⟩, ⟨%s2, S2⟩, HR⟩
  iapply (wp_body Variants.none c none Set.univ (grid0.coords t) _ _ _ _ _ _ _ _ _ _ _ _ _ _ _ _ _ _ _
    (iblk m c 0 t) ((win0 1).fill (grid0.coords t) d1 (iblk m c 1 t)) (iblk m c 2 t) (iblk m c 3 t) d4 d5 d6 d8 d7 d9 s0 s1 s2 _ rfl)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [S0]
  · iexact S0
  isplitl [S1]
  · iexact S1
  isplitl [S2]
  · iexact S2
  iintro ⟨H0, H1, H2, H3, H4, H5, H6, H7, H8, H9, S0, S1, S2⟩
  isplitl [S0 S1 S2 HR]
  · iapply (show _ ⊢ (dats0 m 0 c).Φ t.succ from phi_close c _ _ _)
    isplitl [S0]
    · iexact S0
    isplitl [S1]
    · iexact S1
    isplitl [S2]
    · iexact S2
    iexact HR
  isplitl [Ho]
  · iexact Ho
  isplitl [H0]
  · iexact H0
  isplitl [H1]
  · iexists d1
    rw [show (win0 1).cut (grid0.coords t) ((dats0 m 0 c).after 1 t) = iblk m c 1 t from Window.cut_fill _ _ _ _]
    iexact H1
  isplitl [H2]
  · iexact H2
  isplitl [H3]
  · iexact H3
  isplitl [H4]
  · iexists _; iexact H4
  isplitl [H5]
  · iexists _; iexact H5
  isplitl [H6]
  · iexists _; iexact H6
  isplitl [H7]
  · iexists _; iexact H7
  isplitl [H8]
  · iexists _; iexact H8
  iexists _
  iexact H9

/-- Every execution of the kernel ends, its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_forget cfgs (dats0 m) 0 launch0 defs₀ Variants.none fgt m ρ main (body_forget m)
    (fun c w => by fin_cases w <;> rfl) (fun _ _ => rfl) (V m) (hmain m Variants.none) (fun _ _ => rfl) (fun _ _ => rfl) _
    (fun r h => ⟨fun c => ⟨((h.1 c).2 main_arg0 (Pipeline.mem_restRefs_of main_arg0 (by decide) (by decide))).trans (V_main_arg0 m c),
      (Pipeline.RDat.FramePost.arr_in h.1 c 1 rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)

end Cert.KernelIdeal.Body
-- ==== Proof.BodyK.lean ====
/-
  The printed kernel body is the program of `Tile.lean` in its two row loops, then the product and the last step as printed:
  the same text with each loop's region named (`body_eq`, checked by unfolding alone).
-/
module

public import proofs.«01_k».proof.Proof.Tile
public import proofs.«01_k».proof.Proof.Gen.Kernel
public import Idealize.ShloMosaic.Lib.Pipeline.Regions

@[expose] public section

set_option maxRecDepth 65536

noncomputable section

namespace Cert.Kernel.Body

open Idealize.ShloMosaic Idealize.SL.Sem
open Cert.Kernel

variable {F : FTy → Type} [FloatOps F]
variable [Facts]
open Facts₀ Facts

theorem trips_t1 : k0_t1_loop.trips = 8 := by decide +kernel
theorem trips_t2 : k0_t2_loop.trips = 8 := by decide +kernel

theorem trips_lt_t1 (k : Fin k0_t1_loop.trips) : k.val < 8 := trips_t1 ▸ k.isLt
theorem trips_lt_t2 (k : Fin k0_t2_loop.trips) : k.val < 8 := trips_t2 ▸ k.isLt

/-- 16 rows of the last step: from `h`'s, the product's and the gain, the gradient's before its rounding to bf16. -/
def dhTile (v22 : Vec F S16x2880 .bf16) (v36 : Vec F S16x2880 .f32) (v37 : Vec F S1x2880 .f32) : FVec F S16x2880 .bf16 :=
  have v23 : FVec F S16x2880 .bf16 := shapeCast S16x2880 v22 shapeCasts_S16x2880_S16x2880
  have v24 : FVec F S16x2880 .f32 := extf .f32 v23 bitsLt_bf16_f32
  have v25 : FVec F S16x2880 .f32 := mulf v24 v24
  have v26 : FVec F S16 .f32 := multiReduction .add [1] S16 v25 0x00000000#32 reduces_S16x2880_S16 (.inl rfl) rfl
  have v27 : FVec F S16x1 .f32 := shapeCast S16x1 v26 shapeCasts_S16_S16x1
  have v28 : FVec F S16x1 .f32 := broadcast S16x1 (Scalar.ofBits .f32 0x45340000#32)
  have v29 : FVec F S16x1 .f32 := divf v27 v28
  have v30 : FVec F S16x1 .f32 := broadcast S16x1 (Scalar.ofBits .f32 0x358637BD#32)
  have v31 : FVec F S16x1 .f32 := addf v29 v30
  have v32 : FVec F S16x1 .f32 := rsqrt v31
  have v33 : FVec F S16x2880 .f32 := broadcastTo S16x2880 v32 broadcasts_S16x1_S16x2880
  have v34 : FVec F S16x2880 .f32 := mulf v24 v33
  have v38 : FVec F S1x2880 .f32 := shapeCast S1x2880 v37 shapeCasts_S1x2880_S1x2880
  have v39 : FVec F S16x2880 .f32 := broadcastTo S16x2880 v38 broadcasts_S1x2880_S16x2880
  have v40 : FVec F S16x2880 .f32 := mulf v36 v39
  have v41 : FVec F S16x2880 .f32 := mulf v40 v34
  have v42 : FVec F S16 .f32 := multiReduction .add [1] S16 v41 0x00000000#32 reduces_S16x2880_S16 (.inl rfl) rfl
  have v43 : FVec F S16x1 .f32 := shapeCast S16x1 v42 shapeCasts_S16_S16x1
  have v44 : FVec F S16x1 .f32 := broadcast S16x1 (Scalar.ofBits .f32 0x45340000#32)
  have v45 : FVec F S16x1 .f32 := divf v43 v44
  have v46 : FVec F S16x2880 .f32 := broadcastTo S16x2880 v45 broadcasts_S16x1_S16x2880
  have v47 : FVec F S16x2880 .f32 := mulf v34 v46
  have v48 : FVec F S16x2880 .f32 := subf v40 v47
  have v49 : FVec F S16x2880 .f32 := broadcastTo S16x2880 v32 broadcasts_S16x1_S16x2880
  have v50 : FVec F S16x2880 .f32 := mulf v49 v48
  truncf .bf16 v50 bitsLt_bf16_f32

/-- 16 rows of the product rounded to bf16. -/
def dxTile (v36 : Vec F S16x2880 .f32) : FVec F S16x2880 .bf16 := truncf .bf16 v36 bitsLt_bf16_f32

/-- The product of a grid point. -/
def prod (v4 v5 : Vec F S256x11520 .bf16) : FVec F S256x256 .f32 :=
  shapeCast S256x256 (matmul dot_S256x11520_S256x11520_S256x256_1_1_0_0_n_n none v4 v5 (constant S256x256 .f32 0x00000000#32))
    shapeCasts_S256x256_S256x256

section Prog

variable (i : grid0.Coords) (arg1 : Memref sig .tc .vmem S256x11520 .bf16) (harg1 : arg1.IsWhole) (arg2 : Memref sig .tc .vmem S256x11520 .bf16) (harg2 : arg2.IsWhole) (arg3 : Memref sig .tc .vmem S256x2880 .bf16) (harg3 : arg3.IsWhole) (arg4 : Memref sig .tc .vmem S1x2880 .f32) (harg4 : arg4.IsWhole) (arg5 : Memref sig .tc .vmem S256x2880 .bf16) (harg5 : arg5.IsWhole) (arg6 : Memref sig .tc .vmem S256x2880 .bf16) (harg6 : arg6.IsWhole) (arg7 : Memref sig .tc .vmem S256x11520 .fp8e4m3) (harg7 : arg7.IsWhole) (arg8 : Memref sig .tc .vmem S256x360 .f32) (harg8 : arg8.IsWhole) (arg9 : Memref sig .tc .vmem S256x11520 .fp8e4m3) (harg9 : arg9.IsWhole) (arg10 : Memref sig .tc .vmem S256x360 .f32) (harg10 : arg10.IsWhole) (arg11 : Memref sig .tc .vmem S256x11520 .bf16) (harg11 : arg11.IsWhole) (arg12 : Memref sig .tc .vmem S256x11520 .bf16) (harg12 : arg12.IsWhole) (arg13 : Memref sig .tc .vmem S256x3072 .f32) (harg13 : arg13.IsWhole)

/-- One trip of the last step. -/
def rowsOut (k0_h2 : k0_cond2 i = 1#1) (k0_t3 : Fin k0_t3_loop.trips) : Prog (TpuEff nD τ sig (Elt F) Λ₀ .tc) PUnit :=
  .op (.load arg3 (Rect.unit (s := S256x2880) (k0_off368 k0_t3) S16x2880.size (k0_off368_inb i k0_t3 k0_h2)).toLoadRect (View.loadsAt_vmem h_S16x2880)) fun v22 =>
  .op (.load arg13 (Rect.unit (s := S256x3072) (k0_off369 k0_t3) S16x2880.size (k0_off369_inb i k0_t3 k0_h2)).toLoadRect (View.loadsAt_vmem h_S16x2880)) fun v36 =>
  .op (.load arg4 (Rect.unit (s := S1x2880) ![0, 0] S1x2880.size inb_S1x2880_S1x2880_0_0).toLoadRect (View.loadsAt_vmem h_S1x2880)) fun v37 =>
  .op (.load arg5 (Rect.unit (s := S256x2880) (k0_off368 k0_t3) S16x2880.size (k0_off368_inb i k0_t3 k0_h2)).toLoadRect (View.loadsAt_vmem h_S16x2880)) fun _ =>
  .op (.store arg5 (Rect.unit (s := S256x2880) (k0_off368 k0_t3) S16x2880.size (k0_off368_inb i k0_t3 k0_h2)) (dhTile v22 v36 v37) Finset.univ (View.stores_vmem h_S16x2880 (harg5.storeExact_slice rfl _ (k0_off368_packedbf16 i k0_t3 k0_h2)) (fun _ => rfl)) (.inl rfl)) fun _ =>
  .op (.load arg6 (Rect.unit (s := S256x2880) (k0_off368 k0_t3) S16x2880.size (k0_off368_inb i k0_t3 k0_h2)).toLoadRect (View.loadsAt_vmem h_S16x2880)) fun _ =>
  .op (.store arg6 (Rect.unit (s := S256x2880) (k0_off368 k0_t3) S16x2880.size (k0_off368_inb i k0_t3 k0_h2)) (dxTile v36) Finset.univ (View.stores_vmem h_S16x2880 (harg6.storeExact_slice rfl _ (k0_off368_packedbf16 i k0_t3 k0_h2)) (fun _ => rfl)) (.inl rfl)) fun _ =>
  .ret ⟨⟩

/-- The last step, at the last point. -/
def finish : Prog (TpuEff nD τ sig (Elt F) Λ₀ .tc) PUnit :=
  if k0_h2 : k0_cond2 i = 1#1 then
    Scf.Loop.for k0_t3_loop (k0_t3_ok i k0_h2) ⟨⟩ (fun k0_t3 _ => rowsOut i arg3 arg4 arg5 harg5 arg6 harg6 arg13 k0_h2 k0_t3) >>= fun _ => .ret ⟨⟩
  else .ret ⟨⟩

/-- The weight's rows quantised, and the product. -/
def middle : Prog (TpuEff nD τ sig (Elt F) Λ₀ .tc) PUnit :=
  Scf.Loop.for k0_t2_loop k0_t2_ok ⟨⟩ (fun k0_t2 _ =>
    Mx.quantRows Mx.rawT arg2 arg9 arg10 arg12 harg9 harg12 (trips_lt_t2 k0_t2)) >>= fun _ =>
  .op (.load arg11 (Rect.unit (s := S256x11520) ![0, 0] S256x11520.size inb_S256x11520_S256x11520_0_0).toLoadRect (View.loadsAt_vmem h_S256x11520)) fun v4 =>
  .op (.load arg12 (Rect.unit (s := S256x11520) ![0, 0] S256x11520.size inb_S256x11520_S256x11520_0_0).toLoadRect (View.loadsAt_vmem h_S256x11520)) fun v5 =>
  .op (.load arg13 (Rect.unit (s := S256x3072) (k0_off367 i) S256x256.size (k0_off367_inb i)).toLoadRect (View.loadsAt_vmem h_S256x256)) fun _ =>
  .op (.store arg13 (Rect.unit (s := S256x3072) (k0_off367 i) S256x256.size (k0_off367_inb i)) (prod v4 v5) Finset.univ (View.stores_vmem_bits_univ h_S256x256 rfl) (.inl rfl)) fun _ =>
  finish i arg3 arg4 arg5 harg5 arg6 harg6 arg13

/-- The body of a grid point. -/
def body : Prog (TpuEff nD τ sig (Elt F) Λ₀ .tc) PUnit :=
  if k0_h1 : k0_cond1 i = 1#1 then
    Scf.Loop.for k0_t1_loop (k0_t1_ok i k0_h1) ⟨⟩ (fun k0_t1 _ =>
      Mx.quantRows Mx.castT arg1 arg7 arg8 arg11 harg7 harg11 (trips_lt_t1 k0_t1)) >>= fun _ => middle i arg2 arg3 arg4 arg5 harg5 arg6 harg6 arg9 harg9 arg10 arg11 arg12 harg12 arg13
  else middle i arg2 arg3 arg4 arg5 harg5 arg6 harg6 arg9 harg9 arg10 arg11 arg12 harg12 arg13

/-- It is the printed kernel. -/
theorem body_eq :
    cc0_mxfp8_dgrad (F := F) i arg1 harg1 arg2 harg2 arg3 harg3 arg4 harg4 arg5 harg5 arg6 harg6 arg7 harg7 arg8 harg8 arg9 harg9 arg10 harg10 arg11 harg11 arg12 harg12 arg13 harg13 = body i arg1 arg2 arg3 arg4 arg5 harg5 arg6 harg6 arg7 harg7 arg8 arg9 harg9 arg10 arg11 harg11 arg12 harg12 arg13 := by
  chain_rfl

end Prog

end Cert.Kernel.Body
-- ==== Proof.RunK.lean ====
/-
  The body of a grid point, run from any contents of its buffers: what it leaves in each (`wp_body`).
-/
module

public import proofs.«01_k».proof.Proof.Rows
public import proofs.«01_k».proof.Proof.BodyK

@[expose] public section

set_option maxRecDepth 16384

noncomputable section

namespace Cert.Kernel.Body

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel
open Mx (Upto overlay_eq)

variable {F : FTy → Type} [FloatOps F]
variable [Facts]
open Facts₀ Facts

/-! ## Offsets -/

theorem off367 (i : grid0.Coords) : k0_off367 i 0 = 0 ∧ k0_off367 i 1 = 256 * (i 0).val :=
  ⟨rfl, (by decide +kernel : ∀ n : Fin 12, (Scalar.indexCast (Scalar.muli (BitVec.ofNat 32 n.val) 256#32)).toNat = 256 * n.val) (i 0)⟩

theorem off368 : ∀ k : Fin k0_t3_loop.trips, k0_off368 k 0 = 16 * k.val ∧ k0_off368 k 1 = 0 := by decide +kernel

theorem off369 : ∀ k : Fin k0_t3_loop.trips, k0_off369 k 0 = 16 * k.val ∧ k0_off369 k 1 = 0 := by decide +kernel

theorem trips_t3 : k0_t3_loop.trips = 16 := by decide +kernel

theorem cond1_iff (i : grid0.Coords) : k0_cond1 i = 1#1 ↔ (i 0).val = 0 :=
  (by decide +kernel : ∀ n : Fin 12, Iff (Scalar.cmpi .ne (Scalar.extui (Scalar.cmpi .eq (BitVec.ofNat 32 n.val) 0#32) : BitVec 32) 0#32 = 1#1) (n.val = 0)) (i 0)

theorem cond2_iff (i : grid0.Coords) : k0_cond2 i = 1#1 ↔ (i 0).val = 11 :=
  (by decide +kernel : ∀ n : Fin 12, Iff (Scalar.cmpi .ne (Scalar.extui (Scalar.cmpi .eq (BitVec.ofNat 32 n.val) 11#32) : BitVec 32) 0#32 = 1#1) (n.val = 11)) (i 0)

/-! ## The closed forms of the last step -/

def ch (a b : Nat) : S256x2880.Idx := fun
  | 0 => ⟨a % 256, Nat.mod_lt _ (by decide)⟩
  | 1 => ⟨b % 2880, Nat.mod_lt _ (by decide)⟩

def cd (a b : Nat) : S256x3072.Idx := fun
  | 0 => ⟨a % 256, Nat.mod_lt _ (by decide)⟩
  | 1 => ⟨b % 3072, Nat.mod_lt _ (by decide)⟩

def cr (a b : Nat) : S16x2880.Idx := fun
  | 0 => ⟨a % 16, Nat.mod_lt _ (by decide)⟩
  | 1 => ⟨b % 2880, Nat.mod_lt _ (by decide)⟩

/-- 16 rows of `h`; -/
def hRows (H : S256x2880.Idx → Elt F .bf16) (r0 : Nat) : S16x2880.Idx → Elt F .bf16 := fun x => H (ch (r0 + (x 0).val) (x 1).val)

/-- of the product. -/
def dRows (D : S256x3072.Idx → Elt F .f32) (r0 : Nat) : S16x2880.Idx → Elt F .f32 := fun x => D (cd (r0 + (x 0).val) (x 1).val)

/-- The gradient of `h`, from `h`, the gain and the product; -/
def dhOf (H : S256x2880.Idx → Elt F .bf16) (G : S1x2880.Idx → Elt F .f32) (D : S256x3072.Idx → Elt F .f32) :
    S256x2880.Idx → Elt F .bf16 := fun y =>
  dhTile (hRows H (16 * ((y 0).val / 16))) (dRows D (16 * ((y 0).val / 16))) G (cr ((y 0).val % 16) (y 1).val)

/-- of the normalised rows. -/
def dxOf (D : S256x3072.Idx → Elt F .f32) : S256x2880.Idx → Elt F .bf16 := fun y =>
  dxTile (dRows D (16 * ((y 0).val / 16))) (cr ((y 0).val % 16) (y 1).val)

/-- The first rows agree. -/
def Rows {α : Type} (k : Nat) (C C' : S256x2880.Idx → α) : Prop := ∀ y : S256x2880.Idx, (y 0).val < 16 * k → C y = C' y

theorem emb368 {α : Type} (i : grid0.Coords) (k : Fin k0_t3_loop.trips) (h2 : k0_cond2 i = 1#1)
    (x : (Rect.unit (s := S256x2880) (k0_off368 k) S16x2880.size (k0_off368_inb i k h2)).shape.Idx) :
    (Rect.unit (s := S256x2880) (k0_off368 k) S16x2880.size (k0_off368_inb i k h2)).emb x = ch (16 * k.val + (x 0).val) (x 1).val := by
  have h0 : (x 0).val < 16 := (x 0).isLt
  have h1 : (x 1).val < 2880 := (x 1).isLt
  have hk : k.val < 16 := trips_t3 ▸ k.isLt
  have ho := off368 k
  refine Rect.emb_eq_of_coords _ _ _ fun a => ?_
  match a with
  | 0 =>
    show (16 * k.val + (x 0).val) % 256 = k0_off368 k 0 + 1 * (x 0).val
    omega
  | 1 =>
    show (x 1).val % 2880 = k0_off368 k 1 + 1 * (x 1).val
    omega

theorem emb369 (i : grid0.Coords) (k : Fin k0_t3_loop.trips) (h2 : k0_cond2 i = 1#1)
    (x : (Rect.unit (s := S256x3072) (k0_off369 k) S16x2880.size (k0_off369_inb i k h2)).shape.Idx) :
    (Rect.unit (s := S256x3072) (k0_off369 k) S16x2880.size (k0_off369_inb i k h2)).emb x = cd (16 * k.val + (x 0).val) (x 1).val := by
  have h0 : (x 0).val < 16 := (x 0).isLt
  have h1 : (x 1).val < 2880 := (x 1).isLt
  have hk : k.val < 16 := trips_t3 ▸ k.isLt
  have ho := off369 k
  refine Rect.emb_eq_of_coords _ _ _ fun a => ?_
  match a with
  | 0 =>
    show (16 * k.val + (x 0).val) % 256 = k0_off369 k 0 + 1 * (x 0).val
    omega
  | 1 =>
    show (x 1).val % 3072 = k0_off369 k 1 + 1 * (x 1).val
    omega

theorem cr_eq (x : S16x2880.Idx) (a b : Nat) (ha : a = (x 0).val) (hb : b = (x 1).val) : cr a b = x := by
  have h0 : (x 0).val < 16 := (x 0).isLt
  have h1 : (x 1).val < 2880 := (x 1).isLt
  funext a
  match a with
  | 0 => exact Fin.ext (show _ % 16 = _ by omega)
  | 1 => exact Fin.ext (show _ % 2880 = _ by omega)

/-- A rectangle that is its whole shape reads everything. -/
theorem emb_full {s : Shape} (off : Fin s.rank → Nat) (h0 : ∀ a, off a = 0) (inb : ∀ a, off a + s.size a ≤ s.size a)
    (x : (Rect.unit (s := s) off s.size inb).shape.Idx) : (Rect.unit (s := s) off s.size inb).emb x = x :=
  Rect.emb_eq_of_coords _ _ _ fun a => by
    show (x a).val = off a + 1 * (x a).val
    rw [h0]; omega

theorem zero2 : ∀ a : Fin 2, (![0, 0] : Fin 2 → Nat) a = 0 := by decide

/-- A 16-row tile's rows, as the closed form's. -/
theorem rows_store {α : Type} (C C' : S256x2880.Idx → α) (T : Nat → S16x2880.Idx → α)
    (hC' : ∀ y : S256x2880.Idx, C' y = T (16 * ((y 0).val / 16)) (cr ((y 0).val % 16) (y 1).val))
    (i : grid0.Coords) (k : Fin k0_t3_loop.trips) (h2 : k0_cond2 i = 1#1) (h : Rows k.val C C') :
    Rows (k.val + 1) ((Rect.unit (s := S256x2880) (k0_off368 k) S16x2880.size (k0_off368_inb i k h2)).overlay C (T (16 * k.val))) C' := by
  intro y hy
  have ho := off368 k
  have hk : k.val < 16 := trips_t3 ▸ k.isLt
  have hy1 : (y 1).val < 2880 := (y 1).isLt
  refine overlay_eq (n := 2880) _ (fun _ => rfl) _ (fun x => ?_) y ?_
  · have h0 : (x 0).val < 16 := (x 0).isLt
    have h1 : (x 1).val < 2880 := (x 1).isLt
    rw [emb368 (α := α) i k h2, hC']
    show _ = T (16 * ((16 * k.val + (x 0).val) % 256 / 16)) (cr ((16 * k.val + (x 0).val) % 256 % 16) ((x 1).val % 2880))
    rw [cr_eq x _ _ (by omega) (by omega), show 16 * ((16 * k.val + (x 0).val) % 256 / 16) = 16 * k.val by omega]
  · by_cases hb : (y 0).val < 16 * k.val
    · exact .inl (h y hb)
    · refine .inr ⟨⟨?_, ?_⟩, ?_, ?_⟩
      · show k0_off368 k 0 ≤ _; omega
      · show _ < k0_off368 k 0 + 16; omega
      · show k0_off368 k 1 ≤ _; omega
      · show _ < k0_off368 k 1 + 2880; omega

/-! ## The programs -/

section Wp

variable {Ix : Type} [DecidableEq Ix]
variable {Name : Type} [DecidableEq Name] {U : Type} [URA U] {Lvl : Type} [Preorder Lvl]
variable {defs : Defs nD τ sig (Elt F) Λ₀} (𝒱 : Variants) (c : Dev nD) (bd : Option 𝒱.V) (E : Set Name)

local notation "𝕄" => MT nD τ sig Ix (Elt F) Name U Lvl
local notation "WP" => wp frame (wpE (Ix := Ix) (Name := Name) (U := U) (Lvl := Lvl) defs 𝒱 (c : Thread nD τ) bd) E

variable (i : grid0.Coords) (arg1 : Memref sig .tc .vmem S256x11520 .bf16) (arg2 : Memref sig .tc .vmem S256x11520 .bf16) (arg3 : Memref sig .tc .vmem S256x2880 .bf16) (arg4 : Memref sig .tc .vmem S1x2880 .f32) (arg5 : Memref sig .tc .vmem S256x2880 .bf16) (harg5 : arg5.IsWhole) (arg6 : Memref sig .tc .vmem S256x2880 .bf16) (harg6 : arg6.IsWhole) (arg7 : Memref sig .tc .vmem S256x11520 .fp8e4m3) (harg7 : arg7.IsWhole) (arg8 : Memref sig .tc .vmem S256x360 .f32) (arg9 : Memref sig .tc .vmem S256x11520 .fp8e4m3) (harg9 : arg9.IsWhole) (arg10 : Memref sig .tc .vmem S256x360 .f32) (arg11 : Memref sig .tc .vmem S256x11520 .bf16) (harg11 : arg11.IsWhole) (arg12 : Memref sig .tc .vmem S256x11520 .bf16) (harg12 : arg12.IsWhole) (arg13 : Memref sig .tc .vmem S256x3072 .f32)

/-- The quantiser's loop: from any contents of its destinations to the closed forms of its source, for either loop's
    bounds (eight trips). -/
theorem wp_quant (l : Scf.Loop 32) (hok : l.OK) (h8 : l.trips = 8) (g : Vec F Mx.T16 .bf16 → FVec F Mx.T16 .bf16) (hg : ∀ x, g x = x)
    (src : Memref sig .tc .vmem Mx.SX .bf16) (codes : Memref sig .tc .vmem Mx.SX .fp8e4m3)
    (scales : Memref sig .tc .vmem Mx.SS .f32) (q : Memref sig .tc .vmem Mx.SX .bf16)
    (hcodes : codes.IsWhole) (hq : q.IsWhole) (hlt : ∀ k : Fin l.trips, k.val < 8)
    (X : Mx.SX.Idx → Elt F .bf16) (C : Mx.SX.Idx → Elt F .fp8e4m3) (S : Mx.SS.Idx → Elt F .f32) (W : Mx.SX.Idx → Elt F .bf16)
    (K : PUnit → Prog (TpuEff nD τ sig (Elt F) Λ₀ .tc) PUnit) (Q : PUnit → sProp 𝕄) :
    iprop(ownsTc c src fullShare X ∗ ownsTc c codes fullShare C ∗ ownsTc c scales fullShare S ∗ ownsTc c q fullShare W ∗
      (iprop(ownsTc c src fullShare X ∗ ownsTc c codes fullShare (Mx.codesOf X) ∗ ownsTc c scales fullShare (Mx.scalesOf X) ∗
        ownsTc c q fullShare (Mx.wideOf X)) -∗ WP (K ⟨⟩) Q))
      ⊢ WP (Scf.Loop.for l hok ⟨⟩ (fun k _ => Mx.quantRows g src codes scales q hcodes hq (hlt k)) >>= K) Q := by
  iintro ⟨H1, H2, H3, H4, HK⟩
  iapply (Scf.wp_for_bind (σ := PUnit) frame _ E l.lb l.ub l.st hok ⟨⟩ _
    (fun k _ => Mx.St (Ix := Ix) (Name := Name) (U := U) (Lvl := Lvl) (τ := τ) X c src codes scales q k 0 0)
    (fun k _ => Mx.wp_quantRows X 𝒱 c bd E g hg src codes scales q hcodes hq (hlt k))) $$ [H1 H2 H3 H4]
  · unfold Mx.St
    iexists C, S, W
    isplitr
    · ipureintro
      exact ⟨Upto.zero _ _, Upto.zero _ _, Upto.zero _ _⟩
    isplitl [H1]
    · iexact H1
    isplitl [H2]
    · iexact H2
    isplitl [H3]
    · iexact H3
    iexact H4
  · iintro %acc HS
    unfold Mx.St
    icases HS with ⟨%C', %S', %W', %hI, H1, H2, H3, H4⟩
    have h8' : Scf.trips l.lb l.ub l.st = 8 := h8
    rw [h8'] at hI
    obtain ⟨hC, hS, hW⟩ := hI
    have eC := hC.all
    have eS := hS.all
    have eW := hW.all
    subst eC eS eW
    iapply HK
    isplitl [H1]
    · iexact H1
    isplitl [H2]
    · iexact H2
    isplitl [H3]
    · iexact H3
    iexact H4

/-- What the last step holds in its midst. -/
def St3 (H : S256x2880.Idx → Elt F .bf16) (G : S1x2880.Idx → Elt F .f32) (D : S256x3072.Idx → Elt F .f32) (k : Nat) : sProp 𝕄 :=
  iprop(∃ A B, ⌜Rows k A (dhOf H G D) ∧ Rows k B (dxOf D)⌝ ∗ ownsTc c arg3 fullShare H ∗ ownsTc c arg4 fullShare G ∗
    ownsTc c arg13 fullShare D ∗ ownsTc c arg5 fullShare A ∗ ownsTc c arg6 fullShare B)

local notation "ST3" => St3 (Ix := Ix) (Name := Name) (U := U) (Lvl := Lvl) c arg3 arg4 arg5 arg6 arg13

/-- One trip of the last step. -/
theorem wp_rowsOut (H : S256x2880.Idx → Elt F .bf16) (G : S1x2880.Idx → Elt F .f32) (D : S256x3072.Idx → Elt F .f32)
    (h2 : k0_cond2 i = 1#1) (k : Fin k0_t3_loop.trips) :
    (ST3 H G D k.val) ⊢ WP (rowsOut i arg3 arg4 arg5 harg5 arg6 harg6 arg13 h2 k) (fun _ => ST3 H G D (k.val + 1)) := by
  unfold rowsOut St3
  iintro ⟨%A, %B, %hI, H3, H4, H13, H5, H6⟩
  obtain ⟨hA, hB⟩ := hI
  iapply (Mx.wp_ld 𝒱 c bd E H)
  isplitl [H3]
  · iexact H3
  iintro H3
  iapply (Mx.wp_ld 𝒱 c bd E D)
  isplitl [H13]
  · iexact H13
  iintro H13
  iapply (Mx.wp_ld 𝒱 c bd E G)
  isplitl [H4]
  · iexact H4
  iintro H4
  iapply (Mx.wp_ld 𝒱 c bd E A)
  isplitl [H5]
  · iexact H5
  iintro H5
  iapply (Mx.wp_st 𝒱 c bd E A)
  isplitl [H5]
  · iexact H5
  iintro H5
  iapply (Mx.wp_ld 𝒱 c bd E B)
  isplitl [H6]
  · iexact H6
  iintro H6
  iapply (Mx.wp_st 𝒱 c bd E B)
  isplitl [H6]
  · iexact H6
  iintro H6
  have eH : (fun x => H ((Rect.unit (s := S256x2880) (k0_off368 k) S16x2880.size (k0_off368_inb i k h2)).emb x)) = hRows H (16 * k.val) :=
    funext fun x => congrArg H (emb368 (α := PUnit) i k h2 x)
  have eD : (fun x => D ((Rect.unit (s := S256x3072) (k0_off369 k) S16x2880.size (k0_off369_inb i k h2)).emb x)) = dRows D (16 * k.val) :=
    funext fun x => congrArg D (emb369 i k h2 x)
  have eG : (fun x => G ((Rect.unit (s := S1x2880) ![0, 0] S1x2880.size inb_S1x2880_S1x2880_0_0).emb x)) = G :=
    funext fun x => congrArg G (emb_full _ zero2 _ x)
  rw [eH, eD, eG, wp_ret]
  imodintro
  iexists _, _
  isplitr
  rotate_left
  · isplitl [H3]
    · iexact H3
    isplitl [H4]
    · iexact H4
    isplitl [H13]
    · iexact H13
    isplitl [H5]
    · iexact H5
    iexact H6
  · ipureintro
    exact ⟨rows_store A _ (fun r0 => dhTile (hRows H r0) (dRows D r0) G) (fun _ => rfl) i k h2 hA,
      rows_store B _ (fun r0 => dxTile (dRows D r0)) (fun _ => rfl) i k h2 hB⟩

/-- What the last step leaves: at the last point the two gradients, elsewhere nothing new. -/
theorem wp_finish (H : S256x2880.Idx → Elt F .bf16) (G : S1x2880.Idx → Elt F .f32) (D : S256x3072.Idx → Elt F .f32)
    (A B : S256x2880.Idx → Elt F .bf16) (Q : PUnit → sProp 𝕄) :
    iprop(ownsTc c arg3 fullShare H ∗ ownsTc c arg4 fullShare G ∗ ownsTc c arg13 fullShare D ∗ ownsTc c arg5 fullShare A ∗
      ownsTc c arg6 fullShare B ∗
      (iprop(ownsTc c arg3 fullShare H ∗ ownsTc c arg4 fullShare G ∗ ownsTc c arg13 fullShare D ∗
        ownsTc c arg5 fullShare (if k0_cond2 i = 1#1 then dhOf H G D else A) ∗
        ownsTc c arg6 fullShare (if k0_cond2 i = 1#1 then dxOf D else B)) -∗ Q ⟨⟩))
      ⊢ WP (finish i arg3 arg4 arg5 harg5 arg6 harg6 arg13) Q := by
  unfold finish
  iintro ⟨H3, H4, H13, H5, H6, HK⟩
  by_cases h2 : k0_cond2 i = 1#1
  · rw [dif_pos h2, if_pos h2, if_pos h2]
    iapply (Scf.wp_for_bind (σ := PUnit) frame _ E k0_t3_loop.lb k0_t3_loop.ub k0_t3_loop.st (k0_t3_ok i h2) ⟨⟩ _
      (fun k _ => ST3 H G D k) (fun k _ => wp_rowsOut 𝒱 c bd E i arg3 arg4 arg5 harg5 arg6 harg6 arg13 H G D h2 k)) $$ [H3 H4 H13 H5 H6]
    · unfold St3
      iexists A, B
      isplitr
      · ipureintro
        exact ⟨fun y hy => absurd hy (by omega), fun y hy => absurd hy (by omega)⟩
      isplitl [H3]
      · iexact H3
      isplitl [H4]
      · iexact H4
      isplitl [H13]
      · iexact H13
      isplitl [H5]
      · iexact H5
      iexact H6
    · iintro %acc HS
      unfold St3
      icases HS with ⟨%A', %B', %hI, H3, H4, H13, H5, H6⟩
      have h16 : Scf.trips k0_t3_loop.lb k0_t3_loop.ub k0_t3_loop.st = 16 := trips_t3
      rw [h16] at hI
      have eA : A' = dhOf H G D := funext fun y => hI.1 y (show (y 0).val < 256 from (y 0).isLt)
      have eB : B' = dxOf D := funext fun y => hI.2 y (show (y 0).val < 256 from (y 0).isLt)
      subst eA eB
      rw [wp_ret]
      imodintro
      iapply HK
      isplitl [H3]
      · iexact H3
      isplitl [H4]
      · iexact H4
      isplitl [H13]
      · iexact H13
      isplitl [H5]
      · iexact H5
      iexact H6
  · rw [dif_neg h2, if_neg h2, if_neg h2, wp_ret]
    imodintro
    iapply HK
    isplitl [H3]
    · iexact H3
    isplitl [H4]
    · iexact H4
    isplitl [H13]
    · iexact H13
    isplitl [H5]
    · iexact H5
    iexact H6

/-- The product's scratch after a point: the point's 256 columns overwritten. -/
def dxAcc (D : S256x3072.Idx → Elt F .f32) (Wd Ww : S256x11520.Idx → Elt F .bf16) : S256x3072.Idx → Elt F .f32 :=
  (Rect.unit (s := S256x3072) (k0_off367 i) S256x256.size (k0_off367_inb i)).overlay D (prod Wd Ww)

/-- The middle: the weight's rows quantised, the product, the last step. -/
theorem wp_middle (X2 : S256x11520.Idx → Elt F .bf16) (H : S256x2880.Idx → Elt F .bf16) (G : S1x2880.Idx → Elt F .f32)
    (A B : S256x2880.Idx → Elt F .bf16) (C : S256x11520.Idx → Elt F .fp8e4m3) (S : S256x360.Idx → Elt F .f32)
    (Wd Ww : S256x11520.Idx → Elt F .bf16) (D : S256x3072.Idx → Elt F .f32) (Q : PUnit → sProp 𝕄) :
    iprop(ownsTc c arg2 fullShare X2 ∗ ownsTc c arg3 fullShare H ∗ ownsTc c arg4 fullShare G ∗ ownsTc c arg5 fullShare A ∗
      ownsTc c arg6 fullShare B ∗ ownsTc c arg9 fullShare C ∗ ownsTc c arg10 fullShare S ∗ ownsTc c arg11 fullShare Wd ∗
      ownsTc c arg12 fullShare Ww ∗ ownsTc c arg13 fullShare D ∗
      (iprop(ownsTc c arg2 fullShare X2 ∗ ownsTc c arg3 fullShare H ∗ ownsTc c arg4 fullShare G ∗
        ownsTc c arg5 fullShare (if k0_cond2 i = 1#1 then dhOf H G (dxAcc i D Wd (Mx.wideOf X2)) else A) ∗
        ownsTc c arg6 fullShare (if k0_cond2 i = 1#1 then dxOf (dxAcc i D Wd (Mx.wideOf X2)) else B) ∗
        ownsTc c arg9 fullShare (Mx.codesOf X2) ∗ ownsTc c arg10 fullShare (Mx.scalesOf X2) ∗ ownsTc c arg11 fullShare Wd ∗
        ownsTc c arg12 fullShare (Mx.wideOf X2) ∗ ownsTc c arg13 fullShare (dxAcc i D Wd (Mx.wideOf X2))) -∗ Q ⟨⟩))
      ⊢ WP (middle i arg2 arg3 arg4 arg5 harg5 arg6 harg6 arg9 harg9 arg10 arg11 arg12 harg12 arg13) Q := by
  unfold middle
  iintro ⟨H2, H3, H4, H5, H6, H9, H10, H11, H12, H13, HK⟩
  iapply (wp_quant 𝒱 c bd E k0_t2_loop k0_t2_ok trips_t2 Mx.rawT (fun _ => rfl) arg2 arg9 arg10 arg12 harg9 harg12 trips_lt_t2
    X2 C S Ww _ Q)
  isplitl [H2]
  · iexact H2
  isplitl [H9]
  · iexact H9
  isplitl [H10]
  · iexact H10
  isplitl [H12]
  · iexact H12
  iintro ⟨H2, H9, H10, H12⟩
  iapply (Mx.wp_ld 𝒱 c bd E Wd)
  isplitl [H11]
  · iexact H11
  iintro H11
  iapply (Mx.wp_ld 𝒱 c bd E (Mx.wideOf X2))
  isplitl [H12]
  · iexact H12
  iintro H12
  iapply (Mx.wp_ld 𝒱 c bd E D)
  isplitl [H13]
  · iexact H13
  iintro H13
  iapply (Mx.wp_st 𝒱 c bd E D)
  isplitl [H13]
  · iexact H13
  iintro H13
  have e1 : (fun x => Wd ((Rect.unit (s := S256x11520) ![0, 0] S256x11520.size inb_S256x11520_S256x11520_0_0).emb x)) = Wd :=
    funext fun x => congrArg Wd (emb_full _ zero2 _ x)
  have e2 : (fun x => Mx.wideOf X2 ((Rect.unit (s := S256x11520) ![0, 0] S256x11520.size inb_S256x11520_S256x11520_0_0).emb x)) = Mx.wideOf X2 :=
    funext fun x => congrArg (Mx.wideOf X2) (emb_full _ zero2 _ x)
  rw [e1, e2]
  iapply (wp_finish 𝒱 c bd E i arg3 arg4 arg5 harg5 arg6 harg6 arg13 H G (dxAcc i D Wd (Mx.wideOf X2)) A B Q)
  isplitl [H3]
  · iexact H3
  isplitl [H4]
  · iexact H4
  isplitl [H13]
  · iexact H13
  isplitl [H5]
  · iexact H5
  isplitl [H6]
  · iexact H6
  iintro ⟨H3, H4, H13, H5, H6⟩
  iapply HK
  isplitl [H2]
  · iexact H2
  isplitl [H3]
  · iexact H3
  isplitl [H4]
  · iexact H4
  isplitl [H5]
  · iexact H5
  isplitl [H6]
  · iexact H6
  isplitl [H9]
  · iexact H9
  isplitl [H10]
  · iexact H10
  isplitl [H11]
  · iexact H11
  isplitl [H12]
  · iexact H12
  iexact H13

/-- The whole body. `Wd'` is the first operand's widened codes: fresh at the first point, as found elsewhere. -/
theorem wp_body (X1 X2 : S256x11520.Idx → Elt F .bf16) (H : S256x2880.Idx → Elt F .bf16) (G : S1x2880.Idx → Elt F .f32)
    (A B : S256x2880.Idx → Elt F .bf16) (C1 C : S256x11520.Idx → Elt F .fp8e4m3) (S1 S : S256x360.Idx → Elt F .f32)
    (Wd Ww : S256x11520.Idx → Elt F .bf16) (D : S256x3072.Idx → Elt F .f32)
    (Wd' : S256x11520.Idx → Elt F .bf16) (hWd' : Wd' = if k0_cond1 i = 1#1 then Mx.wideOf X1 else Wd) (Q : PUnit → sProp 𝕄) :
    iprop(ownsTc c arg1 fullShare X1 ∗ ownsTc c arg2 fullShare X2 ∗ ownsTc c arg3 fullShare H ∗ ownsTc c arg4 fullShare G ∗
      ownsTc c arg5 fullShare A ∗ ownsTc c arg6 fullShare B ∗ ownsTc c arg7 fullShare C1 ∗ ownsTc c arg8 fullShare S1 ∗
      ownsTc c arg9 fullShare C ∗ ownsTc c arg10 fullShare S ∗ ownsTc c arg11 fullShare Wd ∗
      ownsTc c arg12 fullShare Ww ∗ ownsTc c arg13 fullShare D ∗
      (iprop(ownsTc c arg1 fullShare X1 ∗ ownsTc c arg2 fullShare X2 ∗ ownsTc c arg3 fullShare H ∗ ownsTc c arg4 fullShare G ∗
        ownsTc c arg5 fullShare (if k0_cond2 i = 1#1 then dhOf H G (dxAcc i D Wd' (Mx.wideOf X2)) else A) ∗
        ownsTc c arg6 fullShare (if k0_cond2 i = 1#1 then dxOf (dxAcc i D Wd' (Mx.wideOf X2)) else B) ∗
        ownsTc c arg7 fullShare (if k0_cond1 i = 1#1 then Mx.codesOf X1 else C1) ∗
        ownsTc c arg8 fullShare (if k0_cond1 i = 1#1 then Mx.scalesOf X1 else S1) ∗
        ownsTc c arg9 fullShare (Mx.codesOf X2) ∗ ownsTc c arg10 fullShare (Mx.scalesOf X2) ∗ ownsTc c arg11 fullShare Wd' ∗
        ownsTc c arg12 fullShare (Mx.wideOf X2) ∗ ownsTc c arg13 fullShare (dxAcc i D Wd' (Mx.wideOf X2))) -∗ Q ⟨⟩))
      ⊢ WP (body i arg1 arg2 arg3 arg4 arg5 harg5 arg6 harg6 arg7 harg7 arg8 arg9 harg9 arg10 arg11 harg11 arg12 harg12 arg13) Q := by
  unfold body
  iintro ⟨H1, H2, H3, H4, H5, H6, H7, H8, H9, H10, H11, H12, H13, HK⟩
  by_cases h1 : k0_cond1 i = 1#1
  · rw [if_pos h1] at hWd'
    rw [dif_pos h1, if_pos h1, if_pos h1]
    iapply (wp_quant 𝒱 c bd E k0_t1_loop (k0_t1_ok i h1) trips_t1 Mx.castT Mx.castT_eq arg1 arg7 arg8 arg11 harg7 harg11 trips_lt_t1
      X1 C1 S1 Wd _ Q)
    isplitl [H1]
    · iexact H1
    isplitl [H7]
    · iexact H7
    isplitl [H8]
    · iexact H8
    isplitl [H11]
    · iexact H11
    iintro ⟨H1, H7, H8, H11⟩
    subst hWd'
    iapply (wp_middle 𝒱 c bd E i arg2 arg3 arg4 arg5 harg5 arg6 harg6 arg9 harg9 arg10 arg11 arg12 harg12 arg13
      X2 H G A B C S (Mx.wideOf X1) Ww D Q)
    isplitl [H2]
    · iexact H2
    isplitl [H3]
    · iexact H3
    isplitl [H4]
    · iexact H4
    isplitl [H5]
    · iexact H5
    isplitl [H6]
    · iexact H6
    isplitl [H9]
    · iexact H9
    isplitl [H10]
    · iexact H10
    isplitl [H11]
    · iexact H11
    isplitl [H12]
    · iexact H12
    isplitl [H13]
    · iexact H13
    iintro ⟨H2, H3, H4, H5, H6, H9⟩
    iapply HK
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact H9
  · rw [if_neg h1] at hWd'
    rw [dif_neg h1, if_neg h1, if_neg h1]
    subst hWd'
    iapply (wp_middle 𝒱 c bd E i arg2 arg3 arg4 arg5 harg5 arg6 harg6 arg9 harg9 arg10 arg11 arg12 harg12 arg13
      X2 H G A B C S Wd' Ww D Q)
    isplitl [H2]
    · iexact H2
    isplitl [H3]
    · iexact H3
    isplitl [H4]
    · iexact H4
    isplitl [H5]
    · iexact H5
    isplitl [H6]
    · iexact H6
    isplitl [H9]
    · iexact H9
    isplitl [H10]
    · iexact H10
    isplitl [H11]
    · iexact H11
    isplitl [H12]
    · iexact H12
    isplitl [H13]
    · iexact H13
    iintro ⟨H2, H3, H4, H5, H6, H9⟩
    iapply HK
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact H9

end Wp

end Cert.Kernel.Body
-- ==== Proof.FramesK.lean ====
/-
  The kernel's frame: every execution ends, with its arguments as they were and every counter at zero. What the
  body leaves in its result windows is forgotten here.
-/
module

public import proofs.«01_k».proof.Proof.RunK
public import proofs.«01_k».proof.Proof.Gen.Kernel.Frame

@[expose] public section

set_option maxRecDepth 16384

noncomputable section

namespace Cert.Kernel.Body

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Anything, for the part of the weight's buffer that no fetch fills. -/
def junk1 (t : Fin cfg0.N) : (cfg0.win 1).block.Idx → Elt F (cfg0.win 1).elt := fun _ => Classical.arbitrary _

/-- The weight's buffer at a point: its block where the fetch fills the buffer. -/
def blk1 (c : Dev nD) (t : Fin cfg0.N) : (cfg0.win 1).block.Idx → Elt F (cfg0.win 1).elt :=
  (cfg0.win 1).fill (cfg0.grid.coords t) (junk1 t) (iblk m c 1 t)

/-- The proof's data, the result windows unnamed. -/
def dats0 (p : Fin 1) (c : Dev nD) : Dat τ (Elt F) Unit ℕ (UR sig nD τ) ℕ (cfgs p) c where
  A w := V m c (Pipeline.arrRef spec0 w)
  after w t := match w with
    | 0 => iblk m c 0 t
    | 1 => blk1 m c t
    | 2 => iblk m c 2 t
    | 3 => iblk m c 3 t
    | 4 => fun _ => Classical.arbitrary _
    | 5 => fun _ => Classical.arbitrary _
    | 6 => fun _ => Classical.arbitrary _
    | 7 => fun _ => Classical.arbitrary _
    | 8 => fun _ => Classical.arbitrary _
    | 9 => fun _ => Classical.arbitrary _
    | ⟨_ + 10, h⟩ => absurd h (Nat.not_lt.2 (Nat.le_add_left _ _))
  Φ _ := Pipeline.ΦA spec0 c
  q _ := fullShare
  owed _ := 0

/-- The result windows. -/
def fgt : Fin 10 → Bool := fun | 0 => false | 1 => false | 2 => false | 3 => false | 4 => true | 5 => true | 6 => true | 7 => true | 8 => true | 9 => true | ⟨_ + 10, h⟩ => absurd h (Nat.not_lt.2 (Nat.le_add_left _ _))

theorem scr_owns (c : Dev nD) (b : Ref sig .tc) :
    iprop(∃ f : Buf (Elt F) ((c : Thread nD τ).loc b), ((c : Thread nD τ).loc b) ↦{fullShare} f)
      ⊢ (iprop(∃ X, ownsTc c (Memref.whole b) fullShare X) : sProp 𝕄) := by
  iintro ⟨%f, H⟩
  iexists f
  unfold ownsTc; rw [owns_whole]
  iexact H

theorem owns_scr (c : Dev nD) (b : Ref sig .tc) (X) :
    (ownsTc c (Memref.whole b) fullShare X : sProp 𝕄)
      ⊢ iprop(∃ f : Buf (Elt F) ((c : Thread nD τ).loc b), ((c : Thread nD τ).loc b) ↦{fullShare} f) := by
  unfold ownsTc; rw [owns_whole]
  iintro H
  iexists X
  iexact H

/-- The class's invariant is the three scratch buffers at some contents and the generator register. -/
theorem phi_open (c : Dev nD) : (Pipeline.ΦA spec0 c : sProp 𝕄) ⊢ iprop((∃ X, ownsTc c (Memref.whole cc0_scratch0) fullShare X) ∗
    (∃ X, ownsTc c (Memref.whole cc0_scratch1) fullShare X) ∗ (∃ X, ownsTc c (Memref.whole cc0_scratch2) fullShare X) ∗
    ∃ r, prngReg c r) := by
  unfold Pipeline.ΦA
  rw [scopedRest0_eq]
  iintro ⟨⟨H0, H1, H2⟩, HR⟩
  isplitl [H0]
  · iapply (scr_owns c cc0_scratch0); iexact H0
  isplitl [H1]
  · iapply (scr_owns c cc0_scratch1); iexact H1
  isplitl [H2]
  · iapply (scr_owns c cc0_scratch2); iexact H2
  iexact HR

theorem phi_close (c : Dev nD) (X0 X1 X2) : iprop(ownsTc c (Memref.whole cc0_scratch0) fullShare X0 ∗
    ownsTc c (Memref.whole cc0_scratch1) fullShare X1 ∗ ownsTc c (Memref.whole cc0_scratch2) fullShare X2 ∗
    ∃ r, prngReg c r) ⊢ (Pipeline.ΦA spec0 c : sProp 𝕄) := by
  unfold Pipeline.ΦA
  rw [scopedRest0_eq]
  iintro ⟨H0, H1, H2, HR⟩
  isplitr [HR]
  · isplitl [H0]
    · iapply (owns_scr c cc0_scratch0 X0); iexact H0
    isplitl [H1]
    · iapply (owns_scr c cc0_scratch1 X1); iexact H1
    iapply (owns_scr c cc0_scratch2 X2); iexact H2
  iexact HR

theorem before0 (c : Dev nD) (t : Fin cfg0.N) (d) : (dats0 m 0 c).before 0 t d = iblk m c 0 t :=
  before0_0_of m _ rfl (fun _ => rfl) t d
theorem before2 (c : Dev nD) (t : Fin cfg0.N) (d) : (dats0 m 0 c).before 2 t d = iblk m c 2 t :=
  before0_2_of m _ rfl (fun _ => rfl) t d
theorem before3 (c : Dev nD) (t : Fin cfg0.N) (d) : (dats0 m 0 c).before 3 t d = iblk m c 3 t :=
  before0_3_of m _ rfl (fun _ => rfl) t d
theorem before1 (c : Dev nD) (t : Fin cfg0.N) (d) :
    (dats0 m 0 c).before 1 t d = (cfg0.win 1).fill (cfg0.grid.coords t) d (iblk m c 1 t) := by
  unfold Dat.before
  rw [if_pos (fetch0_1 t)]
  rfl

/-- The kernel's function at a point of the grid, written plainly. -/
theorem bodyAt0_eq (t : Fin cfg0.N) : bodyAt0 (F := F) t = body (grid0.coords t) (win0_0.stage (cfg0.slots t 0))
    (win0_1.stage (cfg0.slots t 1)) (win0_2.stage (cfg0.slots t 2)) (win0_3.stage (cfg0.slots t 3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7))
    (win0_8.stage (cfg0.slots t 8)) (hstage0_8 ((cfg0.slots t 8).cast nbuf0_8)) (win0_9.stage (cfg0.slots t 9))
    (Memref.whole cc0_scratch0) (Memref.isWhole_whole _) (Memref.whole cc0_scratch1) (Memref.isWhole_whole _)
    (Memref.whole cc0_scratch2) :=
  body_eq _ _ _ _ _ _ _ _ _ _ _ _ _ _ _ _ _ _ _ _ _ _ _ _ _ _ _

theorem body_forget (c : Dev nD) : Pipeline.BodyObligationLoose (dats0 m 0 c) (defs₀ (F := F)) Variants.none () Set.univ fgt := by
  intro t
  rw [bigSep_W0, bigSep_W0]
  dsimp only [fgt, idle0]
  simp only [before0, before1, before2, before3]
  show _ ⊢ wp _ _ _ (bodyAt0 t) _
  rw [bodyAt0_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HP := (show (dats0 m 0 c).Φ t.castSucc ⊢ _ from phi_open c) $$ HΦ
  icases HP with ⟨⟨%s0, S0⟩, ⟨%s1, S1⟩, ⟨%s2, S2⟩, HR⟩
  iapply (wp_body Variants.none c none Set.univ (grid0.coords t) _ _ _ _ _ _ _ _ _ _ _ _ _ _ _ _ _ _ _
    (iblk m c 0 t) ((win0 1).fill (grid0.coords t) d1 (iblk m c 1 t)) (iblk m c 2 t) (iblk m c 3 t) d4 d5 d6 d8 d7 d9 s0 s1 s2 _ rfl)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [S0]
  · iexact S0
  isplitl [S1]
  · iexact S1
  isplitl [S2]
  · iexact S2
  iintro ⟨H0, H1, H2, H3, H4, H5, H6, H7, H8, H9, S0, S1, S2⟩
  isplitl [S0 S1 S2 HR]
  · iapply (show _ ⊢ (dats0 m 0 c).Φ t.succ from phi_close c _ _ _)
    isplitl [S0]
    · iexact S0
    isplitl [S1]
    · iexact S1
    isplitl [S2]
    · iexact S2
    iexact HR
  isplitl [Ho]
  · iexact Ho
  isplitl [H0]
  · iexact H0
  isplitl [H1]
  · iexists d1
    rw [show (win0 1).cut (grid0.coords t) ((dats0 m 0 c).after 1 t) = iblk m c 1 t from Window.cut_fill _ _ _ _]
    iexact H1
  isplitl [H2]
  · iexact H2
  isplitl [H3]
  · iexact H3
  isplitl [H4]
  · iexists _; iexact H4
  isplitl [H5]
  · iexists _; iexact H5
  isplitl [H6]
  · iexists _; iexact H6
  isplitl [H7]
  · iexists _; iexact H7
  isplitl [H8]
  · iexists _; iexact H8
  iexists _
  iexact H9

/-- Every execution of the kernel ends, its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_forget cfgs (dats0 m) 0 launch0 defs₀ Variants.none fgt m ρ main (body_forget m)
    (fun c w => by fin_cases w <;> rfl) (fun _ _ => rfl) (V m) (hmain m Variants.none) (fun _ _ => rfl) (fun _ _ => rfl) _
    (fun r h => ⟨fun c => ⟨((h.1 c).2 main_arg0 (Pipeline.mem_restRefs_of main_arg0 (by decide) (by decide))).trans (V_main_arg0 m c),
      (Pipeline.RDat.FramePost.arr_in h.1 c 1 rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)

end Cert.Kernel.Body
-- ==== Proof.RefRows.lean ====
/-
  The reference's quantiser over any number of rows, read at an index.
-/
module

public import Idealize.ShloMosaic.Lib.Pointwise
public import Idealize.ShloMosaic.Lib.Pipeline.Value

@[expose] public section

set_option maxRecDepth 16384

noncomputable section

namespace RefRows

open Idealize.ShloMosaic

variable {n : Nat}

abbrev SR (n : Nat) : Shape := ⟨2, ![n, 11520]⟩
abbrev SB (n : Nat) : Shape := ⟨2, ![n, 360]⟩
abbrev SU (n q : Nat) : Shape := ⟨3, ![n, 360, q]⟩

section Layout
variable {α : Type}

/-- A value per block, spread over a third axis. -/
theorem spread_at {q : Nat} (hq : q ≠ 1) (v : (SB n).Idx → α) (h : (SB n).ShapeCasts (SU n 1)) (hb : (SU n 1).Broadcasts (SU n q))
    (r : Fin n) (b : Fin 360) (k : Fin q) :
    broadcastTo (SU n q) (shapeCast (SU n 1) v h) hb (ix3 r b k) = v (ix2 r b) := by
  refine (broadcastTo_apply _ hb _ (ix3 r b 0) ?_).trans ?_
  · intro a
    match a with
    | ⟨0, _⟩ =>
      show r.val = if n = 1 then 0 else r.val
      split
      · have := r.isLt; omega
      · rfl
    | ⟨1, _⟩ => rfl
    | ⟨2, _⟩ => rfl
  · refine shapeCast_apply _ h _ _ ?_
    rw [Shape.rowMajor_val_two, Shape.rowMajor_val_three]
    show r.val * 360 + b.val = (r.val * 360 + b.val) * 1 + 0
    omega

/-- A row cut into blocks of 32. -/
theorem split_at (v : (SR n).Idx → α) (h : (SR n).ShapeCasts (SU n 32)) (r : Fin n) (b : Fin 360) (u : Fin 32) :
    shapeCast (SU n 32) v h (ix3 r b u) = v (ix2 r ⟨32 * b.val + u.val, by have := b.isLt; have := u.isLt; omega⟩) := by
  refine shapeCast_apply _ h _ _ ?_
  rw [Shape.rowMajor_val_two, Shape.rowMajor_val_three]
  show r.val * 11520 + (32 * b.val + u.val) = (r.val * 360 + b.val) * 32 + u.val
  omega

/-- The blocks of a row joined. -/
theorem join_at (v : (SU n 32).Idx → α) (h : (SU n 32).ShapeCasts (SR n)) (r : Fin n) (c : Fin 11520) :
    shapeCast (SR n) v h (ix2 r c) = v (ix3 r ⟨c.val / 32, by have := c.isLt; omega⟩ ⟨c.val % 32, Nat.mod_lt _ (by decide)⟩) := by
  refine shapeCast_apply _ h _ _ ?_
  rw [Shape.rowMajor_val_two, Shape.rowMajor_val_three]
  show (r.val * 360 + c.val / 32) * 32 + c.val % 32 = r.val * 11520 + c.val
  omega

end Layout

/-- The largest of a third axis. -/
def mx {q : Nat} (v : FVec Ideal (SU n q) .f32) (h : (SU n q).Reduces [2] (SB n)) : FVec Ideal (SB n) .f32 :=
  multiReduction .maximumf [2] (SB n) v 0xFF800000#32 h (.inl rfl) rfl

theorem mx_at {q : Nat} (v : FVec Ideal (SU n q) .f32) (h : (SU n q).Reduces [2] (SB n)) (r : Fin n) (b : Fin 360) :
    (mx v h (ix2 r b) : EReal)
      = (Finset.univ : Finset (Fin q)).fold max (Ideal.ofBits .f32 0xFF800000#32) fun k => (v (ix3 r b k) : EReal) := by
  unfold mx
  refine (multiReduction_maximumf_eq_fold (h := h) (j := ix2 r b) ..).trans ?_
  exact h.fold_fiber_r3_a2 (ix2 r b) (max : EReal → EReal → EReal) _ v

/-- The block's largest magnitude over 448. -/
def qy (X : FVec Ideal (SU n 32) .f32) (h : (SU n 32).Reduces [2] (SB n)) : FVec Ideal (SB n) .f32 :=
  mulf (mx (absf X) h) (broadcast (SB n) (Scalar.ofBits .f32 0x3B124925#32))

theorem qy_at (X : FVec Ideal (SU n 32) .f32) (h : (SU n 32).Reduces [2] (SB n)) (r : Fin n) (b : Fin 360) :
    (qy X h (ix2 r b) : EReal) = HMul.hMul (α := EReal) (β := EReal) ((Finset.univ : Finset (Fin 32)).fold max (Ideal.ofBits .f32 0xFF800000#32)
      fun k => max (X (ix3 r b k) : EReal) (-(X (ix3 r b k) : EReal))) (Ideal.ofBits .f32 0x3B124925#32) :=
  congrArg (fun x : EReal => HMul.hMul (α := EReal) (β := EReal) x (Ideal.ofBits .f32 0x3B124925#32)) (mx_at (absf X) h r b)

/-- The power of two with exponent `k - 126`. -/
def pw (k : Fin 254) : EReal := FloatOps.exp2 (F := Ideal) (φ := .f32) (FloatOps.sitofp .f32 (IntOp.subi (BitVec.ofNat 32 k.val) 126#32))

/-- The largest such power at most `y`, or zero. -/
def top (y : EReal) : EReal :=
  (Finset.univ : Finset (Fin 254)).fold max (Ideal.ofBits .f32 0xFF800000#32) fun k => if pw k ≤ y then pw k else 0

/-- The scale: twice that power, or one. -/
def scl (y : EReal) : EReal := if top y = 0 then 1 else HMul.hMul (α := EReal) (β := EReal) (Ideal.ofBits .f32 0x40000000#32) (top y)

/-- The scales. -/
def qscale (y : FVec Ideal (SB n) .f32) (hi : (SU n 254).Iotas .tc 32 [2]) (h : (SB n).ShapeCasts (SU n 1))
    (hb : (SU n 1).Broadcasts (SU n 254)) (hr : (SU n 254).Reduces [2] (SB n)) : FVec Ideal (SB n) .f32 :=
  have p : FVec Ideal (SU n 254) .f32 := exp2 (sitofp .f32 (subi (iota .tc (SU n 254) 32 [2] hi) (broadcast (SU n 254) 126#32)))
  have t : FVec Ideal (SB n) .f32 := mx
    (select (cmpf .ole p (broadcastTo (SU n 254) (shapeCast (SU n 1) y h) hb)) p (broadcast (SU n 254) (Scalar.ofBits .f32 0x00000000#32))) hr
  select (cmpf .oeq t (broadcast (SB n) (Scalar.ofBits .f32 0x00000000#32))) (broadcast (SB n) (Scalar.ofBits .f32 0x3F800000#32))
    (mulf (broadcast (SB n) (Scalar.ofBits .f32 0x40000000#32)) t)

theorem p_at (hi : (SU n 254).Iotas .tc 32 [2]) (r : Fin n) (b : Fin 360) (k : Fin 254) :
    (exp2 (sitofp .f32 (subi (iota .tc (SU n 254) 32 [2] hi) (broadcast (SU n 254) 126#32))) : FVec Ideal (SU n 254) .f32) (ix3 r b k) = pw k := by
  show FloatOps.exp2 (F := Ideal) (φ := .f32) (FloatOps.sitofp .f32 (IntOp.subi (iota .tc (SU n 254) 32 [2] hi (ix3 r b k)) 126#32)) = pw k
  rw [iota_single_apply]
  rfl

theorem sel_le (p y : EReal) : (Scalar.select (FloatOps.cmpf (F := Ideal) (φ := .f32) .ole p y) p (Scalar.ofBits (F := Ideal) .f32 0x00000000#32) : EReal)
    = if p ≤ y then p else 0 := by
  pointwise

theorem sel_eq (t : EReal) : (Scalar.select (FloatOps.cmpf (F := Ideal) (φ := .f32) .oeq t (Scalar.ofBits (F := Ideal) .f32 0x00000000#32))
    (Scalar.ofBits (F := Ideal) .f32 0x3F800000#32) (HMul.hMul (α := EReal) (β := EReal) (Ideal.ofBits .f32 0x40000000#32) t) : EReal)
    = if t = 0 then 1 else HMul.hMul (α := EReal) (β := EReal) (Ideal.ofBits .f32 0x40000000#32) t := by
  pointwise

theorem qscale_at (y : FVec Ideal (SB n) .f32) (hi h hb hr) (r : Fin n) (b : Fin 360) :
    (qscale y hi h hb hr (ix2 r b) : EReal) = scl (y (ix2 r b)) := by
  have ht : (mx (select (cmpf .ole (exp2 (sitofp .f32 (subi (iota .tc (SU n 254) 32 [2] hi) (broadcast (SU n 254) 126#32)))
      : FVec Ideal (SU n 254) .f32) (broadcastTo (SU n 254) (shapeCast (SU n 1) y h) hb))
      (exp2 (sitofp .f32 (subi (iota .tc (SU n 254) 32 [2] hi) (broadcast (SU n 254) 126#32)))) (broadcast (SU n 254) (Scalar.ofBits .f32 0x00000000#32)))
      hr (ix2 r b) : EReal) = top (y (ix2 r b)) := by
    rw [mx_at]
    unfold top
    congr 1
    funext k
    refine Eq.trans ?_ (sel_le (pw k) (y (ix2 r b)))
    rw [← p_at hi r b k, ← spread_at (q := 254) (by decide) y h hb r b k]
    rfl
  unfold scl
  rw [← ht]
  exact sel_eq _

/-- The codes, rounding aside. -/
def qcodes (X : FVec Ideal (SU n 32) .f32) (s : FVec Ideal (SB n) .f32) (h : (SB n).ShapeCasts (SU n 1)) (hb : (SU n 1).Broadcasts (SU n 32))
    (hj : (SU n 32).ShapeCasts (SR n)) (ht : FTy.fp8e4m3.bits < FTy.f32.bits) : FVec Ideal (SR n) .fp8e4m3 :=
  shapeCast (SR n) (truncf .fp8e4m3 (minimumf (broadcast (SU n 32) (Scalar.ofBits .f32 0x43E00000#32)) (maximumf (broadcast (SU n 32) (Scalar.ofBits .f32 0xC3E00000#32))
    (mulf X (broadcastTo (SU n 32) (shapeCast (SU n 1) (divf (broadcast (SB n) (Scalar.ofBits .f32 0x3F800000#32)) s) h) hb)))) ht) hj

theorem qcodes_at (X : FVec Ideal (SU n 32) .f32) (s : FVec Ideal (SB n) .f32) (h hb hj ht) (r : Fin n) (c : Fin 11520) :
    (qcodes X s h hb hj ht (ix2 r c) : EReal) = min (Ideal.ofBits .f32 0x43E00000#32) (max (Ideal.ofBits .f32 0xC3E00000#32)
      (HMul.hMul (α := EReal) (β := EReal) (X (ix3 r ⟨c.val / 32, by have := c.isLt; omega⟩ ⟨c.val % 32, Nat.mod_lt _ (by decide)⟩))
        (Ideal.div (Ideal.ofBits .f32 0x3F800000#32) (s (ix2 r ⟨c.val / 32, by have := c.isLt; omega⟩))))) := by
  unfold qcodes
  rw [join_at]
  show min (Ideal.ofBits .f32 0x43E00000#32) (max (Ideal.ofBits .f32 0xC3E00000#32) (HMul.hMul (α := EReal) (β := EReal) (X _) (broadcastTo _ _ _ _))) = _
  rw [spread_at (by decide)]
  rfl

/-- The codes times their scales. -/
def qwide (C : FVec Ideal (SR n) .fp8e4m3) (s : FVec Ideal (SB n) .f32) (hs : (SR n).ShapeCasts (SU n 32)) (h : (SB n).ShapeCasts (SU n 1))
    (hb : (SU n 1).Broadcasts (SU n 32)) (hj : (SU n 32).ShapeCasts (SR n)) (h1 : FTy.fp8e4m3.bits < FTy.bf16.bits) (h2 : FTy.bf16.bits < FTy.f32.bits) :
    FVec Ideal (SR n) .bf16 :=
  shapeCast (SR n) (mulf (shapeCast (SU n 32) (extf .bf16 C h1) hs) (broadcastTo (SU n 32) (shapeCast (SU n 1) (truncf .bf16 s h2) h) hb)) hj

theorem qwide_at (C : FVec Ideal (SR n) .fp8e4m3) (s : FVec Ideal (SB n) .f32) (hs h hb hj h1 h2) (r : Fin n) (c : Fin 11520) :
    (qwide C s hs h hb hj h1 h2 (ix2 r c) : EReal) = HMul.hMul (α := EReal) (β := EReal) (C (ix2 r c))
      (s (ix2 r ⟨c.val / 32, by have := c.isLt; omega⟩)) := by
  unfold qwide
  rw [join_at]
  show HMul.hMul (α := EReal) (β := EReal) (shapeCast _ _ _ _) (broadcastTo _ _ _ _) = _
  rw [spread_at (by decide), split_at]
  refine congrArg (fun j => HMul.hMul (α := EReal) (β := EReal) (C j) (s (ix2 r ⟨c.val / 32, by have := c.isLt; omega⟩))) ?_
  refine congrArg (ix2 r) (Fin.ext ?_)
  show 32 * (c.val / 32) + c.val % 32 = c.val
  omega

end RefRows
-- ==== Proof.Word.lean ====
/-
  The inverse scale's word, over the extended reals: the search finds the greatest power of two at most the
  block's quotient, and the words of the scale and of its inverse read as that power doubled and its inverse.
-/
module

public import proofs.«01_k».proof.Proof.Tile
public import Idealize.ShloMosaic.Lib.Pointwise
public import Idealize.ShloMosaic.PureOps.Ideal
public import Idealize.ShloMosaic.Lib.IdealHost

@[expose] public section

set_option maxRecDepth 16384

noncomputable section

namespace Mx

open Idealize.ShloMosaic

/-- A cell of a register tile. -/
def i0 : T16.Idx := fun | 0 => ⟨0, by decide⟩ | 1 => ⟨0, by decide⟩

/-- What a biased exponent's word denotes. -/
def pow (m : Nat) : EReal := Ideal.ofBits .f32 (BitVec.ofNat 32 m <<< 23)

theorem pow_zero : pow 0 = 0 := by
  simp [pow, Ideal.ofBits, Ideal.ieee]

theorem bits_of (n : Nat) (h : n < 256) : (BitVec.ofNat 32 n <<< 23).extractLsb' 31 1 = 0#1 ∧
    ((BitVec.ofNat 32 n <<< 23).extractLsb' 23 8).toNat = n ∧ ((BitVec.ofNat 32 n <<< 23).extractLsb' 0 23).toNat = 0 :=
  (by decide +kernel : ∀ n : Fin 256, (BitVec.ofNat 32 n.val <<< 23).extractLsb' 31 1 = 0#1 ∧
    ((BitVec.ofNat 32 n.val <<< 23).extractLsb' 23 8).toNat = n.val ∧ ((BitVec.ofNat 32 n.val <<< 23).extractLsb' 0 23).toNat = 0) ⟨n, h⟩

theorem pow_eq (n : Nat) (h0 : 0 < n) (h : n < 255) : pow n = (((2 : ℝ) ^ ((n : ℤ) - 127) : ℝ) : EReal) := by
  obtain ⟨h1, h2, h3⟩ := bits_of n (by omega)
  unfold pow Ideal.ofBits Ideal.ieee
  simp only [h2, h3, Nat.reduceAdd]
  rw [h1, if_neg (by omega), if_neg (by omega)]
  refine congrArg (fun x : ℝ => (x : EReal)) ?_
  simp only [beq_iff_eq]
  rw [if_neg (by decide), one_mul]
  push_cast
  rw [show (8388608 : ℝ) = 2 ^ (23 : ℤ) by norm_num, ← zpow_add₀ (by norm_num), show (23 : ℤ) + ((n : ℤ) - 127 - 23) = (n : ℤ) - 127 by ring]

theorem pow_255 : pow 255 = ⊤ := by
  obtain ⟨h1, h2, h3⟩ := bits_of 255 (by omega)
  unfold pow Ideal.ofBits Ideal.ieee
  simp only [h2, h3, Nat.reduceAdd]
  rw [h1]; simp

/-- One step of the search at a scalar. -/
def estep (v : EReal) (n s : BitVec 32) : BitVec 32 := expStep (F := Ideal) (fun _ => v) (fun _ => n) s i0

theorem expStep_apply (v : FVec Ideal T16 .f32) (n : IVec T16 32) (s : BitVec 32) (i : T16.Idx) :
    expStep v n s i = estep (v i) (n i) s := by
  simp only [estep, expStep, select, cmpf, bitcastToFloat, shli, addi, broadcast]

/-- The search at a scalar. -/
def esearch (v : EReal) : BitVec 32 :=
  estep v (estep v (estep v (estep v (estep v (estep v (estep v (estep v 0#32 128#32) 64#32) 32#32) 16#32) 8#32) 4#32) 2#32) 1#32

theorem biasedExp_apply (v : FVec Ideal T16 .f32) (i : T16.Idx) : biasedExp v i = esearch (v i) := by
  unfold biasedExp esearch
  simp only [expStep_apply]
  rfl

/-- The word of the inverse, from a biased exponent's word. -/
def winv (n : BitVec 32) : BitVec 32 := invWord (fun _ => n) i0

theorem invWord_apply (n : IVec T16 32) (i : T16.Idx) : invWord n i = winv (n i) := rfl

/-- The constant the block's maximum is multiplied by. -/
def c448 : EReal := Ideal.ofBits .f32 0x3B124925#32

/-- A block's word from its maximum. -/
def word (a : EReal) : BitVec 32 := winv (esearch (a * c448))

theorem invT_apply (y : FVec Ideal T16 .bf16) (i : T16.Idx) : invT y i = word (y i) := by
  unfold invT word
  rw [invWord_apply, biasedExp_apply]
  rfl

theorem estep_eq (v : EReal) (n s : Nat) : estep v (BitVec.ofNat 32 n) (BitVec.ofNat 32 s)
    = if pow (n + s) ≤ v then BitVec.ofNat 32 (n + s) else BitVec.ofNat 32 n := by
  have e : BitVec.ofNat 32 n + BitVec.ofNat 32 s = BitVec.ofNat 32 (n + s) := (BitVec.ofNat_add ..).symm
  show Scalar.select (Ideal.cmp .oge v (Ideal.ofBits .f32 _)) (BitVec.ofNat 32 n + BitVec.ofNat 32 s) _ = _
  have e' : shli (s := T16) (addi (fun _ => BitVec.ofNat 32 n) (broadcast T16 (BitVec.ofNat 32 s))) (broadcast T16 23#32) i0
      = BitVec.ofNat 32 (n + s) <<< 23 := by
    show (BitVec.ofNat 32 n + BitVec.ofNat 32 s) <<< 23 = _
    rw [e]
  rw [e, e']
  unfold Ideal.cmp pow Scalar.select
  by_cases h : Ideal.ofBits .f32 (BitVec.ofNat 32 (n + s) <<< 23) ≤ v
  · simp [h]
  · simp [h]

/-- `n` is the greatest of the multiples of `s` whose power is at most `v`. -/
def Found (v : EReal) (s n : Nat) : Prop := n + s ≤ 256 ∧ pow n ≤ v ∧ (n + s < 256 → v < pow (n + s))

theorem found_step (v : EReal) (s n : Nat) (h : Found v (2 * s) n) (hs : 0 < s) :
    ∃ k, estep v (BitVec.ofNat 32 n) (BitVec.ofNat 32 s) = BitVec.ofNat 32 k ∧ Found v s k := by
  obtain ⟨h1, h2, h3⟩ := h
  rw [estep_eq]
  by_cases hp : pow (n + s) ≤ v
  · exact ⟨n + s, if_pos hp, by omega, hp, fun hlt => by
      have := h3 (by omega)
      rwa [show n + s + s = n + 2 * s by omega]⟩
  · exact ⟨n, if_neg hp, by omega, h2, fun _ => not_le.mp hp⟩

theorem found (v : EReal) (hv : 0 ≤ v) :
    ∃ n, esearch v = BitVec.ofNat 32 n ∧ Found v 1 n := by
  have h0 : Found v (2 * 128) 0 := ⟨by omega, by rw [pow_zero]; exact hv, fun h => absurd h (by omega)⟩
  obtain ⟨a, ea, ha⟩ := found_step v 128 0 h0 (by omega)
  obtain ⟨b, eb, hb⟩ := found_step v 64 a ha (by omega)
  obtain ⟨c, ec, hc⟩ := found_step v 32 b hb (by omega)
  obtain ⟨d, ed, hd⟩ := found_step v 16 c hc (by omega)
  obtain ⟨e, ee, he⟩ := found_step v 8 d hd (by omega)
  obtain ⟨f, ef, hf⟩ := found_step v 4 e he (by omega)
  obtain ⟨g, eg, hg⟩ := found_step v 2 f hf (by omega)
  obtain ⟨k, ek, hk⟩ := found_step v 1 g hg (by omega)
  refine ⟨k, ?_, hk⟩
  unfold esearch
  rw [show estep v 0#32 128#32 = _ from ea, show estep v _ 64#32 = _ from eb, show estep v _ 32#32 = _ from ec,
    show estep v _ 16#32 = _ from ed, show estep v _ 8#32 = _ from ee, show estep v _ 4#32 = _ from ef,
    show estep v _ 2#32 = _ from eg, show estep v _ 1#32 = _ from ek]

theorem winv_zero : winv 0#32 = BitVec.ofNat 32 127 <<< 23 := by decide +kernel

theorem winv_pos (n : Nat) (h : n < 248) (h0 : 0 < n) : winv (BitVec.ofNat 32 n) = BitVec.ofNat 32 (253 - n) <<< 23 :=
  (by decide +kernel : ∀ n : Fin 248, 0 < n.val → winv (BitVec.ofNat 32 n.val) = BitVec.ofNat 32 (253 - n.val) <<< 23) ⟨n, h⟩ h0

theorem scale_word (n : Nat) (h : n < 254) : 2130706432#32 - BitVec.ofNat 32 n <<< 23 = BitVec.ofNat 32 (254 - n) <<< 23 :=
  (by decide +kernel : ∀ n : Fin 254, 2130706432#32 - BitVec.ofNat 32 n.val <<< 23 = BitVec.ofNat 32 (254 - n.val) <<< 23) ⟨n, h⟩

/-- The inverse scale and the scale as read. -/
def invOf (a : EReal) : EReal := Ideal.ofBits .f32 (word a)
def scaleOf (a : EReal) : EReal := Ideal.ofBits .f32 (2130706432#32 - word a)

/-- Where the quotient `v` lies in [0, 2^121), the two words denote 1 and 1 (no power is at most `v`), or the inverse
    `2^(126-n)` and the scale `2^(n-126)`, `2^(n-127)` the greatest power at most `v`. -/
theorem words_of (a v : EReal) (hv : a * c448 = v) (h0 : 0 ≤ v) (h1 : v < (((2 : ℝ) ^ (121 : ℤ) : ℝ) : EReal)) :
    (v < pow 1 ∧ invOf a = 1 ∧ scaleOf a = 1) ∨
    ∃ n, 0 < n ∧ n < 248 ∧ pow n ≤ v ∧ v < pow (n + 1) ∧ invOf a = (((2 : ℝ) ^ (126 - (n : ℤ)) : ℝ) : EReal)
      ∧ scaleOf a = (((2 : ℝ) ^ ((n : ℤ) - 126) : ℝ) : EReal) := by
  obtain ⟨n, hn, hb, hle, hlt⟩ := found v h0
  have hn1 : n < 248 := by
    by_contra hc
    by_cases h255 : n = 255
    · subst h255; rw [pow_255] at hle; exact absurd (lt_of_le_of_lt hle h1) (by simp)
    · rw [pow_eq n (by omega) (by omega)] at hle
      have := lt_of_le_of_lt hle h1
      rw [EReal.coe_lt_coe_iff] at this
      have h3 := (zpow_lt_zpow_iff_right₀ (by norm_num : (1:ℝ) < 2)).mp this
      omega
  have hw : word a = winv (BitVec.ofNat 32 n) := by rw [word, hv, hn]
  have hlt' := hlt (by omega)
  rcases Nat.eq_zero_or_pos n with rfl | hp
  · left
    have e1 : invOf a = pow 127 := by unfold invOf; rw [hw, winv_zero]; rfl
    have e2 : scaleOf a = pow 127 := by unfold scaleOf; rw [hw, winv_zero, scale_word _ (by omega)]; rfl
    rw [e1, e2, pow_eq 127 (by omega) (by omega)]
    refine ⟨hlt', ?_, ?_⟩ <;> norm_num
  · right
    refine ⟨n, hp, hn1, hle, hlt', ?_, ?_⟩
    · have e1 : invOf a = pow (253 - n) := by unfold invOf; rw [hw, winv_pos n hn1 hp]; rfl
      rw [e1, pow_eq _ (by omega) (by omega)]
      congr 2; omega
    · have e2 : scaleOf a = pow (254 - (253 - n)) := by
        unfold scaleOf; rw [hw, winv_pos n hn1 hp, scale_word _ (by omega)]; rfl
      rw [e2, pow_eq _ (by omega) (by omega)]
      congr 2; omega

end Mx
-- ==== Proof.Lanes.lean ====
/-
  The quantiser's lane permutations and its tree of folds, read at a lane: after five folds the lane `l` of a group
  of tiles holds the maximum of one 32-lane block of tile `l % 32`.
-/
module

public import proofs.«01_k».proof.Proof.Wp
public import proofs.«01_k».proof.Proof.Word

@[expose] public section

set_option maxRecDepth 16384

noncomputable section

namespace Mx

open Idealize.ShloMosaic

theorem lane_apply (i : T16.Idx) : lane i = BitVec.ofNat 32 (i 1).val := by
  unfold lane
  rw [iota_apply]
  simp

theorem wrap_apply (idx : IVec T16 32) (i : T16.Idx) (l : Nat) (hl : l < 128) (h : idx i = BitVec.ofNat 32 l) :
    wrap idx i = BitVec.ofNat 32 l := by
  unfold wrap
  rw [shapeCast_shapeCast]
  show Scalar.select (IntOp.cmpi .slt (idx i) 0#32) (idx i + 128#32) (idx i) = _
  rw [h]
  exact (by decide +kernel : ∀ l : Fin 128, Scalar.select (IntOp.cmpi .slt (BitVec.ofNat 32 l.val) 0#32)
    (BitVec.ofNat 32 l.val + 128#32) (BitVec.ofNat 32 l.val) = BitVec.ofNat 32 l.val) ⟨l, hl⟩

/-- The gather reads the lane its index names. -/
theorem gather_at {α : Type} (x : T16.Idx → α) (idx : IVec T16 32) (i : T16.Idx) (l : Nat) (hl : l < 128)
    (h : idx i = BitVec.ofNat 32 l) : dynamicGather 1 x (wrap idx) i = x (c16 (i 0).val l) := by
  have hi : (i 0).val < 16 := (i 0).isLt
  unfold dynamicGather
  congr 1
  funext b
  match b with
  | 0 => exact Fin.ext (Nat.mod_eq_of_lt hi).symm
  | 1 =>
    refine Fin.ext ?_
    show (wrap idx i).toNat % 128 = l % 128
    rw [wrap_apply idx i l hl h, BitVec.toNat_ofNat, Nat.mod_eq_of_lt (by omega : l < 2 ^ 32)]

theorem permB_at (x : FVec Ideal T16 .bf16) (idx : IVec T16 32) (i : T16.Idx) (l : Nat) (hl : l < 128)
    (h : idx i = BitVec.ofNat 32 l) : permB x idx i = x (c16 (i 0).val l) :=
  gather_at x idx i l hl h

theorem permI_at (w : IVec T16 32) (idx : IVec T16 32) (i : T16.Idx) (l : Nat) (hl : l < 128)
    (h : idx i = BitVec.ofNat 32 l) : permI w idx i = w (c16 (i 0).val l) :=
  gather_at w idx i l hl h

theorem c16_val0 (r l : Nat) : (c16 r l 0).val = r % 16 := rfl
theorem c16_val1 (r l : Nat) (h : l < 128) : (c16 r l 1).val = l := Nat.mod_eq_of_lt h
theorem c16_mod (r l : Nat) : c16 (r % 16) l = c16 r l := by
  funext a
  match a with
  | 0 => exact Fin.ext (Nat.mod_mod _ _)
  | 1 => rfl

/-- Lane `l`'s partner at distance `2 ^ d`. -/
def mate (d l : Nat) : Nat := l ^^^ 2 ^ d

theorem mate_facts (d l : Nat) (hd : d < 5) (hl : l < 128) : mate d l < 128 ∧ mate d l % 2 ^ d = l % 2 ^ d ∧
    BitVec.ofNat 32 l ^^^ BitVec.ofNat 32 (2 ^ d) = BitVec.ofNat 32 (mate d l) ∧
    (l / 2 ^ d % 2 = 0 → mate d l / 2 ^ d % 2 = 1) ∧ (l / 2 ^ d % 2 = 1 → mate d l / 2 ^ d % 2 = 0) ∧
    (IntOp.cmpi .eq (BitVec.ofNat 32 l &&& BitVec.ofNat 32 (2 ^ d)) 0#32 = if l / 2 ^ d % 2 = 0 then 1#1 else 0#1) ∧
    l % 2 ^ (d + 1) = l % 2 ^ d + (if l / 2 ^ d % 2 = 0 then 0 else 2 ^ d) :=
  (by decide +kernel : ∀ (d : Fin 5) (l : Fin 128), mate d.val l.val < 128 ∧ mate d.val l.val % 2 ^ d.val = l.val % 2 ^ d.val ∧
    BitVec.ofNat 32 l.val ^^^ BitVec.ofNat 32 (2 ^ d.val) = BitVec.ofNat 32 (mate d.val l.val) ∧
    (l.val / 2 ^ d.val % 2 = 0 → mate d.val l.val / 2 ^ d.val % 2 = 1) ∧ (l.val / 2 ^ d.val % 2 = 1 → mate d.val l.val / 2 ^ d.val % 2 = 0) ∧
    (IntOp.cmpi .eq (BitVec.ofNat 32 l.val &&& BitVec.ofNat 32 (2 ^ d.val)) 0#32 = if l.val / 2 ^ d.val % 2 = 0 then 1#1 else 0#1) ∧
    l.val % 2 ^ (d.val + 1) = l.val % 2 ^ d.val + (if l.val / 2 ^ d.val % 2 = 0 then 0 else 2 ^ d.val)) ⟨d, hd⟩ ⟨l, hl⟩

theorem mate_block (d l u : Nat) (hd : d < 5) (hl : l < 128) (hu : u < 128) :
    u / 2 ^ (d + 1) = l / 2 ^ (d + 1) ↔ (u / 2 ^ d = l / 2 ^ d ∨ u / 2 ^ d = mate d l / 2 ^ d) :=
  (by decide +kernel : ∀ (d : Fin 5) (l u : Fin 128), u.val / 2 ^ (d.val + 1) = l.val / 2 ^ (d.val + 1) ↔
    (u.val / 2 ^ d.val = l.val / 2 ^ d.val ∨ u.val / 2 ^ d.val = mate d.val l.val / 2 ^ d.val)) ⟨d, hd⟩ ⟨l, hl⟩ ⟨u, hu⟩

/-- The lanes that share `l`'s block of `2 ^ d`. -/
def blk (d l : Nat) : Finset Nat := (Finset.range 128).filter fun u => u / 2 ^ d = l / 2 ^ d

theorem blk_zero (l : Nat) (hl : l < 128) : blk 0 l = {l} := by
  ext u
  simp only [blk, Finset.mem_filter, Finset.mem_range, Finset.mem_singleton, _root_.pow_zero, Nat.div_one]
  omega

theorem blk_succ (d l : Nat) (hd : d < 5) (hl : l < 128) : blk (d + 1) l = blk d l ∪ blk d (mate d l) := by
  ext u
  simp only [blk, Finset.mem_filter, Finset.mem_range, Finset.mem_union]
  constructor
  · rintro ⟨h1, h2⟩
    rcases (mate_block d l u hd hl h1).mp h2 with h | h
    · exact .inl ⟨h1, h⟩
    · exact .inr ⟨h1, h⟩
  · rintro (⟨h1, h2⟩ | ⟨h1, h2⟩)
    · exact ⟨h1, (mate_block d l u hd hl h1).mpr (.inl h2)⟩
    · exact ⟨h1, (mate_block d l u hd hl h1).mpr (.inr h2)⟩

theorem xorLane_at (d r l : Nat) (hd : d < 5) (hl : l < 128) :
    xorLane (BitVec.ofNat 32 (2 ^ d)) (c16 r l) = BitVec.ofNat 32 (mate d l) := by
  show lane (c16 r l) ^^^ _ = _
  rw [lane_apply, c16_val1 r l hl]
  exact (mate_facts d l hd hl).2.2.1

theorem permX_at (x : FVec Ideal T16 .bf16) (d r l : Nat) (hd : d < 5) (hl : l < 128) :
    permB x (xorLane (BitVec.ofNat 32 (2 ^ d))) (c16 r l) = x (c16 r (mate d l)) := by
  rw [permB_at x _ _ _ (mate_facts d l hd hl).1 (xorLane_at d r l hd hl), c16_val0, c16_mod]

theorem foldT_at (a : FVec Ideal T16 .bf16) (d r l : Nat) (hd : d < 5) (hl : l < 128) :
    foldT a (BitVec.ofNat 32 (2 ^ d)) (c16 r l) = max (a (c16 r l)) (a (c16 r (mate d l))) := by
  show max (a (c16 r l)) (permB a _ (c16 r l)) = _
  rw [permX_at a d r l hd hl]

theorem low_at (a b : FVec Ideal T16 .bf16) (d r l : Nat) (hd : d < 5) (hl : l < 128) :
    select (cmpi .eq (andi lane (broadcast T16 (BitVec.ofNat 32 (2 ^ d)))) (broadcast T16 0#32)) a b (c16 r l)
      = if l / 2 ^ d % 2 = 0 then a (c16 r l) else b (c16 r l) := by
  show Scalar.select (IntOp.cmpi .eq (lane (c16 r l) &&& BitVec.ofNat 32 (2 ^ d)) 0#32) _ _ = _
  rw [lane_apply, c16_val1 r l hl, (mate_facts d l hd hl).2.2.2.2.2.1]
  unfold Scalar.select
  by_cases h : l / 2 ^ d % 2 = 0
  · simp [h]
  · simp [h]

theorem mergeT_at (a b : FVec Ideal T16 .bf16) (d r l : Nat) (hd : d < 5) (hl : l < 128) :
    mergeT a b (BitVec.ofNat 32 (2 ^ d)) (c16 r l) = if l / 2 ^ d % 2 = 0
      then max (a (c16 r l)) (a (c16 r (mate d l))) else max (b (c16 r l)) (b (c16 r (mate d l))) := by
  obtain ⟨m1, m2, m3, m4, m5, m6, m7⟩ := mate_facts d l hd hl
  show max (select _ a b (c16 r l)) (permB (select _ b a) _ (c16 r l)) = _
  rw [permX_at _ d r l hd hl, low_at a b d r l hd hl, low_at b a d r _ hd m1]
  by_cases h : l / 2 ^ d % 2 = 0
  · rw [if_pos h, if_pos h, if_neg (by have := m4 h; omega)]
  · rw [if_neg h, if_neg h, if_pos (m5 (by omega))]

/-- The absolute value. -/
def mag (x : EReal) : EReal := max x (-x)

/-- The tree of folds at a lane. -/
theorem bmV_at (ld : Nat → FVec Ideal T16 .bf16) (r : Nat) : ∀ (d : Nat), d ≤ 5 → ∀ (lo n l : Nat), l < 128 → l % 2 ^ d < n →
    bmV ld d lo n (c16 r l) = (blk d l).sup fun u => mag (ld (lo + l % 2 ^ d) (c16 r u))
  | 0, _, lo, n, l, hl, _ => by
    rw [blk_zero l hl, Finset.sup_singleton, _root_.pow_zero, Nat.mod_one, Nat.add_zero]
    rfl
  | d + 1, hd, lo, n, l, hl, hn => by
    obtain ⟨m1, m2, m3, m4, m5, m6, m7⟩ := mate_facts d l (by omega) hl
    rw [blk_succ d l (by omega) hl, Finset.sup_union, bmV]
    by_cases h : n ≤ 2 ^ d
    · rw [if_pos h, foldT_at _ d r l (by omega) hl]
      have h0 : l % 2 ^ (d + 1) = l % 2 ^ d := by
        by_cases hb : l / 2 ^ d % 2 = 0
        · rw [m7, if_pos hb, Nat.add_zero]
        · rw [m7, if_neg hb] at hn; omega
      rw [h0] at hn ⊢
      rw [bmV_at ld r d (by omega) lo n l hl hn, bmV_at ld r d (by omega) lo n _ m1 (by rw [m2]; exact hn), m2]
    · rw [if_neg h, mergeT_at _ _ d r l (by omega) hl]
      have hp : 0 < 2 ^ d := Nat.two_pow_pos d
      by_cases hb : l / 2 ^ d % 2 = 0
      · rw [if_pos hb]
        rw [m7, if_pos hb, Nat.add_zero]
        rw [bmV_at ld r d (by omega) lo _ l hl (Nat.mod_lt _ hp),
          bmV_at ld r d (by omega) lo _ _ m1 (Nat.mod_lt _ hp), m2]
      · rw [if_neg hb]
        rw [m7, if_neg hb] at hn ⊢
        rw [bmV_at ld r d (by omega) _ _ l hl (by omega),
          bmV_at ld r d (by omega) _ _ _ m1 (by rw [m2]; omega), m2]
        rw [show lo + 2 ^ d + l % 2 ^ d = lo + (l % 2 ^ d + 2 ^ d) by omega]

/-- A 32-lane block, counted from its first lane. -/
theorem blk_five (l : Nat) (hl : l < 128) (g : Nat → EReal) :
    (blk 5 l).sup g = (Finset.range 32).sup fun u => g (32 * (l / 32) + u) := by
  apply le_antisymm
  · refine Finset.sup_le fun u hu => ?_
    simp only [blk, Finset.mem_filter, Finset.mem_range] at hu
    have h32 : u / 32 = l / 32 := hu.2
    have := Finset.le_sup (f := fun u => g (32 * (l / 32) + u)) (Finset.mem_range.mpr (Nat.mod_lt u (by omega : 0 < 32)))
    rw [show 32 * (l / 32) + u % 32 = u by omega] at this
    exact this
  · refine Finset.sup_le fun u hu => ?_
    rw [Finset.mem_range] at hu
    refine Finset.le_sup (f := g) ?_
    simp only [blk, Finset.mem_filter, Finset.mem_range]
    exact ⟨by omega, by show (32 * (l / 32) + u) / 32 = l / 32; omega⟩

/-! ## The closed forms, element by element -/

/-- The maximum magnitude of block `b` of a row. -/
def amax (f : Nat → EReal) (b : Nat) : EReal := (Finset.range 32).sup fun u => mag (f (32 * b + u))

/-- The code of the element at column `c`; -/
def codeN (f : Nat → EReal) (c : Nat) : EReal :=
  min (Ideal.ofBits .f32 0x43E00000#32) (max (Ideal.ofBits .f32 0xC3E00000#32) (f c * invOf (amax f (c / 32))))

/-- widened. -/
def wideN (f : Nat → EReal) (c : Nat) : EReal := codeN f c * scaleOf (amax f (c / 32))

/-- Row `r` of the array. -/
def rowOf (X : SX.Idx → Elt Ideal .bf16) (r : Nat) : Nat → EReal := fun c => X (cx r c)

theorem wordsOf_at (X : SX.Idx → Elt Ideal .bf16) (r0 t r l : Nat) (hl : l < 128) (h : l % 32 < grpN t) (hr : r < 16) :
    wordsOf X r0 t (c16 r l) = word (amax (rowOf X (r0 + r)) (4 * (t + l % 32) + l / 32)) := by
  unfold wordsOf
  rw [invT_apply, bmV_at _ r 5 le_rfl t _ l hl h, blk_five l hl]
  congr 1
  unfold amax
  refine Finset.sup_congr rfl fun u hu => ?_
  rw [Finset.mem_range] at hu
  congr 1
  show X (cx (r0 + r % 16) (128 * (t + l % 2 ^ 5) + (32 * (l / 32) + u) % 128)) = X (cx (r0 + r) _)
  congr 2
  · rw [Nat.mod_eq_of_lt hr]
  · show 128 * (t + l % 32) + (32 * (l / 32) + u) % 128 = _
    omega

theorem tileW_at (w : IVec T16 32) (j r l : Nat) (hj : j < 32) (hl : l < 128) :
    tileW w j (c16 r l) = w (c16 r (32 * (l / 32) + j)) := by
  have h : ori (andi lane (broadcast T16 96#32)) (broadcast T16 (BitVec.ofNat 32 j)) (c16 r l) = BitVec.ofNat 32 (32 * (l / 32) + j) := by
    show (lane (c16 r l) &&& 96#32) ||| BitVec.ofNat 32 j = _
    rw [lane_apply, c16_val1 r l hl]
    exact (by decide +kernel : ∀ (l : Fin 128) (j : Fin 32), (BitVec.ofNat 32 l.val &&& 96#32) ||| BitVec.ofNat 32 j.val
      = BitVec.ofNat 32 (32 * (l.val / 32) + j.val)) ⟨l, hl⟩ ⟨j, hj⟩
  unfold tileW
  rw [permI_at w _ _ _ (by omega) h, c16_val0, c16_mod]

theorem ordT_at (w : IVec T16 32) (r l : Nat) (hl : l < 128) :
    ordT w (c16 r l) = w (c16 r (32 * (l % 4) + l / 4)) := by
  have h : addi (muli (broadcast T16 32#32) (andi lane (broadcast T16 3#32))) (shrsi lane (broadcast T16 2#32)) (c16 r l)
      = BitVec.ofNat 32 (32 * (l % 4) + l / 4) := by
    show 32#32 * (lane (c16 r l) &&& 3#32) + IntOp.shrsi .vector (lane (c16 r l)) 2#32 = _
    rw [lane_apply, c16_val1 r l hl]
    exact (by decide +kernel : ∀ (l : Fin 128), 32#32 * (BitVec.ofNat 32 l.val &&& 3#32) + IntOp.shrsi .vector (BitVec.ofNat 32 l.val) 2#32
      = BitVec.ofNat 32 (32 * (l.val % 4) + l.val / 4)) ⟨l, hl⟩
  unfold ordT
  rw [permI_at w _ _ _ (by omega) h, c16_val0, c16_mod]

/-- The word tile `t + j`'s lane is scaled by. -/
theorem tword_at (X : SX.Idx → Elt Ideal .bf16) (r0 t j r l : Nat) (hl : l < 128) (hj : j < grpN t) (hr : r < 16) :
    tileW (wordsOf X r0 t) j (c16 r l) = word (amax (rowOf X (r0 + r)) ((128 * (t + j) + l) / 32)) := by
  have hg : grpN t ≤ 32 := Nat.min_le_left _ _
  rw [tileW_at _ j r l (by omega) hl, wordsOf_at X r0 t r _ (by omega) (by omega) hr]
  congr 2
  omega

theorem clipT_def (x : FVec Ideal T16 .bf16) (w : IVec T16 32) (i : T16.Idx) : clipT x w i =
    min (Ideal.ofBits .f32 0x43E00000#32) (max (Ideal.ofBits .f32 0xC3E00000#32) (x i * Ideal.ofBits .f32 (w i))) := rfl

theorem clipT_at (X : SX.Idx → Elt Ideal .bf16) (r0 j r l : Nat) (hl : l < 128) (hj : j < 90) (hr : r < 16) :
    clipT (tileOf X r0 j) (tileW (wordsOf X r0 (32 * (j / 32))) (j % 32)) (c16 r l) = codeN (rowOf X (r0 + r)) (128 * j + l) := by
  rw [clipT_def, tword_at X r0 _ _ r l hl (by unfold grpN; omega) hr, show 32 * (j / 32) + j % 32 = j by omega]
  unfold codeN invOf
  congr 3
  show X (cx (r0 + r % 16) (128 * j + l % 128)) = X (cx (r0 + r) (128 * j + l))
  rw [Nat.mod_eq_of_lt hr, Nat.mod_eq_of_lt hl]

theorem codeTile_at (X : SX.Idx → Elt Ideal .bf16) (r0 j r l : Nat) (hl : l < 128) (hj : j < 90) (hr : r < 32) :
    codeTile X r0 j (c32 r l) = codeN (rowOf X (r0 + r)) (128 * j + l) := by
  unfold codeTile codesT
  show concatenate T32 0 [⟨T16, _⟩, ⟨T16, _⟩] concats (c32 r l) = _
  by_cases h : r < 16
  · rw [concatenate_pair_apply_left 0 _ _ concats _ rfl (c16 r l) (fun
      | 0 => by show r % 16 = r % 32; omega
      | 1 => rfl)]
    exact clipT_at X r0 j r l hl hj h
  · rw [concatenate_pair_apply_right 0 _ _ concats _ rfl rfl (c16 (r - 16) l) (fun
      | 0 => fun hb => absurd rfl hb
      | 1 => fun _ => rfl) (by show (r - 16) % 16 + 16 = r % 32; omega)]
    rw [clipT_at X (r0 + 16) j (r - 16) l hl hj (by omega), show r0 + 16 + (r - 16) = r0 + r by omega]

theorem codesOf_eq (X : SX.Idx → Elt Ideal .bf16) (y : SX.Idx) : codesOf X y = codeN (rowOf X (y 0).val) (y 1).val := by
  have h0 : (y 0).val < 256 := (y 0).isLt
  have h1 : (y 1).val < 11520 := (y 1).isLt
  unfold codesOf
  rw [codeTile_at X _ _ _ _ (by omega) (by omega) (by omega)]
  congr 2
  · omega
  · omega

theorem scaleB_at (w : IVec T16 32) (i : T16.Idx) : scaleB (F := Ideal) w i = Ideal.ofBits .f32 (2130706432#32 - w i) := rfl

theorem mulf_at (a b : FVec Ideal T16 .bf16) (i : T16.Idx) : mulf a b i = (HMul.hMul (α := EReal) (β := EReal) (a i) (b i) : EReal) := rfl

theorem slice0_at (x : FVec Ideal T32 .bf16) (r l : Nat) (hr : r < 16) :
    extractStridedSlice T16 ![0, 0] x slice0 (c16 r l) = x (c32 r l) := by
  unfold extractStridedSlice
  congr 1
  funext a
  match a with
  | 0 => exact Fin.ext (by show 0 + r % 16 = r % 32; omega)
  | 1 => exact Fin.ext (by show 0 + l % 128 = l % 128; omega)

theorem slice16_at (x : FVec Ideal T32 .bf16) (r l : Nat) (hr : r < 16) :
    extractStridedSlice T16 ![16, 0] x slice16 (c16 r l) = x (c32 (16 + r) l) := by
  unfold extractStridedSlice
  congr 1
  funext a
  match a with
  | 0 => exact Fin.ext (by show 16 + r % 16 = (16 + r) % 32; omega)
  | 1 => exact Fin.ext (by show 0 + l % 128 = l % 128; omega)

theorem extf8_at (x : FVec Ideal T32 .fp8e4m3) (i : T32.Idx) : extf .bf16 x bits_8_16 i = x i := rfl

theorem wideOf_eq (X : SX.Idx → Elt Ideal .bf16) (y : SX.Idx) : wideOf X y = wideN (rowOf X (y 0).val) (y 1).val := by
  have h0 : (y 0).val < 256 := (y 0).isLt
  have h1 : (y 1).val < 11520 := (y 1).isLt
  unfold wideOf wideTile
  have hj : 32 * ((y 1).val / 128 / 32) + (y 1).val / 128 % 32 = (y 1).val / 128 := by omega
  have hc : 128 * ((y 1).val / 128) + (y 1).val % 128 = (y 1).val := by omega
  by_cases h : (y 0).val % 32 / 16 = 0
  · rw [if_pos h]
    unfold wide₀
    rw [shapeCast_self, mulf_at, slice0_at _ _ _ (by omega), extf8_at, scaleB_at,
      tword_at X _ _ _ _ _ (by omega) (by unfold grpN; omega) (by omega), hj, hc,
      codeTile_at X _ _ _ _ (by omega) (by omega) (by omega), hc]
    rw [show 32 * ((y 0).val / 32) + (y 0).val % 16 = (y 0).val by omega]
    rfl
  · rw [if_neg h]
    unfold wide₁
    rw [shapeCast_self, mulf_at, slice16_at _ _ _ (by omega), extf8_at, scaleB_at,
      tword_at X _ _ _ _ _ (by omega) (by unfold grpN; omega) (by omega), hj, hc,
      codeTile_at X _ _ _ _ (by omega) (by omega) (by omega), hc]
    rw [show 32 * ((y 0).val / 32) + (16 + (y 0).val % 16) = (y 0).val by omega,
      show 32 * ((y 0).val / 32) + 16 + (y 0).val % 16 = (y 0).val by omega]
    rfl

theorem scalesOf_eq (X : SX.Idx → Elt Ideal .bf16) (y : SS.Idx) :
    scalesOf X y = scaleOf (amax (rowOf X (y 0).val) (y 1).val) := by
  have h0 : (y 0).val < 256 := (y 0).isLt
  have h1 : (y 1).val < 360 := (y 1).isLt
  unfold scalesOf
  have hl : (32 * ((y 1).val % 128 % 4) + (y 1).val % 128 / 4) % 32 = (y 1).val % 128 / 4 := by omega
  have hd : (32 * ((y 1).val % 128 % 4) + (y 1).val % 128 / 4) / 32 = (y 1).val % 128 % 4 := by omega
  show (scaleB (F := Ideal) _ _ : EReal) = _
  rw [scaleB_at, ordT_at _ _ _ (by omega), wordsOf_at X _ _ _ _ (by omega) (by rw [hl]; unfold grpN; omega) (by omega), hl, hd]
  rw [show 16 * ((y 0).val / 16) + (y 0).val % 16 = (y 0).val by omega,
    show 4 * (32 * ((y 1).val / 128) + (y 1).val % 128 / 4) + (y 1).val % 128 % 4 = (y 1).val by omega]
  rfl

end Mx
-- ==== Proof.RefScale.lean ====
/-
  The reference's scale against the kernel's word arithmetic.
-/
module

public import proofs.«01_k».proof.Proof.RefRows
public import proofs.«01_k».proof.Proof.Lanes

@[expose] public section

set_option maxRecDepth 16384

noncomputable section

namespace RefRows

open Idealize.ShloMosaic Mx

theorem negInf : Ideal.ofBits .f32 0xFF800000#32 = (⊥ : EReal) := by
  simp [Ideal.ofBits, Ideal.ieee]

theorem two_bits : Ideal.ofBits .f32 0x40000000#32 = ((2 : ℝ) : EReal) := by
  simp [Ideal.ofBits, Ideal.ieee]
  rw [← EReal.coe_mul]
  norm_num

theorem one_bits : Ideal.ofBits .f32 0x3F800000#32 = ((1 : ℝ) : EReal) := by
  simp [Ideal.ofBits, Ideal.ieee]
  rw [← EReal.coe_mul]
  norm_num

theorem pw_eq (k : Fin 254) : pw k = (((2 : ℝ) ^ ((k.val : ℤ) - 126) : ℝ) : EReal) := by
  have hi : (IntOp.subi (BitVec.ofNat 32 k.val) 126#32).toInt = (k.val : ℤ) - 126 :=
    (by decide +kernel : ∀ k : Fin 254, (IntOp.subi (BitVec.ofNat 32 k.val) 126#32).toInt = (k.val : ℤ) - 126) k
  unfold pw
  show Ideal.exp2 (((IntOp.subi (BitVec.ofNat 32 k.val) 126#32).toInt : ℝ) : EReal) = _
  rw [hi, Ideal.exp2_coe]
  refine congrArg (fun x : ℝ => (x : EReal)) ?_
  rw [← Real.rpow_intCast]
  rfl

/-- The two quantisers agree: scale and inverse, for a block whose magnitude over 448 is not negative and not too large. -/
theorem scl_eq (a v : EReal) (hv : HMul.hMul (α := EReal) (β := EReal) a c448 = v) (h0 : 0 ≤ v) (h1 : v < (((2 : ℝ) ^ (121 : ℤ) : ℝ) : EReal)) :
    scl v = scaleOf a ∧ Ideal.div (Ideal.ofBits .f32 0x3F800000#32) (scl v) = invOf a := by
  have hsup : top v = (Finset.univ : Finset (Fin 254)).sup fun k => if pw k ≤ v then pw k else 0 := by
    unfold top; rw [negInf]; rfl
  rcases words_of a v hv h0 h1 with ⟨hlt, hi, hs⟩ | ⟨n, hn0, hn, hle, hlt, hi, hs⟩
  · have ht : top v = 0 := by
      rw [hsup]
      apply le_antisymm
      · refine Finset.sup_le fun k _ => ?_
        split
        · next hk =>
          exfalso
          have : pow 1 ≤ pw k := by
            rw [pow_eq 1 (by decide) (by decide), pw_eq]
            exact EReal.coe_le_coe_iff.2 (zpow_le_zpow_right₀ (by norm_num) (by push_cast; omega))
          exact absurd (this.trans hk) (not_le.2 hlt)
        · exact le_rfl
      · refine le_trans ?_ (Finset.le_sup (Finset.mem_univ (0 : Fin 254)))
        split
        · rw [pw_eq]; exact EReal.coe_nonneg.2 (zpow_nonneg (by norm_num) _)
        · exact le_rfl
    have : scl v = 1 := by unfold scl; rw [if_pos ht]
    rw [this, hi, hs, one_bits]
    refine ⟨rfl, ?_⟩
    show Ideal.div 1 1 = 1
    simp [Ideal.div]
  · have hp : pow n = (((2 : ℝ) ^ ((n : ℤ) - 127) : ℝ) : EReal) := pow_eq n hn0 (by omega)
    have hp1 : pow (n + 1) = (((2 : ℝ) ^ ((n : ℤ) - 126) : ℝ) : EReal) := by
      rw [pow_eq (n + 1) (by omega) (by omega)]
      refine congrArg (fun z : ℤ => (((2 : ℝ) ^ z : ℝ) : EReal)) ?_
      push_cast; omega
    have ht : top v = (((2 : ℝ) ^ ((n : ℤ) - 127) : ℝ) : EReal) := by
      rw [hsup]
      apply le_antisymm
      · refine Finset.sup_le fun k _ => ?_
        split
        · next hk =>
          rw [pw_eq] at hk ⊢
          have hk2 : (((2 : ℝ) ^ ((k.val : ℤ) - 126) : ℝ) : EReal) < (((2 : ℝ) ^ ((n : ℤ) - 126) : ℝ) : EReal) := hp1 ▸ lt_of_le_of_lt hk hlt
          have hk3 := (zpow_lt_zpow_iff_right₀ (by norm_num : (1 : ℝ) < 2)).1 (EReal.coe_lt_coe_iff.1 hk2)
          exact EReal.coe_le_coe_iff.2 (zpow_le_zpow_right₀ (by norm_num) (by omega))
        · exact EReal.coe_nonneg.2 (zpow_nonneg (by norm_num) _)
      · have hk : pw ⟨n - 1, by omega⟩ = (((2 : ℝ) ^ ((n : ℤ) - 127) : ℝ) : EReal) := by
          rw [pw_eq]
          refine congrArg (fun z : ℤ => (((2 : ℝ) ^ z : ℝ) : EReal)) ?_
          show ((n - 1 : ℕ) : ℤ) - 126 = _
          omega
        refine le_trans ?_ (Finset.le_sup (Finset.mem_univ (⟨n - 1, by omega⟩ : Fin 254)))
        rw [if_pos (by rw [hk, ← hp]; exact hle), hk]
    have hpos : (0 : ℝ) < (2 : ℝ) ^ ((n : ℤ) - 127) := zpow_pos (by norm_num) _
    have hne : top v ≠ 0 := by
      rw [ht]; exact fun h => hpos.ne' (EReal.coe_eq_zero.1 h)
    have hscl : scl v = (((2 : ℝ) ^ ((n : ℤ) - 126) : ℝ) : EReal) := by
      unfold scl
      rw [if_neg hne, ht, two_bits, ← EReal.coe_mul]
      refine congrArg (fun x : ℝ => (x : EReal)) ?_
      rw [← zpow_one_add₀ (by norm_num : (2 : ℝ) ≠ 0)]
      refine congrArg (fun z : ℤ => (2 : ℝ) ^ z) ?_
      omega
    rw [hscl, hi, hs, one_bits]
    refine ⟨rfl, ?_⟩
    have h2 : (2 : ℝ) ^ ((n : ℤ) - 126) ≠ 0 := (zpow_pos (by norm_num) _).ne'
    rw [Ideal.div_coe h2, ← EReal.coe_mul]
    refine congrArg (fun x : ℝ => (x : EReal)) ?_
    rw [one_mul, one_div, ← zpow_neg]
    refine congrArg (fun z : ℤ => (2 : ℝ) ^ z) ?_
    omega

/-! ## The quantiser of any number of rows -/

variable {n : Nat}

/-- Row `r`. -/
def rowR (X : (SR n).Idx → EReal) (r : Fin n) : Nat → EReal := fun c => X (ix2 r ⟨c % 11520, Nat.mod_lt _ (by decide)⟩)

/-- The largest finite bf16 value. -/
def big : EReal := Ideal.ofBits .f32 0x7F7F0000#32

theorem big_eq : big = (((2 : ℝ) ^ 120 * 255 : ℝ) : EReal) := by
  unfold big
  simp [Ideal.ofBits, Ideal.ieee]
  rw [← EReal.coe_pow, ← EReal.coe_mul, ← EReal.coe_pow, ← EReal.coe_mul]
  norm_num

theorem c448_eq : c448 = (((2 : ℝ) ^ (-32 : ℤ) * 9586981 : ℝ) : EReal) := by
  unfold c448
  simp [Ideal.ofBits, Ideal.ieee]
  rw [← EReal.coe_mul, ← EReal.coe_mul]
  norm_num

theorem mag_nonneg (x : EReal) : 0 ≤ mag x := by
  unfold mag
  rcases le_total 0 x with h | h
  · exact le_max_of_le_left h
  · exact le_max_of_le_right (by rw [EReal.le_neg, neg_zero]; exact h)

theorem amax_bounds (f : Nat → EReal) (b : Nat) (hf : ∀ c, mag (f c) ≤ big) : 0 ≤ amax f b ∧ amax f b ≤ big :=
  ⟨(mag_nonneg _).trans (Finset.le_sup (f := fun u => mag (f (32 * b + u))) (Finset.mem_range.2 (by decide : 0 < 32))), Finset.sup_le fun _ _ => hf _⟩

theorem quot_bounds (a : EReal) (h0 : 0 ≤ a) (h1 : a ≤ big) : 0 ≤ HMul.hMul (α := EReal) (β := EReal) a c448 ∧
    HMul.hMul (α := EReal) (β := EReal) a c448 < (((2 : ℝ) ^ (121 : ℤ) : ℝ) : EReal) := by
  have hc : (0 : EReal) ≤ c448 := by rw [c448_eq]; exact EReal.coe_nonneg.2 (by positivity)
  refine ⟨mul_nonneg h0 hc, lt_of_le_of_lt (mul_le_mul_of_nonneg_right h1 hc) ?_⟩
  rw [big_eq, c448_eq, ← EReal.coe_mul, EReal.coe_lt_coe_iff]
  norm_num

theorem fold_amax (f : Nat → EReal) (b : Nat) :
    ((Finset.univ : Finset (Fin 32)).fold max (Ideal.ofBits .f32 0xFF800000#32) fun k => mag (f (32 * b + k.val))) = amax f b := by
  rw [negInf]
  show (Finset.univ : Finset (Fin 32)).sup (fun k => mag (f (32 * b + k.val))) = _
  apply le_antisymm
  · exact Finset.sup_le fun k _ => Finset.le_sup (f := fun u => mag (f (32 * b + u))) (Finset.mem_range.2 k.isLt)
  · exact Finset.sup_le fun u hu => Finset.le_sup (f := fun k : Fin 32 => mag (f (32 * b + k.val))) (Finset.mem_univ ⟨u, Finset.mem_range.1 hu⟩)

variable (X : (SR n).Idx → EReal) (hs : (SR n).ShapeCasts (SU n 32)) (h32 : (SU n 32).Reduces [2] (SB n))

theorem cut_at (r : Fin n) (b : Fin 360) (u : Fin 32) :
    (shapeCast (SU n 32) X hs (ix3 r b u) : EReal) = rowR X r (32 * b.val + u.val) := by
  rw [split_at]
  refine congrArg (fun j => X (ix2 r j)) (Fin.ext ?_)
  have := b.isLt; have := u.isLt
  show 32 * b.val + u.val = (32 * b.val + u.val) % 11520
  omega

theorem y_at (r : Fin n) (b : Fin 360) :
    (qy (shapeCast (SU n 32) X hs) h32 (ix2 r b) : EReal) = HMul.hMul (α := EReal) (β := EReal) (amax (rowR X r) b.val) c448 := by
  rw [qy_at, ← fold_amax]
  simp only [cut_at]
  rfl

variable (hX : ∀ i, mag (X i) ≤ big)
include hX

theorem scl_at (r : Fin n) (b : Nat) :
    scl (HMul.hMul (α := EReal) (β := EReal) (amax (rowR X r) b) c448) = scaleOf (amax (rowR X r) b) ∧
    Ideal.div (Ideal.ofBits .f32 0x3F800000#32) (scl (HMul.hMul (α := EReal) (β := EReal) (amax (rowR X r) b) c448)) = invOf (amax (rowR X r) b) := by
  have ha := amax_bounds (rowR X r) b fun _ => hX _
  have hq := quot_bounds _ ha.1 ha.2
  exact scl_eq _ _ rfl hq.1 hq.2

variable (hi : (SU n 254).Iotas .tc 32 [2]) (h : (SB n).ShapeCasts (SU n 1))
    (hb : (SU n 1).Broadcasts (SU n 254)) (hr : (SU n 254).Reduces [2] (SB n)) (hb2 : (SU n 1).Broadcasts (SU n 32))
    (hj : (SU n 32).ShapeCasts (SR n)) (ht : FTy.fp8e4m3.bits < FTy.f32.bits) (h1 : FTy.fp8e4m3.bits < FTy.bf16.bits) (h2 : FTy.bf16.bits < FTy.f32.bits)

/-- The scales, the codes and the codes times their scales are the kernel's closed forms. -/
theorem scale_row (r : Fin n) (b : Fin 360) :
    (qscale (qy (shapeCast (SU n 32) X hs) h32) hi h hb hr (ix2 r b) : EReal) = scaleOf (amax (rowR X r) b.val) := by
  rw [qscale_at, y_at, (scl_at X hX r b.val).1]

theorem code_row (r : Fin n) (c : Fin 11520) :
    (qcodes (shapeCast (SU n 32) X hs) (qscale (qy (shapeCast (SU n 32) X hs) h32) hi h hb hr) h hb2 hj ht (ix2 r c) : EReal)
      = codeN (rowR X r) c.val := by
  have hc := c.isLt
  rw [qcodes_at, qscale_at, y_at, (scl_at X hX r _).2, cut_at]
  unfold codeN
  rw [show 32 * (c.val / 32) + c.val % 32 = c.val by omega]

theorem wide_row (r : Fin n) (c : Fin 11520) :
    (qwide (qcodes (shapeCast (SU n 32) X hs) (qscale (qy (shapeCast (SU n 32) X hs) h32) hi h hb hr) h hb2 hj ht)
      (qscale (qy (shapeCast (SU n 32) X hs) h32) hi h hb hr) hs h hb2 hj h1 h2 (ix2 r c) : EReal) = wideN (rowR X r) c.val := by
  rw [qwide_at, code_row X hs h32 hX, scale_row X hs h32 hX]
  rfl

end RefRows
-- ==== Proof.LastStep.lean ====
/-
  The last step of the kernel on one row: the product's row times the gain, taken back through a root-mean-square
  normalisation of `h`'s row. And the product of two rows that were quantised and put back on their scales.
-/
module

public import proofs.«01_k».proof.Proof.Lanes
public import proofs.«01_k».proof.Proof.Body
public import Idealize.ShloMosaic.Lib.Pointwise
public import Idealize.ShloMosaic.Lib.Pipeline.Value

@[expose] public section

set_option maxRecDepth 65536

noncomputable section

namespace Mx

open Idealize.ShloMosaic

/-- The inner product of two rows, each quantised and put back on its scales. -/
def dotN (f g : Nat → EReal) : EReal := ∑ k : Fin 11520, HMul.hMul (α := EReal) (β := EReal) (wideN f k.val) (wideN g k.val)

/-- One over the root mean square of a row of `h`. -/
def rinv (h : Fin 2880 → EReal) : EReal :=
  Ideal.rsqrt (HAdd.hAdd (α := EReal) (β := EReal) (Ideal.div (∑ x, HMul.hMul (α := EReal) (β := EReal) (h x) (h x)) (Ideal.ofBits .f32 0x45340000#32))
    (Ideal.ofBits .f32 0x358637BD#32))

/-- The gradient with respect to `h` at column `b`, from the rows of `h`, of the product and of the gain. -/
def dhV (h d g : Fin 2880 → EReal) (b : Fin 2880) : EReal :=
  HMul.hMul (α := EReal) (β := EReal) (rinv h) (HSub.hSub (α := EReal) (β := EReal) (HMul.hMul (α := EReal) (β := EReal) (d b) (g b))
    (HMul.hMul (α := EReal) (β := EReal) (HMul.hMul (α := EReal) (β := EReal) (h b) (rinv h))
      (Ideal.div (∑ x, HMul.hMul (α := EReal) (β := EReal) (HMul.hMul (α := EReal) (β := EReal) (d x) (g x)) (HMul.hMul (α := EReal) (β := EReal) (h x) (rinv h)))
        (Ideal.ofBits .f32 0x45340000#32))))

end Mx

namespace Cert.KernelIdeal.Body

open Idealize.ShloMosaic Cert.KernelIdeal Mx

variable [Facts]

/-- Sixteen rows of the last step, row by row. -/
theorem dhTile_at (H : Vec Ideal S16x2880 .bf16) (D : Vec Ideal S16x2880 .f32) (G : Vec Ideal S1x2880 .f32) (r : Fin 16) (b : Fin 2880) :
    (dhTile H D G (ix2 r b) : EReal) = dhV (fun x => H (ix2 r x)) (fun x => D (ix2 r x)) (fun x => G (ix2 0 x)) b := by
  unfold dhV rinv
  pointwise [dhTile]

/-- An entry of a grid point's product. -/
theorem prod_at (X Y : Vec Ideal S256x11520 .bf16) (r c : Fin 256) :
    (prod X Y (ix2 r c) : EReal) = ∑ k : Fin 11520, HMul.hMul (α := EReal) (β := EReal) (X (ix2 r k)) (Y (ix2 c k)) := by
  pointwise [prod]

end Cert.KernelIdeal.Body
-- ==== Proof.Spec.lean ====
/-
  The six results as functions of the arguments, index by index: what the kernel and the reference are both shown to leave.
-/
module

public import proofs.«01_k».proof.Proof.RefScale
public import proofs.«01_k».proof.Proof.LastStep

@[expose] public section

noncomputable section

namespace Mx

open Idealize.ShloMosaic RefRows

variable {n : Nat}

/-- The 8-bit codes of an array of rows. -/
def codesV (X : (SR n).Idx → EReal) : (SR n).Idx → EReal := fun i => codeN (rowR X (i 0)) (i 1).val

/-- The block scales of an array of rows. -/
def scalesV (X : (SR n).Idx → EReal) : (SB n).Idx → EReal := fun i => scaleOf (amax (rowR X (i 0)) (i 1).val)

/-- The product of the two quantised arrays. -/
def dxV (X : (SR 256).Idx → EReal) (W : (SR 2880).Idx → EReal) : (⟨2, ![256, 2880]⟩ : Shape).Idx → EReal :=
  fun i => dotN (rowR X (i 0)) (rowR W (i 1))

/-- The gradient with respect to `h`. -/
def dhA (X : (SR 256).Idx → EReal) (W : (SR 2880).Idx → EReal) (H : (⟨2, ![256, 2880]⟩ : Shape).Idx → EReal)
    (G : (⟨2, ![1, 2880]⟩ : Shape).Idx → EReal) : (⟨2, ![256, 2880]⟩ : Shape).Idx → EReal :=
  fun i => dhV (fun x => H (ix2 (i 0) x)) (fun x => dotN (rowR X (i 0)) (rowR W x)) (fun x => G (ix2 0 x)) (i 1)

end Mx
-- ==== Proof.KerRows.lean ====
/-
  The kernel's blocks as rows of its arguments, and one grid point's step of the running product.
-/
module

public import proofs.«01_k».proof.Proof.Frames
public import proofs.«01_k».proof.Proof.Spec
public import Idealize.ShloMosaic.Lib.Claim

@[expose] public section

set_option maxRecDepth 65536

noncomputable section

namespace Cert.KernelIdeal.Vals

open Idealize.ShloMosaic Idealize.ShloMosaic.TcCoe Idealize.SL.Sem
open Cert.KernelIdeal Cert.KernelIdeal.Gen Cert.KernelIdeal.Body RefRows Mx

variable (m : (ℓ : Loc nD τ sig) → Buf (Elt Ideal) ℓ)

theorem V_v0 (c : Dev nD) : V m c main_v0 = shapeCast S256x11520 (m ((c : Thread nD τ).loc main_arg0)) shapeCasts_S1x256x11520_S256x11520 := by
  entry_read
  rfl
theorem V_v1 (c : Dev nD) : V m c main_v1 = shapeCast S256x2880 (m ((c : Thread nD τ).loc main_arg2)) shapeCasts_S1x256x2880_S256x2880 := by
  entry_read
  rfl
theorem V_v2 (c : Dev nD) : V m c main_v2 = shapeCast S1x2880 (m ((c : Thread nD τ).loc main_arg3)) shapeCasts_S2880_S1x2880 := by
  entry_read
  rfl

/-- A whole-array window's block is its array. -/
theorem iblk0 (c : Dev nD) (t : Fin cfg0.N) : iblk m c 0 t = V m c main_v0 := by
  funext y
  refine congrArg (V m c main_v0) (funext fun a => Fin.ext ?_)
  exact Pipeline.Window.rect_emb_val_of_index_zero win0_0 t a (match a with | 0 => rfl | 1 => rfl) y
theorem iblk2 (c : Dev nD) (t : Fin cfg0.N) : iblk m c 2 t = V m c main_v1 := by
  funext y
  refine congrArg (V m c main_v1) (funext fun a => Fin.ext ?_)
  exact Pipeline.Window.rect_emb_val_of_index_zero win0_2 t a (match a with | 0 => rfl | 1 => rfl) y
theorem iblk3 (c : Dev nD) (t : Fin cfg0.N) : iblk m c 3 t = V m c main_v2 := by
  funext y
  refine congrArg (V m c main_v2) (funext fun a => Fin.ext ?_)
  exact Pipeline.Window.rect_emb_val_of_index_zero win0_3 t a (match a with | 0 => rfl | 1 => rfl) y

theorem coords0 : ∀ t : Fin cfg0.N, (grid0.coords t 0).val = t.val :=
  (by decide +kernel : ∀ t : Fin grid0.N, (grid0.coords t 0).val = t.val)

/-- The weight's windows at a point: block `t` of 256 rows, the last cut to 64. -/
theorem idx1 : ∀ t : Fin cfg0.N, win0_1.index t 0 = t.val ∧ win0_1.index t 1 = 0 ∧
    win0_1.xsize (grid0.coords t) 0 = min 256 (2880 - 256 * t.val) ∧ win0_1.xsize (grid0.coords t) 1 = 11520 :=
  (by decide +kernel : ∀ t : Fin grid0.N, win0_1.index t 0 = t.val ∧ win0_1.index t 1 = 0 ∧
    win0_1.xsize (grid0.coords t) 0 = min 256 (2880 - 256 * t.val) ∧ win0_1.xsize (grid0.coords t) 1 = 11520)
theorem idx8 : ∀ t : Fin cfg0.N, win0_8.index t 0 = t.val ∧ win0_8.index t 1 = 0 ∧
    win0_8.xsize (grid0.coords t) 0 = min 256 (2880 - 256 * t.val) ∧ win0_8.xsize (grid0.coords t) 1 = 11520 :=
  (by decide +kernel : ∀ t : Fin grid0.N, win0_8.index t 0 = t.val ∧ win0_8.index t 1 = 0 ∧
    win0_8.xsize (grid0.coords t) 0 = min 256 (2880 - 256 * t.val) ∧ win0_8.xsize (grid0.coords t) 1 = 11520)
theorem idx9 : ∀ t : Fin cfg0.N, win0_9.index t 0 = t.val ∧ win0_9.index t 1 = 0 ∧
    win0_9.xsize (grid0.coords t) 0 = min 256 (2880 - 256 * t.val) ∧ win0_9.xsize (grid0.coords t) 1 = 360 :=
  (by decide +kernel : ∀ t : Fin grid0.N, win0_9.index t 0 = t.val ∧ win0_9.index t 1 = 0 ∧
    win0_9.xsize (grid0.coords t) 0 = min 256 (2880 - 256 * t.val) ∧ win0_9.xsize (grid0.coords t) 1 = 360)

/-- Row `r` of block `n` of the weight (any row where the block overhangs the array). -/
def wrow (W : (SR 2880).Idx → EReal) (n r : Nat) : Nat → EReal := rowR W ⟨(256 * n + r) % 2880, Nat.mod_lt _ (by decide)⟩

/-- Where a cell of the weight's block lies in the weight. -/
theorem emb1 (t : Fin cfg0.N) (y : (win0_1.xblock (grid0.coords t)).Idx) (i : S2880x11520.Idx)
    (h0 : (i 0).val = 256 * t.val + (y 0).val) (h1 : (i 1).val = (y 1).val) : (win0_1.rect t).emb y = i := by
  obtain ⟨e0, e1, -, -⟩ := idx1 t
  refine funext fun a => Fin.ext ?_
  match a with
  | ⟨0, _⟩ =>
    refine (Pipeline.Window.rect_emb_val win0_1 t y 0).trans ?_
    rw [e0]
    exact (congrArg (· + (y 0).val) (Nat.mul_comm t.val 256)).trans h0.symm
  | ⟨1, _⟩ =>
    refine (Pipeline.Window.rect_emb_val win0_1 t y 1).trans ?_
    rw [e1]
    exact ((congrArg (· + (y 1).val) (Nat.zero_mul 11520)).trans (Nat.zero_add _)).trans h1.symm

/-- A filled cell inside the array. -/
theorem fill_at (w : S2880x11520.Idx → Elt Ideal .bf16) (t : Fin cfg0.N) (d : S256x11520.Idx → Elt Ideal .bf16)
    (j : S256x11520.Idx) (i : S2880x11520.Idx) (h0 : (i 0).val = 256 * t.val + (j 0).val) (h1 : (i 1).val = (j 1).val) :
    win0_1.fill (α := Elt Ideal .bf16) (grid0.coords t) d (fun y => w ((win0_1.rect t).emb y)) j = w i := by
  obtain ⟨-, -, e2, e3⟩ := idx1 t
  have hi : (i 0).val < 2880 := (i 0).isLt
  have hj : (j 0).val < 256 := (j 0).isLt
  have hm : win0_1.moved (grid0.coords t) j = true := (win0_1.moved_iff _ _).mpr fun a => by
    match a with
    | ⟨0, _⟩ => exact lt_of_lt_of_eq (show (j 0).val < min 256 (2880 - 256 * t.val) by omega) e2.symm
    | ⟨1, _⟩ => exact lt_of_lt_of_eq (j 1).isLt e3.symm
  unfold Pipeline.Window.fill
  rw [dif_pos hm]
  exact congrArg w (emb1 t _ i h0 h1)

/-- A row of the weight's buffer inside the array, whatever the buffer held before. -/
theorem fill_row (c : Dev nD) (t : Fin cfg0.N) (d) (r : Nat) (hr : r < 256) (h : 256 * t.val + r < 2880) :
    rowOf ((win0 1).fill (grid0.coords t) d (iblk m c 1 t)) r = wrow (V m c main_arg1) t.val r := by
  funext k
  refine fill_at (V m c main_arg1) t d (cx r k) (ix2 ⟨(256 * t.val + r) % 2880, Nat.mod_lt _ (by decide)⟩ ⟨k % 11520, Nat.mod_lt _ (by decide)⟩) ?_ rfl
  show (256 * t.val + r) % 2880 = 256 * t.val + r % 256
  omega

theorem rowOf_eq (X : S256x11520.Idx → EReal) (r : Fin 256) : rowOf X r.val = rowR (n := 256) X r := by
  funext k
  refine congrArg X (funext fun a => Fin.ext ?_)
  match a with
  | ⟨0, _⟩ => exact Nat.mod_eq_of_lt r.isLt
  | ⟨1, _⟩ => rfl

theorem codesOf_V (X : S256x11520.Idx → EReal) : codesOf (F := Ideal) X = codesV (n := 256) X := by
  funext y
  exact (codesOf_eq X y).trans (congrArg (fun f => codeN f (y 1).val) (rowOf_eq X (y 0)))

theorem scalesOf_V (X : S256x11520.Idx → EReal) : scalesOf (F := Ideal) X = scalesV (n := 256) X := by
  funext y
  exact (scalesOf_eq X y).trans (congrArg (fun f => scaleOf (amax f (y 1).val)) (rowOf_eq X (y 0)))

/-- The product's scratch is right on its first `256 * n` columns that the result has. -/
def Good (X : S256x11520.Idx → EReal) (W : S2880x11520.Idx → EReal) (n : Nat) (D : S256x3072.Idx → EReal) : Prop :=
  ∀ (y : S256x3072.Idx), (y 1).val < 256 * n → ∀ h : (y 1).val < 2880,
    D y = dotN (rowR (n := 256) X (y 0)) (rowR (n := 2880) W ⟨(y 1).val, h⟩)

/-- A point's step. -/
theorem good_step (c : Dev nD) (t : Fin cfg0.N) (X : S256x11520.Idx → EReal) (d) (D : S256x3072.Idx → EReal)
    (hD : Good X (V m c main_arg1) t.val D) :
    Good X (V m c main_arg1) (t.val + 1) (dxAcc (F := Ideal) (grid0.coords t) D (wideOf (F := Ideal) X)
      (wideOf (F := Ideal) ((win0 1).fill (grid0.coords t) d (iblk m c 1 t)))) := by
  obtain ⟨o0, o1⟩ := off367 (grid0.coords t)
  rw [coords0 t] at o1
  intro y hy h
  have hy0 : (y 0).val < 256 := (y 0).isLt
  unfold dxAcc
  by_cases hlt : (y 1).val < 256 * t.val
  · refine (Rect.overlay_of_not_mem _ _ _ ?_).trans (hD y hlt h)
    intro hm
    have := (Rect.mem_set_unit.mp hm 1).1
    rw [o1] at this
    omega
  · have e : (Rect.unit (s := S256x3072) (k0_off367 (grid0.coords t)) S256x256.size (k0_off367_inb (grid0.coords t))).emb
        (ix2 (y 0) ⟨(y 1).val - 256 * t.val, by omega⟩ : S256x256.Idx) = y := funext fun a => Fin.ext (by
      match a with
      | ⟨0, _⟩ => show k0_off367 (grid0.coords t) 0 + 1 * (y 0).val = (y 0).val; rw [o0]; omega
      | ⟨1, _⟩ => show k0_off367 (grid0.coords t) 1 + 1 * ((y 1).val - 256 * t.val) = (y 1).val; rw [o1]; omega)
    have hv := Rect.overlay_emb (Rect.unit (s := S256x3072) (k0_off367 (grid0.coords t)) S256x256.size (k0_off367_inb (grid0.coords t)))
      D (prod (F := Ideal) (wideOf (F := Ideal) X) (wideOf (F := Ideal) ((win0 1).fill (grid0.coords t) d (iblk m c 1 t))))
      (ix2 (y 0) ⟨(y 1).val - 256 * t.val, by omega⟩ : S256x256.Idx)
    rw [e] at hv
    refine hv.trans ?_
    refine (prod_at _ _ _ _).trans ?_
    unfold dotN
    refine Finset.sum_congr rfl fun k _ => ?_
    rw [wideOf_eq, wideOf_eq]
    refine congrArg₂ (fun a b : EReal => HMul.hMul (α := EReal) (β := EReal) a b) ?_ ?_
    · exact congrArg (fun f => wideN f k.val) (rowOf_eq X (y 0))
    · refine congrArg (fun f => wideN f k.val) ?_
      refine (fill_row m c t d ((y 1).val - 256 * t.val) (by omega) (by omega)).trans ?_
      unfold wrow
      congr 1
      exact Fin.ext (show (256 * t.val + ((y 1).val - 256 * t.val)) % 2880 = (y 1).val by omega)

section Last

variable (X : S256x11520.Idx → EReal) (W : S2880x11520.Idx → EReal) (D : S256x3072.Idx → EReal) (hD : Good X W 12 D)

include hD in
theorem dRows_at (r0 : Nat) (r : Fin 16) (x : Fin 2880) (h : r0 + r.val < 256) :
    (dRows (F := Ideal) D r0 (ix2 r x) : EReal) = dotN (rowR (n := 256) X ⟨r0 + r.val, h⟩) (rowR (n := 2880) W x) := by
  have hx := x.isLt
  have h1 : ((cd (r0 + r.val) x.val) 1).val = x.val := Nat.mod_eq_of_lt (show x.val < 3072 by omega)
  refine (hD (cd (r0 + r.val) x.val) (by omega) (by omega)).trans ?_
  congr 2
  · exact Fin.ext (Nat.mod_eq_of_lt h)
  · exact Fin.ext h1

include hD in
/-- The product's result. -/
theorem dxOf_good : dxOf (F := Ideal) D = dxV X W := by
  funext y
  have h0 : (y 0).val < 256 := (y 0).isLt
  have h1 : (y 1).val < 2880 := (y 1).isLt
  have e : cr ((y 0).val % 16) (y 1).val = (ix2 ⟨(y 0).val % 16, by omega⟩ ⟨(y 1).val, h1⟩ : S16x2880.Idx) := funext fun a => Fin.ext (by
    match a with
    | ⟨0, _⟩ => exact Nat.mod_mod _ _
    | ⟨1, _⟩ => exact Nat.mod_eq_of_lt h1)
  show (dRows (F := Ideal) D (16 * ((y 0).val / 16)) (cr ((y 0).val % 16) (y 1).val) : EReal) = _
  rw [e, dRows_at X W D hD _ _ _ (by show 16 * ((y 0).val / 16) + (y 0).val % 16 < 256; omega)]
  unfold dxV
  congr 2
  exact Fin.ext (show 16 * ((y 0).val / 16) + (y 0).val % 16 = (y 0).val by omega)

include hD in
/-- The gradient's. -/
theorem dhOf_good (H : S256x2880.Idx → EReal) (G : S1x2880.Idx → EReal) : dhOf (F := Ideal) H G D = dhA X W H G := by
  funext y
  have h0 : (y 0).val < 256 := (y 0).isLt
  have h1 : (y 1).val < 2880 := (y 1).isLt
  have e : cr ((y 0).val % 16) (y 1).val = (ix2 ⟨(y 0).val % 16, by omega⟩ ⟨(y 1).val, h1⟩ : S16x2880.Idx) := funext fun a => Fin.ext (by
    match a with
    | ⟨0, _⟩ => exact Nat.mod_mod _ _
    | ⟨1, _⟩ => exact Nat.mod_eq_of_lt h1)
  have er : 16 * ((y 0).val / 16) + (y 0).val % 16 = (y 0).val := by omega
  show (dhTile (F := Ideal) (hRows (F := Ideal) H (16 * ((y 0).val / 16))) (dRows (F := Ideal) D (16 * ((y 0).val / 16))) G
    (cr ((y 0).val % 16) (y 1).val) : EReal) = _
  rw [e, dhTile_at]
  unfold dhA
  congr 1
  · funext x
    refine congrArg H (funext fun a => Fin.ext ?_)
    match a with
    | ⟨0, _⟩ => show (16 * ((y 0).val / 16) + (y 0).val % 16) % 256 = (y 0).val; omega
    | ⟨1, _⟩ => exact Nat.mod_eq_of_lt x.isLt
  · funext x
    rw [dRows_at X W D hD _ _ _ (by show 16 * ((y 0).val / 16) + (y 0).val % 16 < 256; omega)]
    congr 2
    exact Fin.ext er

end Last

end Cert.KernelIdeal.Vals
-- ==== Proof.KerBody.lean ====
/-
  The kernel's grid, point by point, with every window's contents named.
-/
module

public import proofs.«01_k».proof.Proof.KerRows
public import Idealize.ShloMosaic.Lib.Pipeline.TableIdle

@[expose] public section

set_option maxRecDepth 65536

noncomputable section

namespace Cert.KernelIdeal.Vals

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.KernelIdeal Cert.KernelIdeal.Gen Cert.KernelIdeal.Body RefRows Mx

local notation "𝕄" => MT nD τ sig Unit (Elt Ideal) ℕ (UR sig nD τ) ℕ

variable (m : (ℓ : Loc nD τ sig) → Buf (Elt Ideal) ℓ)

/-- Between points: the first operand's widened codes are in their scratch once the first point has run, and the
    product is right on the columns done so far. -/
def Φ1 (c : Dev nD) (n : Nat) : sProp 𝕄 :=
  iprop(∃ (s0 : S256x11520.Idx → Elt Ideal .bf16) (s1 : S256x11520.Idx → Elt Ideal .bf16) (s2 : S256x3072.Idx → Elt Ideal .f32),
    ⌜(n ≠ 0 → s0 = wideOf (F := Ideal) (V m c main_v0)) ∧ Good (V m c main_v0) (V m c main_arg1) n s2⌝ ∗
    ownsTc c (Memref.whole cc0_scratch0) fullShare s0 ∗ ownsTc c (Memref.whole cc0_scratch1) fullShare s1 ∗
    ownsTc c (Memref.whole cc0_scratch2) fullShare s2 ∗ ∃ r, prngReg c r)

theorem phi_in (c : Dev nD) : (Pipeline.ΦA spec0 c : sProp 𝕄) ⊢ Φ1 m c 0 := by
  refine (phi_open c).trans ?_
  unfold Φ1
  iintro ⟨⟨%s0, S0⟩, ⟨%s1, S1⟩, ⟨%s2, S2⟩, HR⟩
  iexists s0
  iexists s1
  iexists s2
  isplitr
  · ipureintro
    exact ⟨fun h => absurd rfl h, fun y hy => absurd hy (by omega)⟩
  isplitl [S0]
  · iexact S0
  isplitl [S1]
  · iexact S1
  isplitl [S2]
  · iexact S2
  iexact HR

theorem phi_out (c : Dev nD) (n : Nat) : Φ1 m c n ⊢ (Pipeline.ΦA spec0 c : sProp 𝕄) := by
  unfold Φ1
  iintro ⟨%s0, %s1, %s2, %hI, S0, S1, S2, HR⟩
  iapply (phi_close c s0 s1 s2)
  isplitl [S0]
  · iexact S0
  isplitl [S1]
  · iexact S1
  isplitl [S2]
  · iexact S2
  iexact HR

/-- What the result windows hold. -/
structure Res where
  r4 : S256x2880.Idx → Elt Ideal .bf16
  r5 : S256x2880.Idx → Elt Ideal .bf16
  r6 : S256x11520.Idx → Elt Ideal .fp8e4m3
  r7 : S256x360.Idx → Elt Ideal .f32
  r8 : Nat → S256x11520.Idx → Elt Ideal .fp8e4m3
  r9 : Nat → S256x360.Idx → Elt Ideal .f32

variable (R : Dev nD → Res)

/-- The proof's data, every window named. -/
def dats1 (p : Fin 1) (c : Dev nD) : Dat τ (Elt Ideal) Unit ℕ (UR sig nD τ) ℕ (cfgs p) c where
  A w := V m c (Pipeline.arrRef spec0 w)
  after w t := match w with
    | 0 => iblk m c 0 t
    | 1 => blk1 m c t
    | 2 => iblk m c 2 t
    | 3 => iblk m c 3 t
    | 4 => (R c).r4
    | 5 => (R c).r5
    | 6 => (R c).r6
    | 7 => (R c).r7
    | 8 => (R c).r8 t.val
    | 9 => (R c).r9 t.val
    | ⟨_ + 10, h⟩ => absurd h (Nat.not_lt.2 (Nat.le_add_left _ _))
  Φ t := Φ1 m c t.val
  q _ := fullShare
  owed _ := 0

theorem before0 (c : Dev nD) (t : Fin cfg0.N) (d) : (dats1 m R 0 c).before 0 t d = iblk m c 0 t :=
  before0_0_of m _ rfl (fun _ => rfl) t d
theorem before2 (c : Dev nD) (t : Fin cfg0.N) (d) : (dats1 m R 0 c).before 2 t d = iblk m c 2 t :=
  before0_2_of m _ rfl (fun _ => rfl) t d
theorem before3 (c : Dev nD) (t : Fin cfg0.N) (d) : (dats1 m R 0 c).before 3 t d = iblk m c 3 t :=
  before0_3_of m _ rfl (fun _ => rfl) t d
theorem before1 (c : Dev nD) (t : Fin cfg0.N) (d) :
    (dats1 m R 0 c).before 1 t d = (cfg0.win 1).fill (cfg0.grid.coords t) d (iblk m c 1 t) := by
  unfold Dat.before
  rw [if_pos (fetch0_1 t)]
  rfl

theorem lt12 (t : Fin cfg0.N) : t.val < 12 := lt_of_lt_of_eq t.isLt N_0

theorem fl6 (t : Fin cfg0.N) : (cfg0.win 6).flush t = true ↔ t.val = 11 := by
  have := lt12 t
  rw [flush0_6]; omega
theorem fl7 (t : Fin cfg0.N) : (cfg0.win 7).flush t = true ↔ t.val = 11 := by
  have := lt12 t
  rw [flush0_7]; omega
theorem fl4 (t : Fin cfg0.N) : (cfg0.win 4).flush t = true ↔ t.val = 11 := by
  have := lt12 t
  rw [flush0_4]; omega
theorem fl5 (t : Fin cfg0.N) : (cfg0.win 5).flush t = true ↔ t.val = 11 := by
  have := lt12 t
  rw [flush0_5]; omega

theorem c1 (t : Fin cfg0.N) : k0_cond1 (grid0.coords t) = 1#1 ↔ t.val = 0 := by rw [cond1_iff, coords0]
theorem c2 (t : Fin cfg0.N) : k0_cond2 (grid0.coords t) = 1#1 ↔ t.val = 11 := by rw [cond2_iff, coords0]

theorem id6 (t : Fin cfg0.N) : (!(k0_cond1 (grid0.coords t) == 1#1)) = true ↔ t.val ≠ 0 := by
  rw [Ne, ← c1 t]; simp

/-- After the first point the operand's code window carries what that point left. -/
theorem fresh6 (n : Nat) (hn : n ≤ cfg0.N) : cfg0.fresh 6 n = (n == 0 || n == 12) := by
  refine cfg0.fresh_tab 6 (fun n => n == 0 || n == 12) rfl (fun t => ?_) n hn
  have := lt12 t
  have hf := fl6 t
  have hi : cfg0.idle 6 (cfg0.grid.coords t) = true ↔ t.val ≠ 0 := id6 t
  rw [Bool.eq_iff_iff]
  simp only [Bool.or_eq_true, Bool.and_eq_true, beq_iff_eq, hf, hi]
  omega
theorem fresh7 (n : Nat) (hn : n ≤ cfg0.N) : cfg0.fresh 7 n = (n == 0 || n == 12) := by
  refine cfg0.fresh_tab 7 (fun n => n == 0 || n == 12) rfl (fun t => ?_) n hn
  have := lt12 t
  have hf := fl7 t
  have hi : cfg0.idle 7 (cfg0.grid.coords t) = true ↔ t.val ≠ 0 := id6 t
  rw [Bool.eq_iff_iff]
  simp only [Bool.or_eq_true, Bool.and_eq_true, beq_iff_eq, hf, hi]
  omega

theorem before6 (c : Dev nD) (t : Fin cfg0.N) (d) (h : t.val ≠ 0) : (dats1 m R 0 c).before 6 t d = (R c).r6 := by
  have := lt12 t
  refine ((dats1 m R 0 c).before_out_traj 6 rfl (fun _ _ => rfl) (fun _ _ _ _ => rfl) t.val t rfl d).trans ?_
  rw [if_neg (by
    rw [show (cfgs 0).fresh 6 t.val = _ from fresh6 t.val (Nat.le_of_lt t.isLt)]
    simp only [Bool.or_eq_true, beq_iff_eq]; omega)]
  rfl
theorem before7 (c : Dev nD) (t : Fin cfg0.N) (d) (h : t.val ≠ 0) : (dats1 m R 0 c).before 7 t d = (R c).r7 := by
  have := lt12 t
  refine ((dats1 m R 0 c).before_out_traj 7 rfl (fun _ _ => rfl) (fun _ _ _ _ => rfl) t.val t rfl d).trans ?_
  rw [if_neg (by
    rw [show (cfgs 0).fresh 7 t.val = _ from fresh7 t.val (Nat.le_of_lt t.isLt)]
    simp only [Bool.or_eq_true, beq_iff_eq]; omega)]
  rfl

section Body

variable (h4 : ∀ c D, Good (V m c main_v0) (V m c main_arg1) 12 D → dhOf (F := Ideal) (V m c main_v1) (V m c main_v2) D = (R c).r4)
  (h5 : ∀ c D, Good (V m c main_v0) (V m c main_arg1) 12 D → dxOf (F := Ideal) D = (R c).r5)
  (h6 : ∀ c, codesOf (F := Ideal) (V m c main_v0) = (R c).r6) (h7 : ∀ c, scalesOf (F := Ideal) (V m c main_v0) = (R c).r7)
  (h8 : ∀ c (t : Fin cfg0.N) d, (win0 8).cut (grid0.coords t) (codesOf (F := Ideal) ((win0 1).fill (grid0.coords t) d (iblk m c 1 t)))
    = (win0 8).cut (grid0.coords t) ((R c).r8 t.val))
  (h9 : ∀ c (t : Fin cfg0.N) d, (win0 9).cut (grid0.coords t) (scalesOf (F := Ideal) ((win0 1).fill (grid0.coords t) d (iblk m c 1 t)))
    = (win0 9).cut (grid0.coords t) ((R c).r9 t.val))

include h4 h5 h6 h7 h8 h9 in
theorem body_track (c : Dev nD) : Pipeline.BodyObligationLoose (dats1 m R 0 c) (defs₀ (F := Ideal)) Variants.none () Set.univ := by
  intro t
  rw [bigSep_W0, bigSep_W0]
  dsimp only [idle0]
  simp only [before0, before1, before2, before3]
  show _ ⊢ wp _ _ _ (bodyAt0 t) _
  rw [bodyAt0_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HP := (show (dats1 m R 0 c).Φ t.castSucc ⊢ Φ1 m c t.val from .rfl) $$ HΦ
  unfold Φ1
  icases HP with ⟨%s0, %s1, %s2, %hI, S0, S1, S2, HR⟩
  have ht := lt12 t
  have hWd : wideOf (F := Ideal) (V m c main_v0) = if k0_cond1 (grid0.coords t) = 1#1 then wideOf (F := Ideal) (iblk m c 0 t) else s0 := by
    by_cases h : t.val = 0
    · rw [if_pos ((c1 t).mpr h), iblk0]
    · rw [if_neg (fun hc => h ((c1 t).mp hc))]; exact (hI.1 h).symm
  have hG := good_step m c t (V m c main_v0) d1 s2 hI.2
  iapply (wp_body Variants.none c none Set.univ (grid0.coords t) _ _ _ _ _ _ _ _ _ _ _ _ _ _ _ _ _ _ _
    (iblk m c 0 t) ((win0 1).fill (grid0.coords t) d1 (iblk m c 1 t)) (iblk m c 2 t) (iblk m c 3 t)
    ((dats1 m R 0 c).before 4 t d4) ((dats1 m R 0 c).before 5 t d5) ((dats1 m R 0 c).before 6 t d6) ((dats1 m R 0 c).before 8 t d8)
    ((dats1 m R 0 c).before 7 t d7) ((dats1 m R 0 c).before 9 t d9) s0 s1 s2 (wideOf (F := Ideal) (V m c main_v0)) hWd)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [S0]
  · iexact S0
  isplitl [S1]
  · iexact S1
  isplitl [S2]
  · iexact S2
  iintro ⟨H0, H1, H2, H3, H4, H5, H6, H7, H8, H9, S0, S1, S2⟩
  isplitl [S0 S1 S2 HR]
  · iapply (show _ ⊢ (dats1 m R 0 c).Φ t.succ from (.rfl : Φ1 m c (t.val + 1) ⊢ _))
    unfold Φ1
    iexists _
    iexists _
    iexists _
    isplitr
    rotate_left
    isplitl [S0]
    · iexact S0
    isplitl [S1]
    · iexact S1
    isplitl [S2]
    · iexact S2
    iexact HR
    · ipureintro
      exact ⟨fun _ => rfl, hG⟩
  isplitl [Ho]
  · iexact Ho
  isplitl [H0]
  · iexact H0
  isplitl [H1]
  · iexists d1
    rw [show (win0 1).cut (grid0.coords t) ((dats1 m R 0 c).after 1 t) = iblk m c 1 t from Window.cut_fill _ _ _ _]
    iexact H1
  isplitl [H2]
  · iexact H2
  isplitl [H3]
  · iexact H3
  isplitl [H4]
  · by_cases h : t.val = 11
    · have hc := (c2 t).mpr h
      rw [if_pos hc, iblk2, iblk3, h4 c _ (h ▸ hG : Good _ _ (11 + 1) _)]
      rw [show (!(k0_cond2 (grid0.coords t) == 1#1)) = false from by rw [beq_iff_eq.mpr hc]; rfl]
      iexact H4
    · have hc : ¬ k0_cond2 (grid0.coords t) = 1#1 := fun hc => h ((c2 t).mp hc)
      have hfl : (cfg0.win 4).flush t = false := Bool.eq_false_iff.mpr fun e => h ((fl4 t).mp e)
      rw [if_neg hc, show (!(k0_cond2 (grid0.coords t) == 1#1)) = true from by rw [beq_eq_false_iff_ne.mpr hc]; rfl, hfl]
      iexists d4
      iexact H4
  isplitl [H5]
  · by_cases h : t.val = 11
    · have hc := (c2 t).mpr h
      rw [if_pos hc, h5 c _ (h ▸ hG : Good _ _ (11 + 1) _)]
      rw [show (!(k0_cond2 (grid0.coords t) == 1#1)) = false from by rw [beq_iff_eq.mpr hc]; rfl]
      iexact H5
    · have hc : ¬ k0_cond2 (grid0.coords t) = 1#1 := fun hc => h ((c2 t).mp hc)
      have hfl : (cfg0.win 5).flush t = false := Bool.eq_false_iff.mpr fun e => h ((fl5 t).mp e)
      rw [if_neg hc, show (!(k0_cond2 (grid0.coords t) == 1#1)) = true from by rw [beq_eq_false_iff_ne.mpr hc]; rfl, hfl]
      iexists d5
      iexact H5
  isplitl [H6]
  · by_cases h : t.val = 0
    · have hc := (c1 t).mpr h
      rw [if_pos hc, iblk0, h6 c]
      rw [show (!(k0_cond1 (grid0.coords t) == 1#1)) = false from by rw [beq_iff_eq.mpr hc]; rfl]
      iexact H6
    · have hc : ¬ k0_cond1 (grid0.coords t) = 1#1 := fun hc => h ((c1 t).mp hc)
      rw [if_neg hc, show (!(k0_cond1 (grid0.coords t) == 1#1)) = true from by rw [beq_eq_false_iff_ne.mpr hc]; rfl]
      by_cases h' : t.val = 11
      · rw [show (cfg0.win 6).flush t = true from (fl6 t).mpr h', before6 m R c t d6 h]
        iexact H6
      · rw [show (cfg0.win 6).flush t = false from Bool.eq_false_iff.mpr fun e => h' ((fl6 t).mp e)]
        iexists d6
        iexact H6
  isplitl [H7]
  · by_cases h : t.val = 0
    · have hc := (c1 t).mpr h
      rw [if_pos hc, iblk0, h7 c]
      rw [show (!(k0_cond1 (grid0.coords t) == 1#1)) = false from by rw [beq_iff_eq.mpr hc]; rfl]
      iexact H7
    · have hc : ¬ k0_cond1 (grid0.coords t) = 1#1 := fun hc => h ((c1 t).mp hc)
      rw [if_neg hc, show (!(k0_cond1 (grid0.coords t) == 1#1)) = true from by rw [beq_eq_false_iff_ne.mpr hc]; rfl]
      by_cases h' : t.val = 11
      · rw [show (cfg0.win 7).flush t = true from (fl7 t).mpr h', before7 m R c t d7 h]
        iexact H7
      · rw [show (cfg0.win 7).flush t = false from Bool.eq_false_iff.mpr fun e => h' ((fl7 t).mp e)]
        iexists d7
        iexact H7
  isplitl [H8]
  · iexists (codesOf (F := Ideal) ((win0 1).fill (grid0.coords t) d1 (iblk m c 1 t)))
    rw [show (win0 8).fill (grid0.coords t) (codesOf (F := Ideal) ((win0 1).fill (grid0.coords t) d1 (iblk m c 1 t)))
      ((win0 8).cut (grid0.coords t) ((dats1 m R 0 c).after 8 t)) = _ from (win0 8).fill_congr_cut _ (h8 c t d1)]
    iexact H8
  iexists (scalesOf (F := Ideal) ((win0 1).fill (grid0.coords t) d1 (iblk m c 1 t)))
  rw [show (win0 9).fill (grid0.coords t) (scalesOf (F := Ideal) ((win0 1).fill (grid0.coords t) d1 (iblk m c 1 t)))
    ((win0 9).cut (grid0.coords t) ((dats1 m R 0 c).after 9 t)) = _ from (win0 9).fill_congr_cut _ (h9 c t d1)]
  iexact H9

end Body

end Cert.KernelIdeal.Vals
-- ==== Proof.KerRun.lean ====
/-
  The kernel's run: its six result arrays hold the formulas of `Spec` on its arguments.
-/
module

public import proofs.«01_k».proof.Proof.KerBody
public import Idealize.ShloMosaic.Lib.Pipeline.Value

@[expose] public section

set_option maxRecDepth 65536

noncomputable section

namespace Cert.KernelIdeal.Vals

open Idealize.ShloMosaic Idealize.ShloMosaic.TcCoe Idealize.SL.Sem
open Idealize.ShloMosaic.Pipeline (Dat)
open Cert.KernelIdeal Cert.KernelIdeal.Gen Cert.KernelIdeal.Body RefRows Mx

variable (m : (ℓ : Loc nD τ sig) → Buf (Elt Ideal) ℓ) (ρ : Dev nD → PrngReg)

/-! ## Blocks of the clipped results -/

/-- Codes of block `n` of the weight, whole; -/
def codesB (W : (SR 2880).Idx → EReal) (n : Nat) : S256x11520.Idx → EReal := fun y => codeN (wrow W n (y 0).val) (y 1).val
/-- its scales. -/
def scalesB (W : (SR 2880).Idx → EReal) (n : Nat) : S256x360.Idx → EReal := fun y => scaleOf (amax (wrow W n (y 0).val) (y 1).val)

theorem cut8 (c : Dev nD) (t : Fin cfg0.N) (d) :
    (win0 8).cut (grid0.coords t) (codesOf (F := Ideal) ((win0 1).fill (grid0.coords t) d (iblk m c 1 t)))
      = (win0 8).cut (grid0.coords t) (codesB (V m c main_arg1) t.val) := by
  funext y
  have h0 : (y 0).val < min 256 (2880 - 256 * t.val) := lt_of_lt_of_eq (y 0).isLt (idx8 t).2.2.1
  refine (codesOf_eq _ _).trans ?_
  exact congrArg (fun f => codeN f (y 1).val) (fill_row m c t d (y 0).val (by omega) (by omega))

theorem cut9 (c : Dev nD) (t : Fin cfg0.N) (d) :
    (win0 9).cut (grid0.coords t) (scalesOf (F := Ideal) ((win0 1).fill (grid0.coords t) d (iblk m c 1 t)))
      = (win0 9).cut (grid0.coords t) (scalesB (V m c main_arg1) t.val) := by
  funext y
  have h0 : (y 0).val < min 256 (2880 - 256 * t.val) := lt_of_lt_of_eq (y 0).isLt (idx9 t).2.2.1
  refine (scalesOf_eq _ _).trans ?_
  exact congrArg (fun f => scaleOf (amax f (y 1).val)) (fill_row m c t d (y 0).val (by omega) (by omega))

/-- The six results named. -/
def res (c : Dev nD) : Res where
  r4 := dhA (V m c main_v0) (V m c main_arg1) (V m c main_v1) (V m c main_v2)
  r5 := dxV (V m c main_v0) (V m c main_arg1)
  r6 := codesV (n := 256) (V m c main_v0)
  r7 := scalesV (n := 256) (V m c main_v0)
  r8 := codesB (V m c main_arg1)
  r9 := scalesB (V m c main_arg1)

/-- Every point leaves them so. -/
theorem body (c : Dev nD) : Pipeline.BodyObligationLoose (dats1 m (res m) 0 c) (defs₀ (F := Ideal)) Variants.none () Set.univ :=
  body_track m (res m) (fun c D hD => dhOf_good _ _ D hD _ _) (fun c D hD => dxOf_good _ _ D hD)
    (fun c => codesOf_V _) (fun c => scalesOf_V _) (cut8 m) (cut9 m) c

/-! ## The result arrays -/

theorem last : ∃ t : Fin cfg0.N, t.val = 11 := ⟨⟨11, lt_of_lt_of_eq (by decide) N_0.symm⟩, rfl⟩

variable (R : Dev nD → Res)

theorem emb4 (t : Fin cfg0.N) (i : S256x2880.Idx) : (win0_4.rect t).emb i = i :=
  funext fun a => Fin.ext (Pipeline.Window.rect_emb_val_of_index_zero win0_4 t a (match a with | 0 => rfl | 1 => rfl) i)
theorem emb5 (t : Fin cfg0.N) (i : S256x2880.Idx) : (win0_5.rect t).emb i = i :=
  funext fun a => Fin.ext (Pipeline.Window.rect_emb_val_of_index_zero win0_5 t a (match a with | 0 => rfl | 1 => rfl) i)
theorem emb6 (t : Fin cfg0.N) (i : S256x11520.Idx) : (win0_6.rect t).emb i = i :=
  funext fun a => Fin.ext (Pipeline.Window.rect_emb_val_of_index_zero win0_6 t a (match a with | 0 => rfl | 1 => rfl) i)
theorem emb7 (t : Fin cfg0.N) (i : S256x360.Idx) : (win0_7.rect t).emb i = i :=
  funext fun a => Fin.ext (Pipeline.Window.rect_emb_val_of_index_zero win0_7 t a (match a with | 0 => rfl | 1 => rfl) i)

theorem final4 (c : Dev nD) : (dats1 m R 0 c).arrAt 4 cfg0.N = (R c).r4 := by
  refine (dats1 m R 0 c).arrAt_eq_of_cover 4 (R c).r4 (fun t _ => ?_) fun i => ?_
  · funext y
    exact congrArg (R c).r4 (emb4 t y).symm
  · obtain ⟨t, ht⟩ := last
    refine ⟨t, (fl4 t).mpr ht, ?_⟩
    have h : (win0_4.rect t).emb i ∈ ((cfg0.win 4).blk t).view.set := ((cfg0.win 4).blk t).view.emb_mem_set i
    rwa [emb4] at h
theorem final5 (c : Dev nD) : (dats1 m R 0 c).arrAt 5 cfg0.N = (R c).r5 := by
  refine (dats1 m R 0 c).arrAt_eq_of_cover 5 (R c).r5 (fun t _ => ?_) fun i => ?_
  · funext y
    exact congrArg (R c).r5 (emb5 t y).symm
  · obtain ⟨t, ht⟩ := last
    refine ⟨t, (fl5 t).mpr ht, ?_⟩
    have h : (win0_5.rect t).emb i ∈ ((cfg0.win 5).blk t).view.set := ((cfg0.win 5).blk t).view.emb_mem_set i
    rwa [emb5] at h
theorem final6 (c : Dev nD) : (dats1 m R 0 c).arrAt 6 cfg0.N = (R c).r6 := by
  refine (dats1 m R 0 c).arrAt_eq_of_cover 6 (R c).r6 (fun t _ => ?_) fun i => ?_
  · funext y
    exact congrArg (R c).r6 (emb6 t y).symm
  · obtain ⟨t, ht⟩ := last
    refine ⟨t, (fl6 t).mpr ht, ?_⟩
    have h : (win0_6.rect t).emb i ∈ ((cfg0.win 6).blk t).view.set := ((cfg0.win 6).blk t).view.emb_mem_set i
    rwa [emb6] at h
theorem final7 (c : Dev nD) : (dats1 m R 0 c).arrAt 7 cfg0.N = (R c).r7 := by
  refine (dats1 m R 0 c).arrAt_eq_of_cover 7 (R c).r7 (fun t _ => ?_) fun i => ?_
  · funext y
    exact congrArg (R c).r7 (emb7 t y).symm
  · obtain ⟨t, ht⟩ := last
    refine ⟨t, (fl7 t).mpr ht, ?_⟩
    have h : (win0_7.rect t).emb i ∈ ((cfg0.win 7).blk t).view.set := ((cfg0.win 7).blk t).view.emb_mem_set i
    rwa [emb7] at h

/-- Where a cell of a clipped result's block lies. -/
theorem emb8_val (t : Fin cfg0.N) (y : (win0_8.xblock (grid0.coords t)).Idx) :
    ((win0_8.rect t).emb y 0).val = 256 * t.val + (y 0).val ∧ ((win0_8.rect t).emb y 1).val = (y 1).val := by
  obtain ⟨e0, e1, -, -⟩ := idx8 t
  constructor
  · refine (Pipeline.Window.rect_emb_val win0_8 t y 0).trans ?_
    rw [e0]
    exact congrArg (· + (y 0).val) (Nat.mul_comm t.val 256)
  · refine (Pipeline.Window.rect_emb_val win0_8 t y 1).trans ?_
    rw [e1]
    exact (congrArg (· + (y 1).val) (Nat.zero_mul 11520)).trans (Nat.zero_add _)

theorem emb9_val (t : Fin cfg0.N) (y : (win0_9.xblock (grid0.coords t)).Idx) :
    ((win0_9.rect t).emb y 0).val = 256 * t.val + (y 0).val ∧ ((win0_9.rect t).emb y 1).val = (y 1).val := by
  obtain ⟨e0, e1, -, -⟩ := idx9 t
  constructor
  · refine (Pipeline.Window.rect_emb_val win0_9 t y 0).trans ?_
    rw [e0]
    exact congrArg (· + (y 0).val) (Nat.mul_comm t.val 256)
  · refine (Pipeline.Window.rect_emb_val win0_9 t y 1).trans ?_
    rw [e1]
    exact (congrArg (· + (y 1).val) (Nat.zero_mul 360)).trans (Nat.zero_add _)

theorem emb8 (t : Fin cfg0.N) (y : (win0_8.xblock (grid0.coords t)).Idx) (i : S2880x11520.Idx)
    (h0 : (i 0).val = 256 * t.val + (y 0).val) (h1 : (i 1).val = (y 1).val) : (win0_8.rect t).emb y = i := by
  refine funext fun a => Fin.ext ?_
  match a with
  | ⟨0, _⟩ => exact (emb8_val t y).1.trans h0.symm
  | ⟨1, _⟩ => exact (emb8_val t y).2.trans h1.symm

theorem emb9 (t : Fin cfg0.N) (y : (win0_9.xblock (grid0.coords t)).Idx) (i : S2880x360.Idx)
    (h0 : (i 0).val = 256 * t.val + (y 0).val) (h1 : (i 1).val = (y 1).val) : (win0_9.rect t).emb y = i := by
  refine funext fun a => Fin.ext ?_
  match a with
  | ⟨0, _⟩ => exact (emb9_val t y).1.trans h0.symm
  | ⟨1, _⟩ => exact (emb9_val t y).2.trans h1.symm

/-- The cell of block `t` that holds row `r`, column `k`. -/
theorem pick8 (t : Fin cfg0.N) (r k : Nat) (hr : r < 2880) (ht : t.val = r / 256) (hk : k < 11520) :
    ∃ y : (win0_8.xblock (grid0.coords t)).Idx, (y 0).val = r % 256 ∧ (y 1).val = k := by
  obtain ⟨-, -, e2, e3⟩ := idx8 t
  have h0 : r % 256 < win0_8.xsize (grid0.coords t) 0 := by rw [e2]; omega
  have h1 : k < win0_8.xsize (grid0.coords t) 1 := by rw [e3]; exact hk
  have h : ∀ a : Fin 2, (![r % 256, k] : Fin 2 → Nat) a < win0_8.xsize (grid0.coords t) a := Fin.forall_fin_two.mpr ⟨h0, h1⟩
  exact ⟨fun a => ⟨(![r % 256, k] : Fin 2 → Nat) a, h a⟩, rfl, rfl⟩

/-- The cell of block `t` that holds row `r`, column `k`. -/
theorem pick9 (t : Fin cfg0.N) (r k : Nat) (hr : r < 2880) (ht : t.val = r / 256) (hk : k < 360) :
    ∃ y : (win0_9.xblock (grid0.coords t)).Idx, (y 0).val = r % 256 ∧ (y 1).val = k := by
  obtain ⟨-, -, e2, e3⟩ := idx9 t
  have h0 : r % 256 < win0_9.xsize (grid0.coords t) 0 := by rw [e2]; omega
  have h1 : k < win0_9.xsize (grid0.coords t) 1 := by rw [e3]; exact hk
  have h : ∀ a : Fin 2, (![r % 256, k] : Fin 2 → Nat) a < win0_9.xsize (grid0.coords t) a := Fin.forall_fin_two.mpr ⟨h0, h1⟩
  exact ⟨fun a => ⟨(![r % 256, k] : Fin 2 → Nat) a, h a⟩, rfl, rfl⟩

theorem final8 (c : Dev nD) (G : S2880x11520.Idx → Elt Ideal .fp8e4m3)
    (hG : ∀ (t : Nat) (y : S256x11520.Idx) (i : S2880x11520.Idx), (i 0).val = 256 * t + (y 0).val → (i 1).val = (y 1).val → (R c).r8 t y = G i) :
    (dats1 m R 0 c).arrAt 8 cfg0.N = G := by
  refine (dats1 m R 0 c).arrAt_eq_of_cover 8 G (fun t _ => ?_) fun i => ?_
  · funext y
    exact hG t.val (win0_8.xinj (grid0.coords t) y) ((win0_8.rect t).emb y) (emb8_val t y).1 (emb8_val t y).2
  · have hi0 : (i 0).val < 2880 := (i 0).isLt
    have hi1 : (i 1).val < 11520 := (i 1).isLt
    obtain ⟨t, ht⟩ : ∃ t : Fin cfg0.N, t.val = (i 0).val / 256 := ⟨⟨(i 0).val / 256, lt_of_lt_of_eq (by omega) N_0.symm⟩, rfl⟩
    refine ⟨t, flush0_8 t, ?_⟩
    obtain ⟨y, hy0, hy1⟩ := pick8 t (i 0).val (i 1).val (by omega) (by omega) hi1
    have h : (win0_8.rect t).emb y ∈ ((cfg0.win 8).blk t).view.set := ((cfg0.win 8).blk t).view.emb_mem_set y
    rwa [emb8 t y i (by omega) hy1.symm] at h
theorem final9 (c : Dev nD) (G : S2880x360.Idx → Elt Ideal .f32)
    (hG : ∀ (t : Nat) (y : S256x360.Idx) (i : S2880x360.Idx), (i 0).val = 256 * t + (y 0).val → (i 1).val = (y 1).val → (R c).r9 t y = G i) :
    (dats1 m R 0 c).arrAt 9 cfg0.N = G := by
  refine (dats1 m R 0 c).arrAt_eq_of_cover 9 G (fun t _ => ?_) fun i => ?_
  · funext y
    exact hG t.val (win0_9.xinj (grid0.coords t) y) ((win0_9.rect t).emb y) (emb9_val t y).1 (emb9_val t y).2
  · have hi0 : (i 0).val < 2880 := (i 0).isLt
    have hi1 : (i 1).val < 360 := (i 1).isLt
    obtain ⟨t, ht⟩ : ∃ t : Fin cfg0.N, t.val = (i 0).val / 256 := ⟨⟨(i 0).val / 256, lt_of_lt_of_eq (by omega) N_0.symm⟩, rfl⟩
    refine ⟨t, flush0_9 t, ?_⟩
    obtain ⟨y, hy0, hy1⟩ := pick9 t (i 0).val (i 1).val (by omega) (by omega) hi1
    have h : (win0_9.rect t).emb y ∈ ((cfg0.win 9).blk t).view.set := ((cfg0.win 9).blk t).view.emb_mem_set y
    rwa [emb9 t y i (by omega) hy1.symm] at h

theorem wrow_at (W : (SR 2880).Idx → EReal) (t r : Nat) (i : Fin 2880) (h : i.val = 256 * t + r) : wrow W t r = rowR W i := by
  have := i.isLt
  unfold wrow
  congr 1
  exact Fin.ext (show (256 * t + r) % 2880 = i.val by omega)

theorem codesB_at (W : (SR 2880).Idx → EReal) (t : Nat) (y : S256x11520.Idx) (i : S2880x11520.Idx)
    (h0 : (i 0).val = 256 * t + (y 0).val) (h1 : (i 1).val = (y 1).val) : codesB W t y = codesV (n := 2880) W i := by
  unfold codesB codesV
  rw [wrow_at W t _ (i 0) h0, h1]
theorem scalesB_at (W : (SR 2880).Idx → EReal) (t : Nat) (y : S256x360.Idx) (i : S2880x360.Idx)
    (h0 : (i 0).val = 256 * t + (y 0).val) (h1 : (i 1).val = (y 1).val) : scalesB W t y = scalesV (n := 2880) W i := by
  unfold scalesB scalesV
  rw [wrow_at W t _ (i 0) h0, h1]

/-- The kernel's run, its six results named. -/
theorem run : θ_run defs (onTc (τ := τ) (main (F := Ideal))) ⟨m, fun _ => 0, ρ⟩ fun r => ∀ c : Dev nD,
      r.2.mem ((c : Thread nD τ).loc main_v3_0) = dhA (V m c main_v0) (V m c main_arg1) (V m c main_v1) (V m c main_v2)
      ∧ r.2.mem ((c : Thread nD τ).loc main_v3_1) = dxV (V m c main_v0) (V m c main_arg1)
      ∧ r.2.mem ((c : Thread nD τ).loc main_v3_2) = codesV (n := 256) (V m c main_v0)
      ∧ r.2.mem ((c : Thread nD τ).loc main_v3_3) = scalesV (n := 256) (V m c main_v0)
      ∧ r.2.mem ((c : Thread nD τ).loc main_v3_4) = codesV (n := 2880) (V m c main_arg1)
      ∧ r.2.mem ((c : Thread nD τ).loc main_v3_5) = scalesV (n := 2880) (V m c main_arg1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  Pipeline.θ_run_frame_track cfgs (dats1 m (res m)) 0 launch0 defs₀ Variants.none m ρ main (body m)
    (fun c w => by fin_cases w <;> rfl) (fun _ _ => rfl) (V m) (hmain m Variants.none) (fun _ _ => rfl)
    (fun c => phi_in m c) (fun c => phi_out m c _) _
    (fun r h c => ⟨((h.1 c).1 4).trans (final4 m (res m) c), ((h.1 c).1 5).trans (final5 m (res m) c),
      ((h.1 c).1 6).trans (final6 m (res m) c), ((h.1 c).1 7).trans (final7 m (res m) c),
      ((h.1 c).1 8).trans (final8 m (res m) c _ (codesB_at (V m c main_arg1))),
      ((h.1 c).1 9).trans (final9 m (res m) c _ (scalesB_at (V m c main_arg1))),
      ((h.1 c).2 main_arg0 (Pipeline.mem_restRefs_of main_arg0 (by decide) (by decide))).trans (V_main_arg0 m c),
      ((h.1 c).1 1).trans (((dats1 m (res m) 0 c).arrAt_in 1 rfl _).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩)

end Cert.KernelIdeal.Vals
-- ==== Proof.RefVals.lean ====
/-
  The reference's six results, element by element: its printed payloads are the row formulas of `RefRows` on 256 and on 2880
  rows, the plain product, and the last step.
-/
module

public import proofs.«01_k».proof.Proof.Gen.ReferenceIdeal.Value
public import proofs.«01_k».proof.Proof.Spec

@[expose] public section

set_option maxRecDepth 65536

noncomputable section

namespace Cert.ReferenceIdeal.Vals

open Idealize.ShloMosaic Idealize.SL.Sem
open Cert.ReferenceIdeal Cert.ReferenceIdeal.Gen RefRows Mx

variable (X : FVec Ideal S256x11520 .bf16) (W : FVec Ideal S2880x11520 .bf16)

theorem pay4_eq : k0_pay4 (F := Ideal) X = shapeCast (SU 256 32) (X : FVec Ideal S256x11520 .f32) shapeCasts_S256x11520_S256x360x32 := by
  show shapeCast (SU 256 32) (extf .f32 (shapeCast S256x11520 X shapeCasts_S256x11520_S256x11520) bitsLt_bf16_f32) _ = _
  rw [shapeCast_self]
  rfl

theorem pay5_eq : k0_pay5 (F := Ideal) X = qscale (qy (k0_pay4 (F := Ideal) X) reduces_S256x360x32_S256x360) iota_S256x360x254_d2_w32
    shapeCasts_S256x360_S256x360x1 broadcasts_S256x360x1_S256x360x254 reduces_S256x360x254_S256x360 := rfl

theorem pay6_eq : k0_pay6 (F := Ideal) X = qcodes (k0_pay4 (F := Ideal) X) (k0_pay5 (F := Ideal) X) shapeCasts_S256x360_S256x360x1 broadcasts_S256x360x1_S256x360x32
    shapeCasts_S256x360x32_S256x11520 bitsLt_fp8e4m3_f32 := rfl

theorem pay11_eq (s : FVec Ideal S256x360 .f32) (C : FVec Ideal S256x11520 .fp8e4m3) : k0_pay11 (F := Ideal) s C = qwide C s shapeCasts_S256x11520_S256x360x32 shapeCasts_S256x360_S256x360x1 broadcasts_S256x360x1_S256x360x32
    shapeCasts_S256x360x32_S256x11520 bitsLt_fp8e4m3_bf16 bitsLt_bf16_f32 := rfl

theorem pay9_eq (y : FVec Ideal S2880x360 .f32) : k0_pay9 (F := Ideal) y = qscale y iota_S2880x360x254_d2_w32
    shapeCasts_S2880x360_S2880x360x1 broadcasts_S2880x360x1_S2880x360x254 reduces_S2880x360x254_S2880x360 := rfl

theorem pay8_eq : k0_pay8 (F := Ideal) W = qy (shapeCast (SU 2880 32) (W : FVec Ideal S2880x11520 .f32) shapeCasts_S2880x11520_S2880x360x32) reduces_S2880x360x32_S2880x360 := rfl

theorem pay10_eq (V : FVec Ideal S2880x360x32 .f32) (y : FVec Ideal S2880x360 .f32) : k0_pay10 (F := Ideal) V y = qcodes V (k0_pay9 (F := Ideal) y) shapeCasts_S2880x360_S2880x360x1 broadcasts_S2880x360x1_S2880x360x32
    shapeCasts_S2880x360x32_S2880x11520 bitsLt_fp8e4m3_f32 := rfl

/-- An entry of the plain product. -/
theorem dot_at (A : FVec Ideal S256x11520 .bf16) (B : FVec Ideal S2880x11520 .bf16) (r : Fin 256) (c : Fin 2880) :
    (matmul (F := Ideal) dot_S256x11520_S2880x11520_S256x2880_1_1_0_0_n_n none A B (constant S256x2880 .f32 0x00000000#32) (ix2 r c) : EReal)
      = ∑ k : Fin 11520, HMul.hMul (α := EReal) (β := EReal) (A (ix2 r k)) (B (ix2 c k)) := by
  pointwise

theorem pay1_eq (s : FVec Ideal S2880x360 .f32) (C : FVec Ideal S2880x11520 .fp8e4m3) (A : FVec Ideal S256x11520 .bf16) :
    k0_pay1 (F := Ideal) s C A = matmul (F := Ideal) dot_S256x11520_S2880x11520_S256x2880_1_1_0_0_n_n none A
      (qwide C s shapeCasts_S2880x11520_S2880x360x32 shapeCasts_S2880x360_S2880x360x1 broadcasts_S2880x360x1_S2880x360x32
    shapeCasts_S2880x360x32_S2880x11520 bitsLt_fp8e4m3_bf16 bitsLt_bf16_f32) (constant S256x2880 .f32 0x00000000#32) := rfl

/-- The last step, on 256 rows. -/
theorem pay2_at (s : FVec Ideal S2880x360 .f32) (C : FVec Ideal S2880x11520 .fp8e4m3) (A : FVec Ideal S256x11520 .bf16) (H : FVec Ideal S256x2880 .bf16)
    (G : FVec Ideal S1x2880 .f32) (r : Fin 256) (b : Fin 2880) :
    (k0_pay2 (F := Ideal) s C A H G (ix2 r b) : EReal) = dhV (fun x => H (ix2 r x)) (fun x => k0_pay1 (F := Ideal) s C A (ix2 r x)) (fun x => G (ix2 0 x)) b := by
  unfold dhV rinv
  pointwise [k0_pay2]

/-! ## The payloads on the arguments -/

variable (hX : ∀ i, mag (X i) ≤ big) (hW : ∀ i, mag (W i) ≤ big)

include hX in
theorem dyScales_eq : k0_pay5 (F := Ideal) X = scalesV (n := 256) X := by
  funext i
  obtain ⟨r, b, rfl⟩ : ∃ (r : Fin 256) (b : Fin 360), i = ix2 r b := ⟨i 0, i 1, eq_ix2 i⟩
  rw [pay5_eq, pay4_eq]
  exact scale_row (n := 256) X _ _ hX _ _ _ _ r b

include hX in
theorem dyCodes_eq : k0_pay6 (F := Ideal) X = codesV (n := 256) X := by
  funext i
  obtain ⟨r, b, rfl⟩ : ∃ (r : Fin 256) (b : Fin 11520), i = ix2 r b := ⟨i 0, i 1, eq_ix2 i⟩
  rw [pay6_eq, pay5_eq, pay4_eq]
  exact code_row (n := 256) X _ _ hX _ _ _ _ _ _ _ r b

include hX in
theorem dyWide_at (r : Fin 256) (c : Fin 11520) : (k0_pay11 (F := Ideal) (k0_pay5 (F := Ideal) X) (k0_pay6 (F := Ideal) X) (ix2 r c) : EReal) = wideN (rowR (n := 256) X r) c.val := by
  rw [pay11_eq, pay6_eq, pay5_eq, pay4_eq]
  exact wide_row (n := 256) X _ _ hX _ _ _ _ _ _ _ _ _ r c

include hW in
theorem wScales_eq : k0_pay9 (F := Ideal) (k0_pay8 (F := Ideal) W) = scalesV (n := 2880) W := by
  funext i
  obtain ⟨r, b, rfl⟩ : ∃ (r : Fin 2880) (b : Fin 360), i = ix2 r b := ⟨i 0, i 1, eq_ix2 i⟩
  rw [pay9_eq, pay8_eq]
  exact scale_row (n := 2880) W _ _ hW _ _ _ _ r b

theorem pay7_eq : k0_pay7 (F := Ideal) W = shapeCast (SU 2880 32) (W : FVec Ideal S2880x11520 .f32) shapeCasts_S2880x11520_S2880x360x32 := rfl

include hW in
theorem wCodes_eq : k0_pay10 (F := Ideal) (k0_pay7 (F := Ideal) W) (k0_pay8 (F := Ideal) W) = codesV (n := 2880) W := by
  funext i
  obtain ⟨r, b, rfl⟩ : ∃ (r : Fin 2880) (b : Fin 11520), i = ix2 r b := ⟨i 0, i 1, eq_ix2 i⟩
  rw [pay10_eq, pay9_eq, pay8_eq, pay7_eq]
  exact code_row (n := 2880) W _ _ hW _ _ _ _ _ _ _ r b

include hX hW in
theorem prod_at (r : Fin 256) (b : Fin 2880) :
    (k0_pay1 (F := Ideal) (k0_pay9 (F := Ideal) (k0_pay8 (F := Ideal) W)) (k0_pay10 (F := Ideal) (k0_pay7 (F := Ideal) W) (k0_pay8 (F := Ideal) W)) (k0_pay11 (F := Ideal) (k0_pay5 (F := Ideal) X) (k0_pay6 (F := Ideal) X)) (ix2 r b) : EReal)
      = dotN (rowR (n := 256) X r) (rowR (n := 2880) W b) := by
  rw [pay1_eq, dot_at]
  refine Finset.sum_congr rfl fun k _ => ?_
  rw [dyWide_at X hX]
  refine congrArg (fun z : EReal => HMul.hMul (α := EReal) (β := EReal) (wideN (rowR (n := 256) X r) k.val) z) ?_
  rw [pay10_eq, pay9_eq, pay8_eq, pay7_eq]
  exact wide_row (n := 2880) W _ _ hW _ _ _ _ _ _ _ _ _ b k

include hX hW in
theorem dx_eq : k0_pay3 (F := Ideal) (k0_pay9 (F := Ideal) (k0_pay8 (F := Ideal) W)) (k0_pay10 (F := Ideal) (k0_pay7 (F := Ideal) W) (k0_pay8 (F := Ideal) W)) (k0_pay11 (F := Ideal) (k0_pay5 (F := Ideal) X) (k0_pay6 (F := Ideal) X)) = dxV X W := by
  funext i
  obtain ⟨r, b, rfl⟩ : ∃ (r : Fin 256) (b : Fin 2880), i = ix2 r b := ⟨i 0, i 1, eq_ix2 i⟩
  exact prod_at X W hX hW r b

include hX hW in
theorem dh_eq (H : FVec Ideal S256x2880 .bf16) (G : FVec Ideal S1x2880 .f32) :
    k0_pay2 (F := Ideal) (k0_pay9 (F := Ideal) (k0_pay8 (F := Ideal) W)) (k0_pay10 (F := Ideal) (k0_pay7 (F := Ideal) W) (k0_pay8 (F := Ideal) W)) (k0_pay11 (F := Ideal) (k0_pay5 (F := Ideal) X) (k0_pay6 (F := Ideal) X)) H G = dhA X W H G := by
  funext i
  obtain ⟨r, b, rfl⟩ : ∃ (r : Fin 256) (b : Fin 2880), i = ix2 r b := ⟨i 0, i 1, eq_ix2 i⟩
  rw [pay2_at]
  show _ = dhV (fun x => H (ix2 r x)) (fun x => dotN (rowR (n := 256) X r) (rowR (n := 2880) W x)) (fun x => G (ix2 0 x)) b
  congr 1
  funext x
  exact prod_at X W hX hW r x

end Cert.ReferenceIdeal.Vals
-- ==== Proof.RefRun.lean ====
/-
  The reference's run: its six result arrays hold the formulas of `Spec` on its arguments.
-/
module

public import proofs.«01_k».proof.Proof.RefVals
public import Idealize.ShloMosaic.Lib.Claim

@[expose] public section

set_option maxRecDepth 65536

noncomputable section

namespace Cert.ReferenceIdeal.Vals

open Idealize.ShloMosaic Idealize.ShloMosaic.TcCoe Idealize.SL.Sem
open Idealize.ShloMosaic.Pipeline (Dat)
open Cert.ReferenceIdeal Cert.ReferenceIdeal.Gen RefRows Mx

variable (m : (ℓ : Loc nD τ sig) → Buf (Elt Ideal) ℓ) (ρ : Dev nD → PrngReg)

/-- The first argument as the region reads it: its leading unit axis dropped. -/
theorem V_v0 (c : Dev nD) : V m c main_v0 = shapeCast S256x11520 (m ((c : Thread nD τ).loc main_arg0)) shapeCasts_S1x256x11520_S256x11520 := by
  entry_read
  rfl
theorem V_v1 (c : Dev nD) : V m c main_v1 = shapeCast S256x2880 (m ((c : Thread nD τ).loc main_arg2)) shapeCasts_S1x256x2880_S256x2880 := by
  entry_read
  rfl
theorem V_v2 (c : Dev nD) : V m c main_v2 = shapeCast S1x2880 (m ((c : Thread nD τ).loc main_arg3)) shapeCasts_S2880_S1x2880 := by
  entry_read
  rfl

theorem hz : (![0, 0] : Fin 2 → Nat) = fun _ => 0 := funext fun a => by fin_cases a <;> rfl

/-- At the one grid point an input window's block is its whole array. -/
theorem iblk0 (c : Dev nD) (t : Fin cfg0.N) : iblk m c 0 t = V m c main_v0 := by
  funext y
  refine congrArg (V m c main_v0) (funext fun a => Fin.ext ?_)
  exact Pipeline.Window.rect_emb_val_of_index_zero win0_0 t a rfl y
theorem iblk1 (c : Dev nD) (t : Fin cfg0.N) : iblk m c 1 t = V m c main_arg1 := by
  funext y
  refine congrArg (V m c main_arg1) (funext fun a => Fin.ext ?_)
  exact Pipeline.Window.rect_emb_val_of_index_zero win0_1 t a rfl y
theorem iblk2 (c : Dev nD) (t : Fin cfg0.N) : iblk m c 2 t = V m c main_v1 := by
  funext y
  refine congrArg (V m c main_v1) (funext fun a => Fin.ext ?_)
  exact Pipeline.Window.rect_emb_val_of_index_zero win0_2 t a rfl y
theorem iblk3 (c : Dev nD) (t : Fin cfg0.N) : iblk m c 3 t = V m c main_v2 := by
  funext y
  refine congrArg (V m c main_v2) (funext fun a => Fin.ext ?_)
  exact Pipeline.Window.rect_emb_val_of_index_zero win0_3 t a rfl y

theorem ld0 (X : Vec Ideal S256x11520 .bf16) : View.ld (Val := Elt Ideal) (e' := .bf16) X r0_0 = X := View.ld_unit_zero hz _ X
theorem ld1 (X : Vec Ideal S2880x11520 .bf16) : View.ld (Val := Elt Ideal) (e' := .bf16) X r0_1 = X := View.ld_unit_zero hz _ X
theorem ld4 (X : Vec Ideal S256x2880 .bf16) : View.ld (Val := Elt Ideal) (e' := .bf16) X r0_4 = X := View.ld_unit_zero hz _ X
theorem ld5 (X : Vec Ideal S1x2880 .f32) : View.ld (Val := Elt Ideal) (e' := .f32) X r0_5 = X := View.ld_unit_zero hz _ X

/-! ## What the one grid point leaves in each window -/

section Out

variable (X : Vec Ideal S256x11520 .bf16) (W : Vec Ideal S2880x11520 .bf16) (H : Vec Ideal S256x2880 .bf16) (G : Vec Ideal S1x2880 .f32)
variable (hX : ∀ i, mag (X i) ≤ big) (hW : ∀ i, mag (W i) ≤ big)

include hX hW in
theorem out4 : out0_4 X W H G = dhA X W H G := by
  unfold out0_4 k0_pay18 k0_pay17 k0_pay16 k0_pay15 k0_pay14 k0_pay13 k0_pay12
  rw [View.canon_unit_zero hz, ld0, ld1, ld4, ld5]
  exact dh_eq X W hX hW H G

include hX hW in
theorem out5 : out0_5 X W H G = dxV X W := by
  unfold out0_5 k0_pay18 k0_pay17 k0_pay16 k0_pay15 k0_pay14 k0_pay13 k0_pay12
  rw [View.canon_unit_zero hz, ld0, ld1]
  exact dx_eq X W hX hW

include hX in
theorem out6 : out0_6 X W H G = codesV (n := 256) X := by
  unfold out0_6 k0_pay13
  rw [View.canon_unit_zero hz, ld0]
  exact dyCodes_eq X hX

include hX in
theorem out7 : out0_7 X W H G = scalesV (n := 256) X := by
  unfold out0_7 k0_pay12
  rw [View.canon_unit_zero hz, ld0]
  exact dyScales_eq X hX

include hW in
theorem out8 : out0_8 X W H G = codesV (n := 2880) W := by
  unfold out0_8 k0_pay14 k0_pay15
  rw [View.canon_unit_zero hz, ld1]
  exact wCodes_eq W hW

include hW in
theorem out9 : out0_9 X W H G = scalesV (n := 2880) W := by
  unfold out0_9 k0_pay15
  rw [View.canon_unit_zero hz, ld1]
  exact wScales_eq W hW

end Out

/-! ## The result arrays: an index lies in the one point's block, at itself -/

theorem pt : ∃ t : Fin cfg0.N, t.val = 0 := by
  have hN : cfg0.N = 1 := N_0
  exact ⟨⟨0, by omega⟩, rfl⟩

variable (hX : ∀ c i, mag (V m c main_v0 i) ≤ big) (hW : ∀ c i, mag (V m c main_arg1 i) ≤ big)

theorem emb4 (t : Fin cfg0.N) (i : S256x2880.Idx) : (win0_4.rect t).emb i = i :=
  funext fun a => Fin.ext (Pipeline.Window.rect_emb_val_of_index_zero win0_4 t a rfl i)

theorem cover4 (i : S256x2880.Idx) : ∃ t : Fin cfg0.N, (cfg0.win 4).flush t = true ∧ i ∈ ((cfg0.win 4).blk t).view.set := by
  obtain ⟨t, _⟩ := pt
  refine ⟨t, flush0_4 _, ?_⟩
  have h : (win0_4.rect t).emb i ∈ ((cfg0.win 4).blk t).view.set := ((cfg0.win 4).blk t).view.emb_mem_set i
  rwa [emb4] at h

theorem cut4 (t : Fin cfg0.N) (G : Vec Ideal S256x2880 .bf16) : (cfg0.win 4).cut (grid0.coords t) G = ((cfg0.win 4).blk t).view.read (Elt Ideal) G := by
  funext y
  exact congrArg G (emb4 t y).symm

include hX hW in
theorem final4 (c : Dev nD) : (dats m 0 c).arrAt 4 cfg0.N = dhA (V m c main_v0) (V m c main_arg1) (V m c main_v1) (V m c main_v2) := by
  generalize hG : dhA (V m c main_v0) (V m c main_arg1) (V m c main_v1) (V m c main_v2) = G
  refine (dats m 0 c).arrAt_eq_of_cover 4 G (fun t _ => ?_) cover4
  rw [Value.flushed4, iblk0, iblk1, iblk2, iblk3, out4 _ _ _ _ (hX c) (hW c), hG]
  exact cut4 t G

theorem emb5 (t : Fin cfg0.N) (i : S256x2880.Idx) : (win0_5.rect t).emb i = i :=
  funext fun a => Fin.ext (Pipeline.Window.rect_emb_val_of_index_zero win0_5 t a rfl i)

theorem cover5 (i : S256x2880.Idx) : ∃ t : Fin cfg0.N, (cfg0.win 5).flush t = true ∧ i ∈ ((cfg0.win 5).blk t).view.set := by
  obtain ⟨t, _⟩ := pt
  refine ⟨t, flush0_5 _, ?_⟩
  have h : (win0_5.rect t).emb i ∈ ((cfg0.win 5).blk t).view.set := ((cfg0.win 5).blk t).view.emb_mem_set i
  rwa [emb5] at h

theorem cut5 (t : Fin cfg0.N) (G : Vec Ideal S256x2880 .bf16) : (cfg0.win 5).cut (grid0.coords t) G = ((cfg0.win 5).blk t).view.read (Elt Ideal) G := by
  funext y
  exact congrArg G (emb5 t y).symm

include hX hW in
theorem final5 (c : Dev nD) : (dats m 0 c).arrAt 5 cfg0.N = dxV (V m c main_v0) (V m c main_arg1) := by
  generalize hG : dxV (V m c main_v0) (V m c main_arg1) = G
  refine (dats m 0 c).arrAt_eq_of_cover 5 G (fun t _ => ?_) cover5
  rw [Value.flushed5, iblk0, iblk1, iblk2, iblk3, out5 _ _ _ _ (hX c) (hW c), hG]
  exact cut5 t G

theorem emb6 (t : Fin cfg0.N) (i : S256x11520.Idx) : (win0_6.rect t).emb i = i :=
  funext fun a => Fin.ext (Pipeline.Window.rect_emb_val_of_index_zero win0_6 t a rfl i)

theorem cover6 (i : S256x11520.Idx) : ∃ t : Fin cfg0.N, (cfg0.win 6).flush t = true ∧ i ∈ ((cfg0.win 6).blk t).view.set := by
  obtain ⟨t, _⟩ := pt
  refine ⟨t, flush0_6 _, ?_⟩
  have h : (win0_6.rect t).emb i ∈ ((cfg0.win 6).blk t).view.set := ((cfg0.win 6).blk t).view.emb_mem_set i
  rwa [emb6] at h

theorem cut6 (t : Fin cfg0.N) (G : Vec Ideal S256x11520 .fp8e4m3) : (cfg0.win 6).cut (grid0.coords t) G = ((cfg0.win 6).blk t).view.read (Elt Ideal) G := by
  funext y
  exact congrArg G (emb6 t y).symm

include hX in
theorem final6 (c : Dev nD) : (dats m 0 c).arrAt 6 cfg0.N = codesV (n := 256) (V m c main_v0) := by
  generalize hG : codesV (n := 256) (V m c main_v0) = G
  refine (dats m 0 c).arrAt_eq_of_cover 6 G (fun t _ => ?_) cover6
  rw [Value.flushed6, iblk0, iblk1, iblk2, iblk3, out6 _ _ _ _ (hX c), hG]
  exact cut6 t G

theorem emb7 (t : Fin cfg0.N) (i : S256x360.Idx) : (win0_7.rect t).emb i = i :=
  funext fun a => Fin.ext (Pipeline.Window.rect_emb_val_of_index_zero win0_7 t a rfl i)

theorem cover7 (i : S256x360.Idx) : ∃ t : Fin cfg0.N, (cfg0.win 7).flush t = true ∧ i ∈ ((cfg0.win 7).blk t).view.set := by
  obtain ⟨t, _⟩ := pt
  refine ⟨t, flush0_7 _, ?_⟩
  have h : (win0_7.rect t).emb i ∈ ((cfg0.win 7).blk t).view.set := ((cfg0.win 7).blk t).view.emb_mem_set i
  rwa [emb7] at h

theorem cut7 (t : Fin cfg0.N) (G : Vec Ideal S256x360 .f32) : (cfg0.win 7).cut (grid0.coords t) G = ((cfg0.win 7).blk t).view.read (Elt Ideal) G := by
  funext y
  exact congrArg G (emb7 t y).symm

include hX in
theorem final7 (c : Dev nD) : (dats m 0 c).arrAt 7 cfg0.N = scalesV (n := 256) (V m c main_v0) := by
  generalize hG : scalesV (n := 256) (V m c main_v0) = G
  refine (dats m 0 c).arrAt_eq_of_cover 7 G (fun t _ => ?_) cover7
  rw [Value.flushed7, iblk0, iblk1, iblk2, iblk3, out7 _ _ _ _ (hX c), hG]
  exact cut7 t G

theorem emb8 (t : Fin cfg0.N) (i : S2880x11520.Idx) : (win0_8.rect t).emb i = i :=
  funext fun a => Fin.ext (Pipeline.Window.rect_emb_val_of_index_zero win0_8 t a rfl i)

theorem cover8 (i : S2880x11520.Idx) : ∃ t : Fin cfg0.N, (cfg0.win 8).flush t = true ∧ i ∈ ((cfg0.win 8).blk t).view.set := by
  obtain ⟨t, _⟩ := pt
  refine ⟨t, flush0_8 _, ?_⟩
  have h : (win0_8.rect t).emb i ∈ ((cfg0.win 8).blk t).view.set := ((cfg0.win 8).blk t).view.emb_mem_set i
  rwa [emb8] at h

theorem cut8 (t : Fin cfg0.N) (G : Vec Ideal S2880x11520 .fp8e4m3) : (cfg0.win 8).cut (grid0.coords t) G = ((cfg0.win 8).blk t).view.read (Elt Ideal) G := by
  funext y
  exact congrArg G (emb8 t y).symm

include hW in
theorem final8 (c : Dev nD) : (dats m 0 c).arrAt 8 cfg0.N = codesV (n := 2880) (V m c main_arg1) := by
  generalize hG : codesV (n := 2880) (V m c main_arg1) = G
  refine (dats m 0 c).arrAt_eq_of_cover 8 G (fun t _ => ?_) cover8
  rw [Value.flushed8, iblk0, iblk1, iblk2, iblk3, out8 _ _ _ _ (hW c), hG]
  exact cut8 t G

theorem emb9 (t : Fin cfg0.N) (i : S2880x360.Idx) : (win0_9.rect t).emb i = i :=
  funext fun a => Fin.ext (Pipeline.Window.rect_emb_val_of_index_zero win0_9 t a rfl i)

theorem cover9 (i : S2880x360.Idx) : ∃ t : Fin cfg0.N, (cfg0.win 9).flush t = true ∧ i ∈ ((cfg0.win 9).blk t).view.set := by
  obtain ⟨t, _⟩ := pt
  refine ⟨t, flush0_9 _, ?_⟩
  have h : (win0_9.rect t).emb i ∈ ((cfg0.win 9).blk t).view.set := ((cfg0.win 9).blk t).view.emb_mem_set i
  rwa [emb9] at h

theorem cut9 (t : Fin cfg0.N) (G : Vec Ideal S2880x360 .f32) : (cfg0.win 9).cut (grid0.coords t) G = ((cfg0.win 9).blk t).view.read (Elt Ideal) G := by
  funext y
  exact congrArg G (emb9 t y).symm

include hW in
theorem final9 (c : Dev nD) : (dats m 0 c).arrAt 9 cfg0.N = scalesV (n := 2880) (V m c main_arg1) := by
  generalize hG : scalesV (n := 2880) (V m c main_arg1) = G
  refine (dats m 0 c).arrAt_eq_of_cover 9 G (fun t _ => ?_) cover9
  rw [Value.flushed9, iblk0, iblk1, iblk2, iblk3, out9 _ _ _ _ (hW c), hG]
  exact cut9 t G

include hX hW in
/-- The reference's run, its six results named. -/
theorem run : θ_run defs (onTc (τ := τ) (main (F := Ideal))) ⟨m, fun _ => 0, ρ⟩ fun r => ∀ c : Dev nD,
      r.2.mem ((c : Thread nD τ).loc main_v3_0) = dhA (V m c main_v0) (V m c main_arg1) (V m c main_v1) (V m c main_v2)
      ∧ r.2.mem ((c : Thread nD τ).loc main_v3_1) = dxV (V m c main_v0) (V m c main_arg1)
      ∧ r.2.mem ((c : Thread nD τ).loc main_v3_2) = codesV (n := 256) (V m c main_v0)
      ∧ r.2.mem ((c : Thread nD τ).loc main_v3_3) = scalesV (n := 256) (V m c main_v0)
      ∧ r.2.mem ((c : Thread nD τ).loc main_v3_4) = codesV (n := 2880) (V m c main_arg1)
      ∧ r.2.mem ((c : Thread nD τ).loc main_v3_5) = scalesV (n := 2880) (V m c main_arg1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m hX hW c), (h c).2.1.trans (final5 m hX hW c),
    (h c).2.2.1.trans (final6 m hX c), (h c).2.2.2.1.trans (final7 m hX c), (h c).2.2.2.2.1.trans (final8 m hW c),
    (h c).2.2.2.2.2.1.trans (final9 m hW c), (h c).2.2.2.2.2.2⟩) (Value.run_blocks m ρ)

end Cert.ReferenceIdeal.Vals
-- ==== Proof.Pre.lean ====
/-
  What the precondition says: every entry of the two quantised arguments has a magnitude of at most `big`.
-/
module

public import proofs.«01_k».proof.Pre_finite
public import proofs.«01_k».proof.Proof.RefScale
public import Idealize.ShloMosaic.Lib.ReduceAll

@[expose] public section

set_option maxRecDepth 65536

noncomputable section

namespace Cert.Pre_finite

open Idealize.ShloMosaic RefRows Mx

theorem facts : Facts where
  bitsLt_bf16_f32 := by decide
  bcast_S_S1x256x11520 := by decide
  reducesTo_S1x256x11520_S_d0_1_2 := by decide
  h_S_ := by decide
  bcast_S_S2880x11520 := by decide
  reducesTo_S2880x11520_S_d0_1 := by decide

/-- The ordered comparison at one entry. -/
theorem le_of_cmp (x y : EReal) (h : FloatOps.cmpf (F := Ideal) (φ := .f32) .ole x y = 1#1) : x ≤ y := by
  by_contra hn
  have : (FloatOps.cmpf (F := Ideal) (φ := .f32) .ole x y : BitVec 1) = 0#1 := by
    show Ideal.cmp .ole x y = 0#1
    simp [Ideal.cmp, hn]
  rw [this] at h
  exact absurd h (by decide)

instance : Subsingleton S_.Idx := ⟨fun a b => funext fun i => i.elim0⟩

variable [Facts]

theorem bounds (a0 : FVec Ideal S1x256x11520 .bf16) (a1 : FVec Ideal S2880x11520 .bf16) (a2 : FVec Ideal S1x256x2880 .bf16)
    (a3 : FVec Ideal S2880 .f32) (h : fn (F := Ideal) a0 a1 a2 a3 = fun _ => 1#1) :
    (∀ i, mag (a0 i) ≤ big) ∧ ∀ i, mag (a1 i) ≤ big := by
  have h0 := congrFun h (fun i => i.elim0)
  unfold fn at h0
  obtain ⟨hx, hy⟩ := IntOp.andi_eq_one.1 h0
  constructor
  · intro i
    exact le_of_cmp _ _ (Host.reduce_andi_all _ _ _ _ _ hx i)
  · intro i
    exact le_of_cmp _ _ (Host.reduce_andi_all _ _ _ _ _ hy i)

end Cert.Pre_finite
-- ==== Proof.Algebraic.lean ====
/-
  The kernel and the reference end with the same six results, for the arguments the precondition admits.
-/
module

public import proofs.«01_k».proof.Defs
public import proofs.«01_k».proof.Proof.KerRun
public import proofs.«01_k».proof.Proof.RefRun
public import proofs.«01_k».proof.Proof.Pre

@[expose] public section

set_option maxRecDepth 65536

noncomputable section

namespace Cert.Algebraic

open Idealize.ShloMosaic Idealize.ShloMosaic.TcCoe Idealize.SL.Sem RefRows Mx

section Args

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Equal arguments reach the two regions as equal arrays. -/
theorem eq0 (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Gen.V m' c Cert.ReferenceIdeal.main_v0 = Cert.KernelIdeal.Gen.V m c Cert.KernelIdeal.main_v0 := by
  refine (Cert.ReferenceIdeal.Vals.V_v0 m' c).trans (Eq.trans ?_ (Cert.KernelIdeal.Vals.V_v0 m c).symm)
  rw [h]
theorem eq1 (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Gen.V m' c Cert.ReferenceIdeal.main_arg1 = Cert.KernelIdeal.Gen.V m c Cert.KernelIdeal.main_arg1 :=
  (Cert.ReferenceIdeal.Gen.V_main_arg1 m' c).trans (h.trans (Cert.KernelIdeal.Gen.V_main_arg1 m c).symm)
theorem eq2 (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Gen.V m' c Cert.ReferenceIdeal.main_v1 = Cert.KernelIdeal.Gen.V m c Cert.KernelIdeal.main_v1 := by
  refine (Cert.ReferenceIdeal.Vals.V_v1 m' c).trans (Eq.trans ?_ (Cert.KernelIdeal.Vals.V_v1 m c).symm)
  rw [h]
theorem eq3 (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Gen.V m' c Cert.ReferenceIdeal.main_v2 = Cert.KernelIdeal.Gen.V m c Cert.KernelIdeal.main_v2 := by
  refine (Cert.ReferenceIdeal.Vals.V_v2 m' c).trans (Eq.trans ?_ (Cert.KernelIdeal.Vals.V_v2 m c).symm)
  rw [h]

end Args

theorem holds : Cert.algebraic_KernelIdeal_ReferenceIdeal_pre_finite (hPre_finite := Cert.Pre_finite.facts) := by
  intro m g m' g' hpre hargs
  have hb := fun c => (@Cert.Pre_finite.bounds Cert.Pre_finite.facts _ _ _ _ (hpre c))
  have e0 := fun c => eq0 m m' c (hargs c).1
  have e1 := fun c => eq1 m m' c (hargs c).2.1
  have e2 := fun c => eq2 m m' c (hargs c).2.2.1
  have e3 := fun c => eq3 m m' c (hargs c).2.2.2
  have hX : ∀ c i, mag (Cert.ReferenceIdeal.Gen.V m' c Cert.ReferenceIdeal.main_v0 i) ≤ big := fun c i => by
    rw [Cert.ReferenceIdeal.Vals.V_v0, (hargs c).1]
    exact (hb c).1 _
  have hW : ∀ c i, mag (Cert.ReferenceIdeal.Gen.V m' c Cert.ReferenceIdeal.main_arg1 i) ≤ big := fun c i => by
    rw [e1 c, Cert.KernelIdeal.Gen.V_main_arg1]
    exact (hb c).2 i
  refine ⟨_, _, _, _, _, _, Cert.KernelIdeal.Vals.run m g, ?_⟩
  refine (θ_run _ _ _).mono (fun r h c => ?_) (Cert.ReferenceIdeal.Vals.run m' g' hX hW)
  obtain ⟨h0, h1, h2, h3, h4, h5, ha⟩ := h c
  rw [e0 c, e1 c, e2 c, e3 c] at h0
  rw [e0 c, e1 c] at h1
  rw [e0 c] at h2 h3
  rw [e1 c] at h4 h5
  exact ⟨h0, h1, h2, h3, h4, h5, ha⟩

end Cert.Algebraic
-- ==== Proof.lean ====
/-
  The proof of the claim. The frames of the kernel, at bits and at the ideal numbers, are `Body.frame`'s: every
  execution ends, with the arguments as they were and every counter at zero. That the kernel and the reference end
  with the same six results at the ideal numbers is `Algebraic.holds`.
-/
module

public import proofs.«01_k».proof.Defs
public import proofs.«01_k».proof.Proof.Frames
public import proofs.«01_k».proof.Proof.FramesK
public import proofs.«01_k».proof.Proof.Algebraic
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.facts,
    fun m ρ _ => Cert.Kernel.Body.frame m ρ, fun m ρ _ => Cert.KernelIdeal.Body.frame m ρ, fun m ρ _ => Cert.KernelIdeal.Body.frame m ρ,
    fun m ρ _ => Cert.ReferenceIdeal.Gen.frame m ρ, fun m ρ _ => Cert.ReferenceIdeal.Gen.frame m ρ, trivial, Cert.Algebraic.holds⟩

end Cert.Proof

end
